-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)) (v7 : (c : Dev Cert.Kernel2Ideal.nD) → Buf (Elt Ideal) ((c.tc : Thread Cert.Kernel2Ideal.nD Cert.Kernel2Ideal.τ).loc Cert.Kernel2Ideal.main_v14)) (v8 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_v14) = v7 c
          ∧ r.2.mem ((c.tc : Thread Cert.Kernel2Ideal.nD Cert.Kernel2Ideal.τ).loc Cert.Kernel2Ideal.main_v16) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v101) = v1 c
          ∧ r.2.mem ((c.tc : Thread Cert.Reference2Ideal.nD Cert.Reference2Ideal.τ).loc Cert.Reference2Ideal.main_v104) = v2 c
          ∧ r.2.mem ((c.tc : Thread Cert.Reference2Ideal.nD Cert.Reference2Ideal.τ).loc Cert.Reference2Ideal.main_v107) = v3 c
          ∧ r.2.mem ((c.tc : Thread Cert.Reference2Ideal.nD Cert.Reference2Ideal.τ).loc Cert.Reference2Ideal.main_v110) = v4 c
          ∧ r.2.mem ((c.tc : Thread Cert.Reference2Ideal.nD Cert.Reference2Ideal.τ).loc Cert.Reference2Ideal.main_v113) = v5 c
          ∧ r.2.mem ((c.tc : Thread Cert.Reference2Ideal.nD Cert.Reference2Ideal.τ).loc Cert.Reference2Ideal.main_v116) = v6 c
          ∧ r.2.mem ((c.tc : Thread Cert.Reference2Ideal.nD Cert.Reference2Ideal.τ).loc Cert.Reference2Ideal.main_v94) = v7 c
          ∧ r.2.mem ((c.tc : Thread Cert.Reference2Ideal.nD Cert.Reference2Ideal.τ).loc Cert.Reference2Ideal.main_v95) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v184) = v0 c
          ∧ r.2.mem ((c.tc : Thread Cert.Reference3Ideal.nD Cert.Reference3Ideal.τ).loc Cert.Reference3Ideal.main_v185) = v1 c
          ∧ r.2.mem ((c.tc : Thread Cert.Reference3Ideal.nD Cert.Reference3Ideal.τ).loc Cert.Reference3Ideal.main_v187) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S12288x512 : Shape := ⟨2, ![12288, 512]⟩
abbrev S8x1x512x8x64 : Shape := ⟨5, ![8, 1, 512, 8, 64]⟩
abbrev S1x8x15x31 : Shape := ⟨4, ![1, 8, 15, 31]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S8x1x512x8x64 : S_.BroadcastsInDim S8x1x512x8x64 (![] : Fin 0 → Fin S8x1x512x8x64.rank)
  reducesTo_S8x1x512x8x64_S_d0_1_2_3_4 : S8x1x512x8x64.ReducesTo [0, 1, 2, 3, 4] S_
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn_part1 {F : FTy → Type} [FloatOps F] (main_v13 : IVec S_ 1) (main_v16 : IVec S1x8x15x31 1) : IVec S_ 1 :=
  let main_c_5 : IVec S_ 1 := constantI S_ 1 1#1
  let main_v17 : IVec S_ 1 := (fun x v => Host.reduce IntOp.andi x v reducesTo_S1x8x15x31_S_d0_1_2_3 h_S_) main_v16 main_c_5
  let main_v18 : IVec S_ 1 := andi main_v13 main_v17
  main_v18

def fn {F : FTy → Type} [FloatOps F] (main_arg0 : FVec F S12288x512 .f32) (main_arg1 : FVec F S12288x512 .f32) (main_arg2 : FVec F S12288x512 .f32) (main_arg3 : FVec F S8x1x512x8x64 .f32) (main_arg4 : FVec F S8x1x512x8x64 .f32) (main_arg5 : FVec F S1x8x15x31 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x512 .f32 := Host.absf main_arg1
  let main_cst_0 : FVec F S_ .f32 := constant S_ .f32 0x7F800000#32
  let main_v5 : FVec F S12288x512 .f32 := broadcastInDim S12288x512 ![] bcast_S_S12288x512 main_cst_0
  let main_v6 : IVec S12288x512 1 := cmpf .olt main_v4 main_v5
  let main_c_1 : IVec S_ 1 := constantI S_ 1 1#1
  let main_v7 : IVec S_ 1 := (fun x v => Host.reduce IntOp.andi x v reducesTo_S12288x512_S_d0_1 h_S_) main_v6 main_c_1
  let main_v8 : IVec S_ 1 := andi main_v3 main_v7
  let main_v9 : FVec F S8x1x512x8x64 .f32 := Host.absf main_arg3
  let main_cst_2 : FVec F S_ .f32 := constant S_ .f32 0x7F800000#32
  let main_v10 : FVec F S8x1x512x8x64 .f32 := broadcastInDim S8x1x512x8x64 ![] bcast_S_S8x1x512x8x64 main_cst_2
  let main_v11 : IVec S8x1x512x8x64 1 := cmpf .olt main_v9 main_v10
  let main_c_3 : IVec S_ 1 := constantI S_ 1 1#1
  let main_v12 : IVec S_ 1 := (fun x v => Host.reduce IntOp.andi x v reducesTo_S8x1x512x8x64_S_d0_1_2_3_4 h_S_) main_v11 main_c_3
  let main_v13 : IVec S_ 1 := andi main_v8 main_v12
  let main_v14 : FVec F S1x8x15x31 .f32 := Host.absf main_arg5
  let main_cst_4 : FVec F S_ .f32 := constant S_ .f32 0x7F800000#32
  let main_v15 : FVec F S1x8x15x31 .f32 := broadcastInDim S1x8x15x31 ![] bcast_S_S1x8x15x31 main_cst_4
  let main_v16 : IVec S1x8x15x31 1 := cmpf .olt main_v14 main_v15
  fn_part1 (F := F) main_v13 main_v16
-- ==== Kernel.lean ====
abbrev S12288x512 : Shape := ⟨2, ![12288, 512]⟩
abbrev S8x1x512x8x64 : Shape := ⟨5, ![8, 1, 512, 8, 64]⟩
abbrev S1x8x15x31 : Shape := ⟨4, ![1, 8, 15, 31]⟩
abbrev S_ : Shape := ⟨0, ![]⟩
abbrev S8x512x8x64 : Shape := ⟨4, ![8, 512, 8, 64]⟩
abbrev S8x512x512 : Shape := ⟨3, ![8, 512, 512]⟩
abbrev S8x15x31 : Shape := ⟨3, ![8, 15, 31]⟩
abbrev S64x64 : Shape := ⟨2, ![64, 64]⟩
abbrev S31x64x64 : Shape := ⟨3, ![31, 64, 64]⟩
abbrev S1x64x64 : Shape := ⟨3, ![1, 64, 64]⟩
abbrev S8x15x64x64 : Shape := ⟨4, ![8, 15, 64, 64]⟩
abbrev S1x1x64x64 : Shape := ⟨4, ![1, 1, 64, 64]⟩
abbrev S8192x512 : Shape := ⟨2, ![8192, 512]⟩
abbrev S256x512 : Shape := ⟨2, ![256, 512]⟩
abbrev S1024x512 : Shape := ⟨2, ![1024, 512]⟩
abbrev S1x512x512 : Shape := ⟨3, ![1, 512, 512]⟩
abbrev S8x256x768 : Shape := ⟨3, ![8, 256, 768]⟩
abbrev S768x128 : Shape := ⟨2, ![768, 128]⟩
abbrev S1x512x128 : Shape := ⟨3, ![1, 512, 128]⟩
abbrev S512x128 : Shape := ⟨2, ![512, 128]⟩
abbrev S256x128 : Shape := ⟨2, ![256, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 59
  | .vmem => 14
  | .smem => 0
  | _ => 0

abbrev bufTy : (tb : Table) → Fin (tcTables nBuf tb) → BufTy
  | .hbm, ⟨0, _⟩ => ⟨S12288x512, .f32⟩
  | .hbm, ⟨1, _⟩ => ⟨S12288x512, .f32⟩
  | .hbm, ⟨2, _⟩ => ⟨S12288x512, .f32⟩
  | .hbm, ⟨3, _⟩ => ⟨S8x1x512x8x64, .f32⟩
  | .hbm, ⟨4, _⟩ => ⟨S8x1x512x8x64, .f32⟩
  | .hbm, ⟨5, _⟩ => ⟨S1x8x15x31, .f32⟩
  | .hbm, ⟨6, _⟩ => ⟨S_, .f32⟩
  | .hbm, ⟨7, _⟩ => ⟨S12288x512, .f32⟩
  | .hbm, ⟨8, _⟩ => ⟨S12288x512, .f32⟩
  | .hbm, ⟨9, _⟩ => ⟨S12288x512, .bf16⟩
  | .hbm, ⟨10, _⟩ => ⟨S8x512x8x64, .f32⟩
  | .hbm, ⟨11, _⟩ => ⟨S8x512x512, .f32⟩
  | .hbm, ⟨12, _⟩ => ⟨S8x512x8x64, .f32⟩
  | .hbm, ⟨13, _⟩ => ⟨S8x512x512, .f32⟩
  | .hbm, ⟨14, _⟩ => ⟨S8x15x31, .f32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .i1⟩
  | .hbm, ⟨34, _⟩ => ⟨S64x64, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S31x64x64, .i32⟩
  | .hbm, ⟨47, _⟩ => ⟨S1x64x64, .i32⟩
  | .hbm, ⟨48, _⟩ => ⟨S31x64x64, .i32⟩
  | .hbm, ⟨49, _⟩ => ⟨S31x64x64, .i1⟩
  | .hbm, ⟨50, _⟩ => ⟨S31x64x64, .f32⟩
  | .hbm, ⟨51, _⟩ => ⟨S8x15x64x64, .f32⟩
  | .hbm, ⟨52, _⟩ => ⟨S1x1x64x64, .i1⟩
  | .hbm, ⟨53, _⟩ => ⟨S_, .f32⟩
  | .hbm, ⟨54, _⟩ => ⟨S_, .f32⟩
  | .hbm, ⟨55, _⟩ => ⟨S8x15x64x64, .i1⟩
  | .hbm, ⟨56, _⟩ => ⟨S8x15x64x64, .f32⟩
  | .hbm, ⟨57, _⟩ => ⟨S8x15x64x64, .f32⟩
  | .hbm, ⟨58, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S8x15x64x64, .f32⟩
  | .local _ .vmem, ⟨11, _⟩ => ⟨S256x512, .bf16⟩
  | .local _ .vmem, ⟨12, _⟩ => ⟨S256x512, .bf16⟩
  | .local _ .vmem, ⟨13, _⟩ => ⟨S8x256x768, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v29 : Ref sig .tc := ⟨.hbm, 57, rfl⟩
abbrev main_v30 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_2 : BitVec 32 := 0#32
  let v4 : BitVec 1 := Scalar.cmpi .eq arg1 c0_i32_2
  let v5 : BitVec 32 := Scalar.extui v4
  let c0_i32_3 : BitVec 32 := 0#32
  let v6 : BitVec 1 := Scalar.cmpi .ne v5 c0_i32_3
  v6

def k0_off1 (i : grid0.Coords) (c0_i32_159 : BitVec 32) (c0_i32_156 : BitVec 32) : Fin 4 → Nat :=
  let c0_162 : Index := 0#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v383 : Index := Scalar.indexCast v382
  let c0_163 : Index := 0#32
  let c0_164 : Index := 0#32
  ![0, v383.toNat, 0, 0]
def k0_off2 (i : grid0.Coords) (c0_i32_159 : BitVec 32) (c0_i32_156 : BitVec 32) : Fin 4 → Nat :=
  let c1_169 : Index := 1#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v391 : Index := Scalar.indexCast v382
  let c0_170 : Index := 0#32
  let c0_171 : Index := 0#32
  ![1, v391.toNat, 0, 0]
def k0_off3 (i : grid0.Coords) (c0_i32_159 : BitVec 32) (c0_i32_156 : BitVec 32) : Fin 4 → Nat :=
  let c2_176 : Index := 2#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v399 : Index := Scalar.indexCast v382
  let c0_177 : Index := 0#32
  let c0_178 : Index := 0#32
  ![2, v399.toNat, 0, 0]
def k0_off4 (i : grid0.Coords) (c0_i32_159 : BitVec 32) (c0_i32_156 : BitVec 32) : Fin 4 → Nat :=
  let c3_183 : Index := 3#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v407 : Index := Scalar.indexCast v382
  let c0_184 : Index := 0#32
  let c0_185 : Index := 0#32
  ![3, v407.toNat, 0, 0]
def k0_off5 (i : grid0.Coords) (c0_i32_159 : BitVec 32) (c0_i32_156 : BitVec 32) : Fin 4 → Nat :=
  let c4_190 : Index := 4#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v415 : Index := Scalar.indexCast v382
  let c0_191 : Index := 0#32
  let c0_192 : Index := 0#32
  ![4, v415.toNat, 0, 0]
def k0_off6 (i : grid0.Coords) (c0_i32_159 : BitVec 32) (c0_i32_156 : BitVec 32) : Fin 4 → Nat :=
  let c5_197 : Index := 5#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v423 : Index := Scalar.indexCast v382
  let c0_198 : Index := 0#32
  let c0_199 : Index := 0#32
  ![5, v423.toNat, 0, 0]
def k0_off7 (i : grid0.Coords) (c0_i32_159 : BitVec 32) (c0_i32_156 : BitVec 32) : Fin 4 → Nat :=
  let c6_204 : Index := 6#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v431 : Index := Scalar.indexCast v382
  let c0_205 : Index := 0#32
  let c0_206 : Index := 0#32
  ![6, v431.toNat, 0, 0]
def k0_off8 (i : grid0.Coords) (c0_i32_159 : BitVec 32) (c0_i32_156 : BitVec 32) : Fin 4 → Nat :=
  let c7_211 : Index := 7#32
  let c14_i32 : BitVec 32 := 14#32
  let c0_i32_161 : BitVec 32 := 0#32
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let v374 : BitVec 32 := Scalar.addi v3 c0_i32_159
  let c4_i32_155 : BitVec 32 := 4#32
  let v369 : BitVec 32 := Scalar.muli arg0 c4_i32_155
  let v370 : BitVec 32 := Scalar.addi v369 c0_i32_156
  let v379 : BitVec 32 := Scalar.subi v374 v370
  let c7_i32 : BitVec 32 := 7#32
  let v380 : BitVec 32 := Scalar.addi v379 c7_i32
  let v381 : BitVec 32 := Scalar.maxsi c0_i32_161 v380
  let v382 : BitVec 32 := Scalar.minsi c14_i32 v381
  let v439 : Index := Scalar.indexCast v382
  let c0_212 : Index := 0#32
  let c0_213 : Index := 0#32
  ![7, v439.toNat, 0, 0]
def k0_mult1 (i : grid0.Coords) : BitVec 32 :=
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let c64_i32 : BitVec 32 := 64#32
  let v7 : BitVec 32 := Scalar.muli v3 c64_i32
  v7
def k0_off9 (i : grid0.Coords) : Fin 2 → Nat :=
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let c64_i32 : BitVec 32 := 64#32
  let v7 : BitVec 32 := Scalar.muli v3 c64_i32
  let v8 : BitVec 32 := v7
  let v9 : Index := Scalar.indexCast v8
  let c0 : Index := 0#32
  ![v9.toNat, 0]
def k0_off10 (i : grid0.Coords) : Fin 2 → Nat :=
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let c64_i32 : BitVec 32 := 64#32
  let v7 : BitVec 32 := Scalar.muli v3 c64_i32
  let v8 : BitVec 32 := v7
  let v99 : Index := Scalar.indexCast v8
  let c128 : Index := 128#32
  ![v99.toNat, 128]
def k0_off11 (i : grid0.Coords) : Fin 2 → Nat :=
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let c64_i32 : BitVec 32 := 64#32
  let v7 : BitVec 32 := Scalar.muli v3 c64_i32
  let v8 : BitVec 32 := v7
  let v189 : Index := Scalar.indexCast v8
  let c256 : Index := 256#32
  ![v189.toNat, 256]
def k0_off12 (i : grid0.Coords) : Fin 2 → Nat :=
  let c4_i32_1 : BitVec 32 := 4#32
  let c0_i32 : BitVec 32 := 0#32
  let arg0 : BitVec 32 := BitVec.ofNat 32 (i 0).val
  let c4_i32 : BitVec 32 := 4#32
  let v0 : BitVec 32 := Scalar.muli arg0 c4_i32
  let c4_i32_0 : BitVec 32 := 4#32
  let v1 : BitVec 32 := Scalar.subi v0 c4_i32_0
  let v2 : BitVec 32 := Scalar.maxsi c0_i32 v1
  let v3 : BitVec 32 := Scalar.minsi c4_i32_1 v2
  let c64_i32 : BitVec 32 := 64#32
  let v7 : BitVec 32 := Scalar.muli v3 c64_i32
  let v8 : BitVec 32 := v7
  let v279 : Index := Scalar.indexCast v8
  let c384 : Index := 384#32
  ![v279.toNat, 384]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c16_i32 : BitVec 32 := 16#32
  let v1 : BitVec 32 := Scalar.addi c16_i32 v0
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x15x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12288x512 : Shape := ⟨2, ![12288, 512]⟩
abbrev S8x1x512x8x64 : Shape := ⟨5, ![8, 1, 512, 8, 64]⟩
abbrev S1x8x15x31 : Shape := ⟨4, ![1, 8, 15, 31]⟩
abbrev S16x1x1x8x1 : Shape := ⟨5, ![16, 1, 1, 8, 1]⟩
abbrev S1x4x16x1x32 : Shape := ⟨5, ![1, 4, 16, 1, 32]⟩
abbrev S4x16x32 : Shape := ⟨3, ![4, 16, 32]⟩
abbrev S16x8 : Shape := ⟨2, ![16, 8]⟩
abbrev S4x32 : Shape := ⟨2, ![4, 32]⟩
abbrev S8192x512 : Shape := ⟨2, ![8192, 512]⟩
abbrev S8x1024x8x64 : Shape := ⟨4, ![8, 1024, 8, 64]⟩
abbrev S8x512x8x64 : Shape := ⟨4, ![8, 512, 8, 64]⟩
abbrev S8x15x31 : Shape := ⟨3, ![8, 15, 31]⟩
abbrev S_ : Shape := ⟨0, ![]⟩
abbrev S16x4x16x8x32 : Shape := ⟨5, ![16, 4, 16, 8, 32]⟩
abbrev S16x4x16x8x32x1 : Shape := ⟨6, ![16, 4, 16, 8, 32, 1]⟩
abbrev S16x4x16x8x32x2 : Shape := ⟨6, ![16, 4, 16, 8, 32, 2]⟩
abbrev S8x16x4x16x8x32 : Shape := ⟨6, ![8, 16, 4, 16, 8, 32]⟩
abbrev S1x1x4x16x1x32 : Shape := ⟨6, ![1, 1, 4, 16, 1, 32]⟩
abbrev S8x16x4x16x8x64 : Shape := ⟨6, ![8, 16, 4, 16, 8, 64]⟩
abbrev S8x16x64x8x64 : Shape := ⟨5, ![8, 16, 64, 8, 64]⟩
abbrev S16x8x1 : Shape := ⟨3, ![16, 8, 1]⟩
abbrev S8x16x8x64x8x64 : Shape := ⟨6, ![8, 16, 8, 64, 8, 64]⟩
abbrev S4x32x1 : Shape := ⟨3, ![4, 32, 1]⟩
abbrev S8x16x8x4x32x8x64 : Shape := ⟨7, ![8, 16, 8, 4, 32, 8, 64]⟩
abbrev S8x8x16x4x16x8x32 : Shape := ⟨7, ![8, 8, 16, 4, 16, 8, 32]⟩
abbrev S1x8x16x4x16x8x32 : Shape := ⟨7, ![1, 8, 16, 4, 16, 8, 32]⟩
abbrev S8x8x16x4x16x512 : Shape := ⟨6, ![8, 8, 16, 4, 16, 512]⟩
abbrev S8x8x16x4x16x256 : Shape := ⟨6, ![8, 8, 16, 4, 16, 256]⟩
abbrev S8x8x16x4x16x768 : Shape := ⟨6, ![8, 8, 16, 4, 16, 768]⟩
abbrev S8x8x16x4x16 : Shape := ⟨5, ![8, 8, 16, 4, 16]⟩
abbrev S8x8x16x4x16x1 : Shape := ⟨6, ![8, 8, 16, 4, 16, 1]⟩
abbrev S8x16x4x8x64x16 : Shape := ⟨6, ![8, 16, 4, 8, 64, 16]⟩
abbrev S8x8x64x16x4x16 : Shape := ⟨6, ![8, 8, 64, 16, 4, 16]⟩

abbrev nBuf : Space → Nat
  | .hbm => 111
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x512, .f32⟩
  | .hbm, ⟨2, _⟩ => ⟨S12288x512, .f32⟩
  | .hbm, ⟨3, _⟩ => ⟨S8x1x512x8x64, .f32⟩
  | .hbm, ⟨4, _⟩ => ⟨S8x1x512x8x64, .f32⟩
  | .hbm, ⟨5, _⟩ => ⟨S1x8x15x31, .f32⟩
  | .hbm, ⟨6, _⟩ => ⟨S16x1x1x8x1, .i32⟩
  | .hbm, ⟨7, _⟩ => ⟨S16x1x1x8x1, .i1⟩
  | .hbm, ⟨8, _⟩ => ⟨S1x4x16x1x32, .i32⟩
  | .hbm, ⟨9, _⟩ => ⟨S1x4x16x1x32, .i1⟩
  | .hbm, ⟨10, _⟩ => ⟨S4x16x32, .i1⟩
  | .hbm, ⟨11, _⟩ => ⟨S16x8, .i32⟩
  | .hbm, ⟨12, _⟩ => ⟨S16x8, .i1⟩
  | .hbm, ⟨13, _⟩ => ⟨S4x32, .i32⟩
  | .hbm, ⟨14, _⟩ => ⟨S4x32, .i1⟩
  | .hbm, ⟨15, _⟩ => ⟨S16x8, .i1⟩
  | .hbm, ⟨16, _⟩ => ⟨S4x32, .i1⟩
  | .hbm, ⟨17, _⟩ => ⟨S8192x512, .f32⟩
  | .hbm, ⟨18, _⟩ => ⟨S8x1024x8x64, .f32⟩
  | .hbm, ⟨19, _⟩ => ⟨S8192x512, .f32⟩
  | .hbm, ⟨20, _⟩ => ⟨S8x1024x8x64, .f32⟩
  | .hbm, ⟨21, _⟩ => ⟨S8192x512, .f32⟩
  | .hbm, ⟨22, _⟩ => ⟨S8x1024x8x64, .f32⟩
  | .hbm, ⟨23, _⟩ => ⟨S8x512x8x64, .f32⟩
  | .hbm, ⟨24, _⟩ => ⟨S8x512x8x64, .f32⟩
  | .hbm, ⟨25, _⟩ => ⟨S8x15x31, .f32⟩
  | .hbm, ⟨26, _⟩ => ⟨S_, .i32⟩
  | .hbm, ⟨27, _⟩ => ⟨S16x1x1x8x1, .i32⟩
  | .hbm, ⟨28, _⟩ => ⟨S16x1x1x8x1, .i32⟩
  | .hbm, ⟨29, _⟩ => ⟨S16x1x1x8x1, .i32⟩
  | .hbm, ⟨30, _⟩ => ⟨S_, .i32⟩
  | .hbm, ⟨31, _⟩ => ⟨S1x4x16x1x32, .i32⟩
  | .hbm, ⟨32, _⟩ => ⟨S1x4x16x1x32, .i32⟩
  | .hbm, ⟨33, _⟩ => ⟨S1x4x16x1x32, .i32⟩
  | .hbm, ⟨34, _⟩ => ⟨S16x4x16x8x32, .i32⟩
  | .hbm, ⟨35, _⟩ => ⟨S16x4x16x8x32, .i32⟩
  | .hbm, ⟨36, _⟩ => ⟨S16x4x16x8x32x1, .i32⟩
  | .hbm, ⟨37, _⟩ => ⟨S16x4x16x8x32x1, .i32⟩
  | .hbm, ⟨38, _⟩ => ⟨S16x4x16x8x32x2, .i32⟩
  | .hbm, ⟨39, _⟩ => ⟨S8x16x4x16x8x32, .f32⟩
  | .hbm, ⟨40, _⟩ => ⟨S1x1x4x16x1x32, .i1⟩
  | .hbm, ⟨41, _⟩ => ⟨S_, .f32⟩
  | .hbm, ⟨42, _⟩ => ⟨S_, .f32⟩
  | .hbm, ⟨43, _⟩ => ⟨S8x16x4x16x8x32, .i1⟩
  | .hbm, ⟨44, _⟩ => ⟨S8x16x4x16x8x32, .f32⟩
  | .hbm, ⟨45, _⟩ => ⟨S8x16x4x16x8x32, .f32⟩
  | .hbm, ⟨46, _⟩ => ⟨S8x16x4x16x8x64, .f32⟩
  | .hbm, ⟨47, _⟩ => ⟨S8x16x64x8x64, .f32⟩
  | .hbm, ⟨48, _⟩ => ⟨S8x16x64x8x64, .f32⟩
  | .hbm, ⟨49, _⟩ => ⟨S_, .i32⟩
  | .hbm, ⟨50, _⟩ => ⟨S16x8, .i32⟩
  | .hbm, ⟨51, _⟩ => ⟨S16x8, .i32⟩
  | .hbm, ⟨52, _⟩ => ⟨S16x8, .i32⟩
  | .hbm, ⟨53, _⟩ => ⟨S16x8x1, .i32⟩
  | .hbm, ⟨54, _⟩ => ⟨S8x16x8x64x8x64, .f32⟩
  | .hbm, ⟨55, _⟩ => ⟨S_, .i32⟩
  | .hbm, ⟨56, _⟩ => ⟨S4x32, .i32⟩
  | .hbm, ⟨57, _⟩ => ⟨S4x32, .i32⟩
  | .hbm, ⟨58, _⟩ => ⟨S4x32, .i32⟩
  | .hbm, ⟨59, _⟩ => ⟨S4x32x1, .i32⟩
  | .hbm, ⟨60, _⟩ => ⟨S8x16x8x4x32x8x64, .f32⟩
  | .hbm, ⟨61, _⟩ => ⟨S_, .i32⟩
  | .hbm, ⟨62, _⟩ => ⟨S16x8, .i32⟩
  | .hbm, ⟨63, _⟩ => ⟨S16x8, .i32⟩
  | .hbm, ⟨64, _⟩ => ⟨S16x8, .i32⟩
  | .hbm, ⟨65, _⟩ => ⟨S16x8x1, .i32⟩
  | .hbm, ⟨66, _⟩ => ⟨S8x16x8x64x8x64, .f32⟩
  | .hbm, ⟨67, _⟩ => ⟨S_, .i32⟩
  | .hbm, ⟨68, _⟩ => ⟨S4x32, .i32⟩
  | .hbm, ⟨69, _⟩ => ⟨S4x32, .i32⟩
  | .hbm, ⟨70, _⟩ => ⟨S4x32, .i32⟩
  | .hbm, ⟨71, _⟩ => ⟨S4x32x1, .i32⟩
  | .hbm, ⟨72, _⟩ => ⟨S8x16x8x4x32x8x64, .f32⟩
  | .hbm, ⟨73, _⟩ => ⟨S8x8x16x4x16x8x32, .f32⟩
  | .hbm, ⟨74, _⟩ => ⟨S_, .f32⟩
  | .hbm, ⟨75, _⟩ => ⟨S8x8x16x4x16x8x32, .f32⟩
  | .hbm, ⟨76, _⟩ => ⟨S8x8x16x4x16x8x32, .f32⟩
  | .hbm, ⟨77, _⟩ => ⟨S1x8x16x4x16x8x32, .f32⟩
  | .hbm, ⟨78, _⟩ => ⟨S8x8x16x4x16x8x32, .f32⟩
  | .hbm, ⟨79, _⟩ => ⟨S8x8x16x4x16x8x32, .f32⟩
  | .hbm, ⟨80, _⟩ => ⟨S8x8x16x4x16x512, .f32⟩
  | .hbm, ⟨81, _⟩ => ⟨S_, .f32⟩
  | .hbm, ⟨82, _⟩ => ⟨S8x8x16x4x16x512, .f32⟩
  | .hbm, ⟨83, _⟩ => ⟨S8x8x16x4x16x512, .f32⟩
  | .hbm, ⟨84, _⟩ => ⟨S8x8x16x4x16x256, .f32⟩
  | .hbm, ⟨85, _⟩ => ⟨S8x8x16x4x16x768, .f32⟩
  | .hbm, ⟨86, _⟩ => ⟨S_, .f32⟩
  | .hbm, ⟨87, _⟩ => ⟨S8x8x16x4x16, .f32⟩
  | .hbm, ⟨88, _⟩ => ⟨S_, .f32⟩
  | .hbm, ⟨89, _⟩ => ⟨S8x8x16x4x16, .f32⟩
  | .hbm, ⟨90, _⟩ => ⟨S8x8x16x4x16, .f32⟩
  | .hbm, ⟨91, _⟩ => ⟨S8x8x16x4x16x1, .f32⟩
  | .hbm, ⟨92, _⟩ => ⟨S8x8x16x4x16x768, .f32⟩
  | .hbm, ⟨93, _⟩ => ⟨S8x8x16x4x16x768, .f32⟩
  | .hbm, ⟨94, _⟩ => ⟨S8x8x16x4x16x768, .f32⟩
  | .hbm, ⟨95, _⟩ => ⟨S_, .f32⟩
  | .hbm, ⟨96, _⟩ => ⟨S8x8x16x4x16, .f32⟩
  | .hbm, ⟨97, _⟩ => ⟨S8x8x16x4x16x1, .f32⟩
  | .hbm, ⟨98, _⟩ => ⟨S8x8x16x4x16x768, .f32⟩
  | .hbm, ⟨99, _⟩ => ⟨S8x8x16x4x16x768, .f32⟩
  | .hbm, ⟨100, _⟩ => ⟨S8x8x16x4x16x256, .f32⟩
  | .hbm, ⟨101, _⟩ => ⟨S8x8x16x4x16x8x32, .f32⟩
  | .hbm, ⟨102, _⟩ => ⟨S8x8x16x4x16x512, .f32⟩
  | .hbm, ⟨103, _⟩ => ⟨S8x16x4x8x64x16, .f32⟩
  | .hbm, ⟨104, _⟩ => ⟨S8x16x4x16x8x64, .f32⟩
  | .hbm, ⟨105, _⟩ => ⟨S8x8x64x16x4x16, .f32⟩
  | .hbm, ⟨106, _⟩ => ⟨S8x16x4x16x8x64, .f32⟩
  | .hbm, ⟨107, _⟩ => ⟨S8x16x4x16x8x64, .f32⟩
  | .hbm, ⟨108, _⟩ => ⟨S8x1024x8x64, .f32⟩
  | .hbm, ⟨109, _⟩ => ⟨S8192x512, .f32⟩
  | .hbm, ⟨110, _⟩ => ⟨S8192x512, .bf16⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_c_8 : Ref sig .tc := ⟨.hbm, 15, rfl⟩
abbrev main_c_9 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_10 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_12 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_13 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_14 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_15 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_cst_19 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Kernel2.lean ====
abbrev S16x256x1024 : Shape := ⟨3, ![16, 256, 1024]⟩
abbrev S8x1024x1024 : Shape := ⟨3, ![8, 1024, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024x5120 : Shape := ⟨3, ![1, 1024, 5120]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩
abbrev S16x1x6144 : Shape := ⟨3, ![16, 1, 6144]⟩
abbrev S1024x5120 : Shape := ⟨2, ![1024, 5120]⟩
abbrev S12288x512 : Shape := ⟨2, ![12288, 512]⟩
abbrev S12288x1024 : Shape := ⟨2, ![12288, 1024]⟩
abbrev S256x1024 : Shape := ⟨2, ![256, 1024]⟩
abbrev S1x1x6144 : Shape := ⟨3, ![1, 1, 6144]⟩
abbrev S256x512 : Shape := ⟨2, ![256, 512]⟩
abbrev S1x1x1024 : Shape := ⟨3, ![1, 1, 1024]⟩
abbrev S1024x512 : Shape := ⟨2, ![1024, 512]⟩
abbrev S1024x1024 : Shape := ⟨2, ![1024, 1024]⟩
abbrev S4096x512 : Shape := ⟨2, ![4096, 512]⟩
abbrev S16x1x256x8x64 : Shape := ⟨5, ![16, 1, 256, 8, 64]⟩

abbrev nBuf : Space → Nat
  | .hbm => 31
  | .vmem => 28
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S8x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024x5120, .f32⟩
  | .hbm, ⟨7, _⟩ => ⟨S4096x1024, .f32⟩
  | .hbm, ⟨8, _⟩ => ⟨S8192x1024, .f32⟩
  | .hbm, ⟨9, _⟩ => ⟨S1x1024, .f32⟩
  | .hbm, ⟨10, _⟩ => ⟨S_, .f32⟩
  | .hbm, ⟨11, _⟩ => ⟨S7x1024, .f32⟩
  | .hbm, ⟨12, _⟩ => ⟨S16x1024, .f32⟩
  | .hbm, ⟨13, _⟩ => ⟨S1024x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x1x6144, .f32⟩
  | .hbm, ⟨18, _⟩ => ⟨S1024x5120, .f32⟩
  | .hbm, ⟨19, _⟩ => ⟨S1024x5120, .bf16⟩
  | .hbm, ⟨20, _⟩ => ⟨S12288x512, .f32⟩
  | .hbm, ⟨21, _⟩ => ⟨S12288x512, .f32⟩
  | .hbm, ⟨22, _⟩ => ⟨S12288x512, .bf16⟩
  | .hbm, ⟨23, _⟩ => ⟨S12288x512, .f32⟩
  | .hbm, ⟨24, _⟩ => ⟨S12288x512, .f32⟩
  | .hbm, ⟨25, _⟩ => ⟨S12288x1024, .f32⟩
  | .hbm, ⟨26, _⟩ => ⟨S12288x1024, .f32⟩
  | .hbm, ⟨27, _⟩ => ⟨S4096x512, .f32⟩
  | .hbm, ⟨28, _⟩ => ⟨S16x1x256x8x64, .f32⟩
  | .hbm, ⟨29, _⟩ => ⟨S4096x512, .f32⟩
  | .hbm, ⟨30, _⟩ => ⟨S16x1x256x8x64, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1x6144, .f32⟩
  | .local _ .vmem, ⟨12, _⟩ => ⟨S1x1x6144, .f32⟩
  | .local _ .vmem, ⟨13, _⟩ => ⟨S1024x5120, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x6144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x5120 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference2Ideal.lean ====
abbrev S16x256x1024 : Shape := ⟨3, ![16, 256, 1024]⟩
abbrev S8x1024x1024 : Shape := ⟨3, ![8, 1024, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024x5120 : Shape := ⟨3, ![1, 1024, 5120]⟩
abbrev S1x1024 : Shape := ⟨2, ![1, 1024]⟩
abbrev S1024x6144 : Shape := ⟨2, ![1024, 6144]⟩
abbrev S6144 : Shape := ⟨1, ![6144]⟩
abbrev S1024x5120 : Shape := ⟨2, ![1024, 5120]⟩
abbrev S_ : Shape := ⟨0, ![]⟩
abbrev S1x1x6144 : Shape := ⟨3, ![1, 1, 6144]⟩
abbrev S1x1x1024 : Shape := ⟨3, ![1, 1, 1024]⟩
abbrev S16x256x5120 : Shape := ⟨3, ![16, 256, 5120]⟩
abbrev S16x256x512 : Shape := ⟨3, ![16, 256, 512]⟩
abbrev S8x6144 : Shape := ⟨2, ![8, 6144]⟩
abbrev S8x1x6144 : Shape := ⟨3, ![8, 1, 6144]⟩
abbrev S8x1x1024 : Shape := ⟨3, ![8, 1, 1024]⟩
abbrev S8x1024x5120 : Shape := ⟨3, ![8, 1024, 5120]⟩
abbrev S8x1024x512 : Shape := ⟨3, ![8, 1024, 512]⟩
abbrev S16x256x8x64 : Shape := ⟨4, ![16, 256, 8, 64]⟩
abbrev S16x1x256x8x64 : Shape := ⟨5, ![16, 1, 256, 8, 64]⟩
abbrev S4096x512 : Shape := ⟨2, ![4096, 512]⟩
abbrev S8192x512 : Shape := ⟨2, ![8192, 512]⟩
abbrev S12288x512 : Shape := ⟨2, ![12288, 512]⟩
abbrev S4096x1024 : Shape := ⟨2, ![4096, 1024]⟩
abbrev S8192x1024 : Shape := ⟨2, ![8192, 1024]⟩
abbrev S12288x1024 : Shape := ⟨2, ![12288, 1024]⟩

abbrev nBuf : Space → Nat
  | .hbm => 152
  | .vmem => 0
  | .smem => 0
  | _ => 0

abbrev hbmTy0_0 (i : Nat) : BufTy := match i % 128 with
  | 0 => ⟨S16x256x1024, .f32⟩
  | 1 => ⟨S8x1024x1024, .f32⟩
  | 2 => ⟨S8x1024, .f32⟩
  | 3 => ⟨S1024, .f32⟩
  | 4 => ⟨S1x1024x6144, .f32⟩
  | 5 => ⟨S1x6144, .f32⟩
  | 6 => ⟨S1x1024x5120, .f32⟩
  | 7 => ⟨S1x1024, .f32⟩
  | 8 => ⟨S1024x6144, .f32⟩
  | 9 => ⟨S6144, .f32⟩
  | 10 => ⟨S1024x5120, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S1x6144, .f32⟩
  | 21 => ⟨S1x6144, .f32⟩
  | 22 => ⟨S1x6144, .f32⟩
  | 23 => ⟨S1x1x6144, .f32⟩
  | 24 => ⟨S1x1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S_, .f32⟩
  | 31 => ⟨S1x1x1024, .f32⟩
  | 32 => ⟨S1x1x1024, .f32⟩
  | 33 => ⟨S16x256x1024, .f32⟩
  | 34 => ⟨S16x256x1024, .f32⟩
  | 35 => ⟨S16x256x1024, .f32⟩
  | 36 => ⟨S16x256x1024, .f32⟩
  | 37 => ⟨S16x256x5120, .f32⟩
  | 38 => ⟨S16x256x512, .f32⟩
  | 39 => ⟨S16x256x512, .f32⟩
  | 40 => ⟨S16x256x512, .f32⟩
  | 41 => ⟨S16x256x512, .f32⟩
  | 42 => ⟨S16x256x512, .f32⟩
  | 43 => ⟨S16x256x512, .f32⟩
  | 44 => ⟨S16x256x1024, .f32⟩
  | 45 => ⟨S16x256x1024, .f32⟩
  | 46 => ⟨S_, .f32⟩
  | 47 => ⟨S16x256x512, .f32⟩
  | 48 => ⟨S16x256x512, .f32⟩
  | 49 => ⟨S16x256x512, .f32⟩
  | 50 => ⟨S16x256x512, .bf16⟩
  | 51 => ⟨S16x256x1024, .f32⟩
  | 52 => ⟨S16x256x1024, .f32⟩
  | 53 => ⟨S_, .f32⟩
  | 54 => ⟨S16x256x1024, .f32⟩
  | 55 => ⟨S16x256x1024, .f32⟩
  | 56 => ⟨S_, .f32⟩
  | 57 => ⟨S16x256x1024, .f32⟩
  | 58 => ⟨S16x256x1024, .f32⟩
  | 59 => ⟨S16x256x1024, .f32⟩
  | 60 => ⟨S16x256x1024, .f32⟩
  | 61 => ⟨S_, .f32⟩
  | 62 => ⟨S16x256x1024, .f32⟩
  | 63 => ⟨S16x256x1024, .f32⟩
  | 64 => ⟨S_, .f32⟩
  | 65 => ⟨S16x256x1024, .f32⟩
  | 66 => ⟨S16x256x1024, .f32⟩
  | 67 => ⟨S1024x6144, .f32⟩
  | 68 => ⟨S6144, .f32⟩
  | 69 => ⟨S1024x5120, .f32⟩
  | 70 => ⟨S8x1024, .f32⟩
  | 71 => ⟨S8x1024, .f32⟩
  | 72 => ⟨S_, .f32⟩
  | 73 => ⟨S8x1024, .f32⟩
  | 74 => ⟨S8x1024, .f32⟩
  | 75 => ⟨S_, .f32⟩
  | 76 => ⟨S8x1024, .f32⟩
  | 77 => ⟨S8x1024, .f32⟩
  | 78 => ⟨S8x1024, .f32⟩
  | 79 => ⟨S8x6144, .f32⟩
  | 80 => ⟨S1x6144, .f32⟩
  | 81 => ⟨S8x6144, .f32⟩
  | 82 => ⟨S8x6144, .f32⟩
  | 83 => ⟨S8x1x6144, .f32⟩
  | 84 => ⟨S8x1x1024, .f32⟩
  | 85 => ⟨S8x1x1024, .f32⟩
  | 86 => ⟨S8x1x1024, .f32⟩
  | 87 => ⟨S8x1x1024, .f32⟩
  | 88 => ⟨S8x1x1024, .f32⟩
  | 89 => ⟨S8x1x1024, .f32⟩
  | 90 => ⟨S_, .f32⟩
  | 91 => ⟨S8x1x1024, .f32⟩
  | 92 => ⟨S8x1x1024, .f32⟩
  | 93 => ⟨S8x1024x1024, .f32⟩
  | 94 => ⟨S8x1024x1024, .f32⟩
  | 95 => ⟨S8x1024x1024, .f32⟩
  | 96 => ⟨S8x1024x1024, .f32⟩
  | 97 => ⟨S8x1024x5120, .f32⟩
  | 98 => ⟨S8x1024x512, .f32⟩
  | 99 => ⟨S8x1024x512, .f32⟩
  | 100 => ⟨S8x1024x512, .f32⟩
  | 101 => ⟨S8x1024x512, .f32⟩
  | 102 => ⟨S8x1024x512, .f32⟩
  | 103 => ⟨S8x1024x512, .f32⟩
  | 104 => ⟨S8x1024x1024, .f32⟩
  | 105 => ⟨S8x1024x1024, .f32⟩
  | 106 => ⟨S_, .f32⟩
  | 107 => ⟨S8x1024x512, .f32⟩
  | 108 => ⟨S8x1024x512, .f32⟩
  | 109 => ⟨S8x1024x512, .f32⟩
  | 110 => ⟨S8x1024x512, .bf16⟩
  | 111 => ⟨S8x1024x1024, .f32⟩
  | 112 => ⟨S8x1024x1024, .f32⟩
  | 113 => ⟨S_, .f32⟩
  | 114 => ⟨S8x1024x1024, .f32⟩
  | 115 => ⟨S8x1024x1024, .f32⟩
  | 116 => ⟨S_, .f32⟩
  | 117 => ⟨S8x1024x1024, .f32⟩
  | 118 => ⟨S8x1024x1024, .f32⟩
  | 119 => ⟨S8x1024x1024, .f32⟩
  | 120 => ⟨S8x1024x1024, .f32⟩
  | 121 => ⟨S_, .f32⟩
  | 122 => ⟨S8x1024x1024, .f32⟩
  | 123 => ⟨S8x1024x1024, .f32⟩
  | 124 => ⟨S_, .f32⟩
  | 125 => ⟨S8x1024x1024, .f32⟩
  | 126 => ⟨S8x1024x1024, .f32⟩
  | 127 => ⟨S16x256x8x64, .f32⟩
  | _ => ⟨S16x256x1024, .f32⟩

abbrev hbmTy0_1 (i : Nat) : BufTy := match i % 128 with
  | 0 => ⟨S16x256x8x64, .f32⟩
  | 1 => ⟨S16x1x256x8x64, .f32⟩
  | 2 => ⟨S16x1x256x8x64, .f32⟩
  | 3 => ⟨S4096x512, .f32⟩
  | 4 => ⟨S8192x512, .f32⟩
  | 5 => ⟨S12288x512, .f32⟩
  | 6 => ⟨S4096x512, .f32⟩
  | 7 => ⟨S8192x512, .f32⟩
  | 8 => ⟨S12288x512, .f32⟩
  | 9 => ⟨S4096x512, .bf16⟩
  | 10 => ⟨S8192x512, .bf16⟩
  | 11 => ⟨S12288x512, .bf16⟩
  | 12 => ⟨S4096x512, .f32⟩
  | 13 => ⟨S8192x512, .f32⟩
  | 14 => ⟨S12288x512, .f32⟩
  | 15 => ⟨S4096x512, .f32⟩
  | 16 => ⟨S8192x512, .f32⟩
  | 17 => ⟨S12288x512, .f32⟩
  | 18 => ⟨S4096x1024, .f32⟩
  | 19 => ⟨S8192x1024, .f32⟩
  | 20 => ⟨S12288x1024, .f32⟩
  | 21 => ⟨S4096x1024, .f32⟩
  | 22 => ⟨S8192x1024, .f32⟩
  | 23 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_7 : Ref sig .tc := ⟨.hbm, 113, rfl⟩
abbrev main_v82 : Ref sig .tc := ⟨.hbm, 114, rfl⟩
abbrev main_v83 : Ref sig .tc := ⟨.hbm, 115, rfl⟩
abbrev main_cst_8 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_9 : Ref sig .tc := ⟨.hbm, 121, rfl⟩
abbrev main_v88 : Ref sig .tc := ⟨.hbm, 122, rfl⟩
abbrev main_v89 : Ref sig .tc := ⟨.hbm, 123, rfl⟩
abbrev main_cst_10 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩

abbrev nD : Nat := 1
abbrev τ : Topo := Topo.v7x

variable {F : FTy → Type} [FloatOps F]
-- ==== Kernel3.lean ====
abbrev S16x256x1024 : Shape := ⟨3, ![16, 256, 1024]⟩
abbrev S8x1024x1024 : Shape := ⟨3, ![8, 1024, 1024]⟩
abbrev S16x6144 : Shape := ⟨2, ![16, 6144]⟩
abbrev S12288x512 : Shape := ⟨2, ![12288, 512]⟩
abbrev S4096x512 : Shape := ⟨2, ![4096, 512]⟩
abbrev S8192x512 : Shape := ⟨2, ![8192, 512]⟩
abbrev S12288x1024 : Shape := ⟨2, ![12288, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S4096x1024 : Shape := ⟨2, ![4096, 1024]⟩
abbrev S8192x1024 : Shape := ⟨2, ![8192, 1024]⟩
abbrev S16x1x6144 : Shape := ⟨3, ![16, 1, 6144]⟩
abbrev S1024x2048 : Shape := ⟨2, ![1024, 2048]⟩
abbrev S2048x1024 : Shape := ⟨2, ![2048, 1024]⟩
abbrev S8x2x128x128 : Shape := ⟨4, ![8, 2, 128, 128]⟩
abbrev S16x128x128 : Shape := ⟨3, ![16, 128, 128]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S2048x12288 : Shape := ⟨2, ![2048, 12288]⟩
abbrev S256x1024 : Shape := ⟨2, ![256, 1024]⟩
abbrev S1x1x6144 : Shape := ⟨3, ![1, 1, 6144]⟩
abbrev S256x512 : Shape := ⟨2, ![256, 512]⟩
abbrev S8x512 : Shape := ⟨2, ![8, 512]⟩
abbrev S2048x256 : Shape := ⟨2, ![2048, 256]⟩
abbrev S1x512 : Shape := ⟨2, ![1, 512]⟩
abbrev S1x1x1024 : Shape := ⟨3, ![1, 1, 1024]⟩
abbrev S256 : Shape := ⟨1, ![256]⟩
abbrev S256x1 : Shape := ⟨2, ![256, 1]⟩
abbrev S128x256 : Shape := ⟨2, ![128, 256]⟩
abbrev S1x128x128 : Shape := ⟨3, ![1, 128, 128]⟩
abbrev S128x128 : Shape := ⟨2, ![128, 128]⟩

abbrev nBuf : Space → Nat
  | .hbm => 40
  | .vmem => 36
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x6144, .f32⟩
  | .hbm, ⟨3, _⟩ => ⟨S12288x512, .f32⟩
  | .hbm, ⟨4, _⟩ => ⟨S12288x512, .f32⟩
  | .hbm, ⟨5, _⟩ => ⟨S4096x512, .bf16⟩
  | .hbm, ⟨6, _⟩ => ⟨S8192x512, .bf16⟩
  | .hbm, ⟨7, _⟩ => ⟨S12288x1024, .f32⟩
  | .hbm, ⟨8, _⟩ => ⟨S12288x1024, .f32⟩
  | .hbm, ⟨9, _⟩ => ⟨S1x3x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S1x1024x2048, .f32⟩
  | .hbm, ⟨16, _⟩ => ⟨S1x8x2x128x128, .f32⟩
  | .hbm, ⟨17, _⟩ => ⟨S4096x1024, .f32⟩
  | .hbm, ⟨18, _⟩ => ⟨S8192x1024, .f32⟩
  | .hbm, ⟨19, _⟩ => ⟨S16x1x6144, .f32⟩
  | .hbm, ⟨20, _⟩ => ⟨S1024x2048, .f32⟩
  | .hbm, ⟨21, _⟩ => ⟨S2048x1024, .f32⟩
  | .hbm, ⟨22, _⟩ => ⟨S2048x1024, .bf16⟩
  | .hbm, ⟨23, _⟩ => ⟨S8x2x128x128, .f32⟩
  | .hbm, ⟨24, _⟩ => ⟨S16x128x128, .f32⟩
  | .hbm, ⟨25, _⟩ => ⟨S16x128x128, .bf16⟩
  | .hbm, ⟨26, _⟩ => ⟨S3x512, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S12288x1024, .f32⟩
  | .hbm, ⟨38, _⟩ => ⟨S12288x1024, .bf16⟩
  | .hbm, ⟨39, _⟩ => ⟨S2048x12288, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6144, .f32⟩
  | .local _ .vmem, ⟨5, _⟩ => ⟨S1x1x6144, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S3x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S2048x1024, .bf16⟩
  | .local _ .vmem, ⟨29, _⟩ => ⟨S16x128x128, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S2048x256, .f32⟩
  | .local _ .vmem, ⟨35, _⟩ => ⟨S2048x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1535_i32 : BitVec 32 := 1535#32
  let v2 : BitVec 32 := Scalar.minsi v1 c1535_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S16x256x1024 : Shape := ⟨3, ![16, 256, 1024]⟩
abbrev S8x1024x1024 : Shape := ⟨3, ![8, 1024, 1024]⟩
abbrev S16x6144 : Shape := ⟨2, ![16, 6144]⟩
abbrev S12288x512 : Shape := ⟨2, ![12288, 512]⟩
abbrev S4096x512 : Shape := ⟨2, ![4096, 512]⟩
abbrev S8192x512 : Shape := ⟨2, ![8192, 512]⟩
abbrev S12288x1024 : Shape := ⟨2, ![12288, 1024]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S1x6144 : Shape := ⟨2, ![1, 6144]⟩
abbrev S4096x1024 : Shape := ⟨2, ![4096, 1024]⟩
abbrev S16x256x512 : Shape := ⟨3, ![16, 256, 512]⟩
abbrev S1x1x6144 : Shape := ⟨3, ![1, 1, 6144]⟩
abbrev S1x1x1024 : Shape := ⟨3, ![1, 1, 1024]⟩
abbrev S_ : Shape := ⟨0, ![]⟩
abbrev S16x258x512 : Shape := ⟨3, ![16, 258, 512]⟩
abbrev S1x512 : Shape := ⟨2, ![1, 512]⟩
abbrev S512 : Shape := ⟨1, ![512]⟩
abbrev S1x1x512 : Shape := ⟨3, ![1, 1, 512]⟩
abbrev S16x256 : Shape := ⟨2, ![16, 256]⟩
abbrev S16x256x1 : Shape := ⟨3, ![16, 256, 1]⟩
abbrev S4096x2048 : Shape := ⟨2, ![4096, 2048]⟩
abbrev S4096x8x2x128 : Shape := ⟨4, ![4096, 8, 2, 128]⟩
abbrev S8x2x128x4096 : Shape := ⟨4, ![8, 2, 128, 4096]⟩
abbrev S8x6144 : Shape := ⟨2, ![8, 6144]⟩
abbrev S8192x1024 : Shape := ⟨2, ![8192, 1024]⟩
abbrev S8x1024x512 : Shape := ⟨3, ![8, 1024, 512]⟩
abbrev S8x1x6144 : Shape := ⟨3, ![8, 1, 6144]⟩
abbrev S8x1x1024 : Shape := ⟨3, ![8, 1, 1024]⟩
abbrev S8x1026x512 : Shape := ⟨3, ![8, 1026, 512]⟩
abbrev S8x1024 : Shape := ⟨2, ![8, 1024]⟩
abbrev S8x1024x1 : Shape := ⟨3, ![8, 1024, 1]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S12288x2048 : Shape := ⟨2, ![12288, 2048]⟩
abbrev S2048x12288 : Shape := ⟨2, ![2048, 12288]⟩

abbrev nBuf : Space → Nat
  | .hbm => 223
  | .vmem => 0
  | .smem => 0
  | _ => 0

abbrev hbmTy0_0 (i : Nat) : BufTy := match i % 128 with
  | 0 => ⟨S16x256x1024, .f32⟩
  | 1 => ⟨S8x1024x1024, .f32⟩
  | 2 => ⟨S16x6144, .f32⟩
  | 3 => ⟨S12288x512, .f32⟩
  | 4 => ⟨S12288x512, .f32⟩
  | 5 => ⟨S4096x512, .bf16⟩
  | 6 => ⟨S8192x512, .bf16⟩
  | 7 => ⟨S12288x1024, .f32⟩
  | 8 => ⟨S12288x1024, .f32⟩
  | 9 => ⟨S1x3x512, .f32⟩
  | 10 => ⟨S1x512x1024, .f32⟩
  | 11 => ⟨S1x512x1024, .f32⟩
  | 12 => ⟨S1x1024x1024, .f32⟩
  | 13 => ⟨S1x1024, .f32⟩
  | 14 => ⟨S1x1024, .f32⟩
  | 15 => ⟨S1x1024x2048, .f32⟩
  | 16 => ⟨S1x8x2x128x128, .f32⟩
  | 17 => ⟨S3x512, .f32⟩
  | 18 => ⟨S512x1024, .f32⟩
  | 19 => ⟨S512x1024, .f32⟩
  | 20 => ⟨S1024x1024, .f32⟩
  | 21 => ⟨S1024, .f32⟩
  | 22 => ⟨S1024, .f32⟩
  | 23 => ⟨S1024x2048, .f32⟩
  | 24 => ⟨S8x2x128x128, .f32⟩
  | 25 => ⟨S1x6144, .f32⟩
  | 26 => ⟨S4096x512, .f32⟩
  | 27 => ⟨S4096x512, .f32⟩
  | 28 => ⟨S4096x1024, .f32⟩
  | 29 => ⟨S4096x1024, .f32⟩
  | 30 => ⟨S16x256x512, .f32⟩
  | 31 => ⟨S16x256x512, .f32⟩
  | 32 => ⟨S16x256x512, .bf16⟩
  | 33 => ⟨S16x256x1024, .f32⟩
  | 34 => ⟨S16x256x1024, .f32⟩
  | 35 => ⟨S1x1x6144, .f32⟩
  | 36 => ⟨S1x1x1024, .f32⟩
  | 37 => ⟨S1x1x1024, .f32⟩
  | 38 => ⟨S1x1x1024, .f32⟩
  | 39 => ⟨S1x1x1024, .f32⟩
  | 40 => ⟨S1x1x1024, .f32⟩
  | 41 => ⟨S1x1x1024, .f32⟩
  | 42 => ⟨S_, .i32⟩
  | 43 => ⟨S_, .f32⟩
  | 44 => ⟨S16x258x512, .f32⟩
  | 45 => ⟨S1x512, .f32⟩
  | 46 => ⟨S512, .f32⟩
  | 47 => ⟨S16x256x512, .f32⟩
  | 48 => ⟨S1x1x512, .f32⟩
  | 49 => ⟨S16x256x512, .f32⟩
  | 50 => ⟨S16x256x512, .f32⟩
  | 51 => ⟨S1x512, .f32⟩
  | 52 => ⟨S512, .f32⟩
  | 53 => ⟨S16x256x512, .f32⟩
  | 54 => ⟨S1x1x512, .f32⟩
  | 55 => ⟨S16x256x512, .f32⟩
  | 56 => ⟨S16x256x512, .f32⟩
  | 57 => ⟨S16x256x512, .f32⟩
  | 58 => ⟨S1x512, .f32⟩
  | 59 => ⟨S512, .f32⟩
  | 60 => ⟨S16x256x512, .f32⟩
  | 61 => ⟨S1x1x512, .f32⟩
  | 62 => ⟨S16x256x512, .f32⟩
  | 63 => ⟨S16x256x512, .f32⟩
  | 64 => ⟨S16x256x512, .f32⟩
  | 65 => ⟨S16x256x512, .f32⟩
  | 66 => ⟨S16x256x1024, .f32⟩
  | 67 => ⟨S16x256x1024, .f32⟩
  | 68 => ⟨S16x256x1024, .f32⟩
  | 69 => ⟨S16x256x1024, .f32⟩
  | 70 => ⟨S16x256x1024, .f32⟩
  | 71 => ⟨S_, .f32⟩
  | 72 => ⟨S16x256x1024, .f32⟩
  | 73 => ⟨S16x256x1024, .f32⟩
  | 74 => ⟨S16x256x1024, .f32⟩
  | 75 => ⟨S16x256x1024, .f32⟩
  | 76 => ⟨S16x256x1024, .f32⟩
  | 77 => ⟨S16x256x1024, .f32⟩
  | 78 => ⟨S_, .f32⟩
  | 79 => ⟨S16x256, .f32⟩
  | 80 => ⟨S16x256x1, .f32⟩
  | 81 => ⟨S_, .f32⟩
  | 82 => ⟨S16x256x1, .f32⟩
  | 83 => ⟨S16x256x1, .f32⟩
  | 84 => ⟨S16x256x1024, .f32⟩
  | 85 => ⟨S16x256x1024, .f32⟩
  | 86 => ⟨S16x256x1024, .f32⟩
  | 87 => ⟨S_, .f32⟩
  | 88 => ⟨S16x256, .f32⟩
  | 89 => ⟨S16x256x1, .f32⟩
  | 90 => ⟨S_, .f32⟩
  | 91 => ⟨S16x256x1, .f32⟩
  | 92 => ⟨S16x256x1, .f32⟩
  | 93 => ⟨S16x256x1024, .f32⟩
  | 94 => ⟨S16x256x1024, .f32⟩
  | 95 => ⟨S_, .f32⟩
  | 96 => ⟨S16x256x1, .f32⟩
  | 97 => ⟨S16x256x1, .f32⟩
  | 98 => ⟨S16x256x1, .f32⟩
  | 99 => ⟨S16x256x1024, .f32⟩
  | 100 => ⟨S16x256x1024, .f32⟩
  | 101 => ⟨S1x1x1024, .f32⟩
  | 102 => ⟨S16x256x1024, .f32⟩
  | 103 => ⟨S16x256x1024, .f32⟩
  | 104 => ⟨S1x1x1024, .f32⟩
  | 105 => ⟨S16x256x1024, .f32⟩
  | 106 => ⟨S16x256x1024, .f32⟩
  | 107 => ⟨S_, .f32⟩
  | 108 => ⟨S1x1x1024, .f32⟩
  | 109 => ⟨S1x1x1024, .f32⟩
  | 110 => ⟨S16x256x1024, .f32⟩
  | 111 => ⟨S16x256x1024, .f32⟩
  | 112 => ⟨S16x256x1024, .f32⟩
  | 113 => ⟨S16x256x1024, .f32⟩
  | 114 => ⟨S4096x1024, .f32⟩
  | 115 => ⟨S4096x2048, .f32⟩
  | 116 => ⟨S4096x8x2x128, .f32⟩
  | 117 => ⟨S8x2x128x4096, .f32⟩
  | 118 => ⟨S4096x8x2x128, .f32⟩
  | 119 => ⟨S4096x1024, .f32⟩
  | 120 => ⟨S4096x1024, .bf16⟩
  | 121 => ⟨S4096x2048, .f32⟩
  | 122 => ⟨S8x6144, .f32⟩
  | 123 => ⟨S8192x512, .f32⟩
  | 124 => ⟨S8192x512, .f32⟩
  | 125 => ⟨S8192x1024, .f32⟩
  | 126 => ⟨S8192x1024, .f32⟩
  | 127 => ⟨S8x1024x512, .f32⟩
  | _ => ⟨S16x256x1024, .f32⟩

abbrev hbmTy0_1 (i : Nat) : BufTy := match i % 128 with
  | 0 => ⟨S8x1024x512, .f32⟩
  | 1 => ⟨S8x1024x512, .bf16⟩
  | 2 => ⟨S8x1024x1024, .f32⟩
  | 3 => ⟨S8x1024x1024, .f32⟩
  | 4 => ⟨S8x1x6144, .f32⟩
  | 5 => ⟨S8x1x1024, .f32⟩
  | 6 => ⟨S8x1x1024, .f32⟩
  | 7 => ⟨S8x1x1024, .f32⟩
  | 8 => ⟨S8x1x1024, .f32⟩
  | 9 => ⟨S8x1x1024, .f32⟩
  | 10 => ⟨S8x1x1024, .f32⟩
  | 11 => ⟨S_, .i32⟩
  | 12 => ⟨S_, .f32⟩
  | 13 => ⟨S8x1026x512, .f32⟩
  | 14 => ⟨S1x512, .f32⟩
  | 15 => ⟨S512, .f32⟩
  | 16 => ⟨S8x1024x512, .f32⟩
  | 17 => ⟨S1x1x512, .f32⟩
  | 18 => ⟨S8x1024x512, .f32⟩
  | 19 => ⟨S8x1024x512, .f32⟩
  | 20 => ⟨S1x512, .f32⟩
  | 21 => ⟨S512, .f32⟩
  | 22 => ⟨S8x1024x512, .f32⟩
  | 23 => ⟨S1x1x512, .f32⟩
  | 24 => ⟨S8x1024x512, .f32⟩
  | 25 => ⟨S8x1024x512, .f32⟩
  | 26 => ⟨S8x1024x512, .f32⟩
  | 27 => ⟨S1x512, .f32⟩
  | 28 => ⟨S512, .f32⟩
  | 29 => ⟨S8x1024x512, .f32⟩
  | 30 => ⟨S1x1x512, .f32⟩
  | 31 => ⟨S8x1024x512, .f32⟩
  | 32 => ⟨S8x1024x512, .f32⟩
  | 33 => ⟨S8x1024x512, .f32⟩
  | 34 => ⟨S8x1024x512, .f32⟩
  | 35 => ⟨S8x1024x1024, .f32⟩
  | 36 => ⟨S8x1024x1024, .f32⟩
  | 37 => ⟨S8x1024x1024, .f32⟩
  | 38 => ⟨S8x1024x1024, .f32⟩
  | 39 => ⟨S8x1024x1024, .f32⟩
  | 40 => ⟨S_, .f32⟩
  | 41 => ⟨S8x1024x1024, .f32⟩
  | 42 => ⟨S8x1024x1024, .f32⟩
  | 43 => ⟨S8x1024x1024, .f32⟩
  | 44 => ⟨S8x1024x1024, .f32⟩
  | 45 => ⟨S8x1024x1024, .f32⟩
  | 46 => ⟨S8x1024x1024, .f32⟩
  | 47 => ⟨S_, .f32⟩
  | 48 => ⟨S8x1024, .f32⟩
  | 49 => ⟨S8x1024x1, .f32⟩
  | 50 => ⟨S_, .f32⟩
  | 51 => ⟨S8x1024x1, .f32⟩
  | 52 => ⟨S8x1024x1, .f32⟩
  | 53 => ⟨S8x1024x1024, .f32⟩
  | 54 => ⟨S8x1024x1024, .f32⟩
  | 55 => ⟨S8x1024x1024, .f32⟩
  | 56 => ⟨S_, .f32⟩
  | 57 => ⟨S8x1024, .f32⟩
  | 58 => ⟨S8x1024x1, .f32⟩
  | 59 => ⟨S_, .f32⟩
  | 60 => ⟨S8x1024x1, .f32⟩
  | 61 => ⟨S8x1024x1, .f32⟩
  | 62 => ⟨S8x1024x1024, .f32⟩
  | 63 => ⟨S8x1024x1024, .f32⟩
  | 64 => ⟨S_, .f32⟩
  | 65 => ⟨S8x1024x1, .f32⟩
  | 66 => ⟨S8x1024x1, .f32⟩
  | 67 => ⟨S8x1024x1, .f32⟩
  | 68 => ⟨S8x1024x1024, .f32⟩
  | 69 => ⟨S8x1024x1024, .f32⟩
  | 70 => ⟨S1x1x1024, .f32⟩
  | 71 => ⟨S8x1024x1024, .f32⟩
  | 72 => ⟨S8x1024x1024, .f32⟩
  | 73 => ⟨S1x1x1024, .f32⟩
  | 74 => ⟨S8x1024x1024, .f32⟩
  | 75 => ⟨S8x1024x1024, .f32⟩
  | 76 => ⟨S_, .f32⟩
  | 77 => ⟨S8x1x1024, .f32⟩
  | 78 => ⟨S8x1x1024, .f32⟩
  | 79 => ⟨S8x1024x1024, .f32⟩
  | 80 => ⟨S8x1024x1024, .f32⟩
  | 81 => ⟨S8x1024x1024, .f32⟩
  | 82 => ⟨S8x1024x1024, .f32⟩
  | 83 => ⟨S8192x1024, .f32⟩
  | 84 => ⟨S8192x2048, .f32⟩
  | 85 => ⟨S8192x8x2x128, .f32⟩
  | 86 => ⟨S8x2x128x8192, .f32⟩
  | 87 => ⟨S8192x8x2x128, .f32⟩
  | 88 => ⟨S8192x1024, .f32⟩
  | 89 => ⟨S8192x1024, .bf16⟩
  | 90 => ⟨S8192x2048, .f32⟩
  | 91 => ⟨S12288x1024, .f32⟩
  | 92 => ⟨S12288x1024, .bf16⟩
  | 93 => ⟨S12288x2048, .f32⟩
  | 94 => ⟨S2048x12288, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_0 : Ref sig .tc := ⟨.hbm, 78, rfl⟩
abbrev main_v58 : Ref sig .tc := ⟨.hbm, 79, rfl⟩
abbrev main_v59 : Ref sig .tc := ⟨.hbm, 80, rfl⟩
abbrev main_cst_1 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_2 : Ref sig .tc := ⟨.hbm, 87, rfl⟩
abbrev main_v65 : Ref sig .tc := ⟨.hbm, 88, rfl⟩
abbrev main_v66 : Ref sig .tc := ⟨.hbm, 89, rfl⟩
abbrev main_cst_3 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_4 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_5 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_6 : Ref sig .tc := ⟨.hbm, 139, rfl⟩
abbrev main_call1_v0 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_7 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_8 : Ref sig .tc := ⟨.hbm, 175, rfl⟩
abbrev main_v146 : Ref sig .tc := ⟨.hbm, 176, rfl⟩
abbrev main_v147 : Ref sig .tc := ⟨.hbm, 177, rfl⟩
abbrev main_cst_9 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_10 : Ref sig .tc := ⟨.hbm, 184, rfl⟩
abbrev main_v153 : Ref sig .tc := ⟨.hbm, 185, rfl⟩
abbrev main_v154 : Ref sig .tc := ⟨.hbm, 186, rfl⟩
abbrev main_cst_11 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_12 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_13 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩

abbrev nD : Nat := 1
abbrev τ : Topo := Topo.v7x

variable {F : FTy → Type} [FloatOps F]
-- ==== Proof.Proj.Run.lean ====
/- The run of the modulation and the input projection: both calls between their stretches of host operations, each result
   at what the last stretch leaves. -/
module

public import proofs.«01_k».proof.Proof.Gen.Kernel2Ideal.Frame
public import Idealize.ShloMosaic.PureOps.Ideal
public import Idealize.ShloMosaic.Lib.Tactic
public import Idealize.ShloMosaic.Lib.UnfoldOut

@[expose] public section

set_option maxRecDepth 16384

noncomputable section

namespace Cert.Proj.Ker

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends, with each result as the last boundary leaves it and each argument as launched. -/
theorem run : θ_run defs (onTc (τ := τ) (main (F := Ideal))) ⟨m, fun _ => 0, ρ⟩ (fun r => ∀ c : Dev nD,
      r.2.mem ((c.tc : Thread nD τ).loc main_v12_0) = W5 m ρ c (Proc.devRef .tc main_v12_0)
      ∧ r.2.mem ((c.tc : Thread nD τ).loc main_v12_1) = W5 m ρ c (Proc.devRef .tc main_v12_1)
      ∧ r.2.mem ((c.tc : Thread nD τ).loc main_v12_2) = W5 m ρ c (Proc.devRef .tc main_v12_2)
      ∧ r.2.mem ((c.tc : Thread nD τ).loc main_v12_3) = W5 m ρ c (Proc.devRef .tc main_v12_3)
      ∧ r.2.mem ((c.tc : Thread nD τ).loc main_v12_4) = W5 m ρ c (Proc.devRef .tc main_v12_4)
      ∧ r.2.mem ((c.tc : Thread nD τ).loc main_v12_5) = W5 m ρ c (Proc.devRef .tc main_v12_5)
      ∧ r.2.mem ((c.tc : Thread nD τ).loc main_v12_6) = W5 m ρ c (Proc.devRef .tc main_v12_6)
      ∧ r.2.mem ((c.tc : Thread nD τ).loc main_v14) = W5 m ρ c (Proc.devRef .tc main_v14)
      ∧ r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v12_0 (by decide)), h c _ (mem_uc main_v12_1 (by decide)), h c _ (mem_uc main_v12_2 (by decide)),
       h c _ (mem_uc main_v12_3 (by decide)), h c _ (mem_uc main_v12_4 (by decide)), h c _ (mem_uc main_v12_5 (by decide)),
       h c _ (mem_uc main_v12_6 (by decide)), h c _ (mem_uc main_v14 (by decide)), h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Proj.Ker

end
-- ==== Proof.Merge.Spec.lean ====
/- The merge of a token's two attentions and convolution, its first layer norm and its scores against the keys, as sums. -/
module

public import Idealize.ShloMosaic.PureOps.Ideal
public import Idealize.ShloMosaic.Lib.Pointwise

@[expose] public section

noncomputable section

namespace Cert.Merge

open Idealize.ShloMosaic

/-- The gated short convolution at one channel: the three taps over the row before, the row and the row after. -/
def convOf (bg c0 c1 c2 h0 h1 h2 : EReal) : EReal := bg * (c0 * h0 + c1 * h1 + c2 * h2)

/-- One column of the merge: the gated projections of the convolution and of the attention. -/
def mergedOf (gc gn : EReal) (yc yn wc wn : Fin 512 → EReal) : EReal := gc * ∑ k, yc k * wc k + gn * ∑ k, yn k * wn k

/-- One column of the residual: the scaled features plus the gated output projection of the merge. -/
def residOf (x ga : EReal) (mg wo : Fin 1024 → EReal) : EReal := Ideal.ofBits .f32 0x3F9837F0#32 * x + ga * ∑ e, mg e * wo e

/-- The mean of a row. -/
def meanOf (r : Fin 1024 → EReal) : EReal := Ideal.div (∑ e, r e) (Ideal.ofBits .f32 0x44800000#32)

/-- One column of the layer norm of a row. -/
def normOf (r : Fin 1024 → EReal) (g b : EReal) (d : Fin 1024) : EReal :=
  (r d - meanOf r) * Ideal.rsqrt (Ideal.div (∑ e, (r e - meanOf r) * (r e - meanOf r)) (Ideal.ofBits .f32 0x44800000#32)
    + Ideal.ofBits .f32 0x3727C5AC#32) * g + b

/-- A score: the query's channels, each a projection of the modulated features, against a key. -/
def scoreOf (u : Fin 1024 → EReal) (wq : Fin 1024 → Fin 128 → EReal) (sk : Fin 128 → EReal) : EReal :=
  ∑ e, (∑ d, u d * wq d e) * sk e

/-- Whether token `n` is the first of its sequence. -/
def first (n : Fin 12288) : Prop := n.val % 256 = 0 ∧ (n.val < 4096 ∨ n.val % 1024 = 0)
/-- Whether token `n` is the last of its sequence. -/
def last (n : Fin 12288) : Prop := n.val % 256 = 255 ∧ (n.val < 4096 ∨ n.val % 1024 = 1023)

instance (n : Fin 12288) : Decidable (first n) := by unfold first; infer_instance
instance (n : Fin 12288) : Decidable (last n) := by unfold last; infer_instance

/-- The row before token `n`'s in its sequence, zero where there is none. -/
def prevOf (h : Fin 12288 → EReal) (n : Fin 12288) : EReal := if first n then 0 else h ⟨n.val - 1, by omega⟩
/-- The row after token `n`'s in its sequence, zero where there is none. -/
def nextOf (h : Fin 12288 → EReal) (n : Fin 12288) : EReal :=
  if e : last n then 0 else h ⟨n.val + 1, by unfold last at e; omega⟩

/-- The modulation vector of token `n`. -/
def modRow (n : Fin 12288) : Fin 16 := if n.val < 4096 then 0 else ⟨1 + (n.val - 4096) / 1024, by omega⟩

/-- What the merge reads, token by token: features, modulation, convolution input and gate, attention, the two gates, and the weights. -/
structure Inputs where
  /-- The features of each token. -/
  x : Fin 12288 → Fin 1024 → EReal
  /-- The modulation vectors. -/
  md : Fin 16 → Fin 6144 → EReal
  /-- The convolution's input. -/
  h : Fin 12288 → Fin 512 → EReal
  /-- The convolution's gate. -/
  bg : Fin 12288 → Fin 512 → EReal
  /-- The attention's result. -/
  y : Fin 12288 → Fin 512 → EReal
  /-- The gate of the convolution's projection. -/
  gc : Fin 12288 → Fin 1024 → EReal
  /-- The gate of the attention's projection. -/
  gn : Fin 12288 → Fin 1024 → EReal
  /-- The convolution's taps. -/
  cw : Fin 3 → Fin 512 → EReal
  /-- The weights of the convolution's projection. -/
  wc : Fin 512 → Fin 1024 → EReal
  /-- The weights of the attention's projection. -/
  wn : Fin 512 → Fin 1024 → EReal
  /-- The weights of the output projection. -/
  wo : Fin 1024 → Fin 1024 → EReal
  /-- The layer norm's gain. -/
  g : Fin 1024 → EReal
  /-- The layer norm's bias. -/
  b : Fin 1024 → EReal
  /-- The weights of the queries. -/
  wq : Fin 1024 → Fin 2048 → EReal
  /-- The keys. -/
  sk : Fin 16 → Fin 128 → Fin 128 → EReal

namespace Inputs
variable (I : Inputs)

/-- The gated convolution of token `n`. -/
def conv (n : Fin 12288) (k : Fin 512) : EReal :=
  convOf (I.bg n k) (I.cw 0 k) (I.cw 1 k) (I.cw 2 k) (prevOf (fun n => I.h n k) n) (I.h n k) (nextOf (fun n => I.h n k) n)

/-- The merge of token `n`. -/
def merged (n : Fin 12288) (d : Fin 1024) : EReal :=
  mergedOf (I.gc n d) (I.gn n d) (I.conv n) (I.y n) (fun k => I.wc k d) (fun k => I.wn k d)

/-- The residual of token `n`. -/
def resid (n : Fin 12288) (d : Fin 1024) : EReal :=
  residOf (I.x n d) (I.md (modRow n) ⟨2048 + d.val, by omega⟩) (I.merged n) (fun e => I.wo e d)

/-- The normed features of token `n`. -/
def normed (n : Fin 12288) (d : Fin 1024) : EReal := normOf (I.resid n) (I.g d) (I.b d) d

/-- The modulated features of token `n`. -/
def modulated (n : Fin 12288) (d : Fin 1024) : EReal :=
  I.normed n d * (1 + I.md (modRow n) ⟨4096 + d.val, by omega⟩) + I.md (modRow n) ⟨3072 + d.val, by omega⟩

/-- The scores of token `n`: row `r` is one key of one group. -/
def score (r : Fin 2048) (n : Fin 12288) : EReal :=
  scoreOf (I.modulated n) (fun d e => I.wq d ⟨r.val / 128 * 128 + e.val, by omega⟩)
    (I.sk ⟨r.val / 128, by omega⟩ ⟨r.val % 128, Nat.mod_lt _ (by decide)⟩)

end Inputs

/-- What the merge reads, from the program's arguments. -/
def inputs (x0 : FVec Ideal ⟨3, ![16, 256, 1024]⟩ .f32) (x1 : FVec Ideal ⟨3, ![8, 1024, 1024]⟩ .f32) (x2 : FVec Ideal ⟨2, ![16, 6144]⟩ .f32)
    (x3 x4 : FVec Ideal ⟨2, ![12288, 512]⟩ .f32) (x5 : FVec Ideal ⟨2, ![4096, 512]⟩ .bf16) (x6 : FVec Ideal ⟨2, ![8192, 512]⟩ .bf16)
    (x7 x8 : FVec Ideal ⟨2, ![12288, 1024]⟩ .f32) (x9 : FVec Ideal ⟨3, ![1, 3, 512]⟩ .f32)
    (x10 x11 : FVec Ideal ⟨3, ![1, 512, 1024]⟩ .f32) (x12 : FVec Ideal ⟨3, ![1, 1024, 1024]⟩ .f32)
    (x13 x14 : FVec Ideal ⟨2, ![1, 1024]⟩ .f32) (x15 : FVec Ideal ⟨3, ![1, 1024, 2048]⟩ .f32)
    (x16 : FVec Ideal ⟨5, ![1, 8, 2, 128, 128]⟩ .f32) : Inputs where
  x n d := if h : n.val < 4096 then x0 (ix3 (⟨n.val / 256, by omega⟩ : Fin 16) (⟨n.val % 256, Nat.mod_lt _ (by decide)⟩ : Fin 256) d)
    else x1 (ix3 (⟨(n.val - 4096) / 1024, by omega⟩ : Fin 8) (⟨(n.val - 4096) % 1024, Nat.mod_lt _ (by decide)⟩ : Fin 1024) d)
  md r l := x2 (ix2 r l)
  h n k := x3 (ix2 n k)
  bg n k := x4 (ix2 n k)
  y n k := if h : n.val < 4096 then x5 (ix2 (⟨n.val, h⟩ : Fin 4096) k) else x6 (ix2 (⟨n.val - 4096, by omega⟩ : Fin 8192) k)
  gc n d := x7 (ix2 n d)
  gn n d := x8 (ix2 n d)
  cw i k := x9 (ix3 (0 : Fin 1) i k)
  wc k d := x10 (ix3 (0 : Fin 1) k d)
  wn k d := x11 (ix3 (0 : Fin 1) k d)
  wo e d := x12 (ix3 (0 : Fin 1) e d)
  g d := x13 (ix2 (0 : Fin 1) d)
  b d := x14 (ix2 (0 : Fin 1) d)
  wq d r := x15 (ix3 (0 : Fin 1) d r)
  sk g k e := x16 (ix5 (0 : Fin 1) (⟨g.val / 2, by omega⟩ : Fin 8) (⟨g.val % 2, Nat.mod_lt _ (by decide)⟩ : Fin 2) k e)

end Cert.Merge

end
-- ==== Proof.Merge.Block.lean ====
/- The merge's body: each output's block at a grid point, from the blocks it reads. -/
module

public import proofs.«01_k».proof.Proof.Gen.Kernel3Ideal.Frame
public import proofs.«01_k».proof.Proof.Gen.Kernel3Ideal.Value
public import proofs.«01_k».proof.Proof.Merge.Spec
public import Idealize.ShloMosaic.Lib.Tactic
public import Idealize.ShloMosaic.Lib.Pipeline.ValueKit
public import Idealize.ShloMosaic.Lib.Pointwise

@[expose] public section

set_option maxRecDepth 16384

noncomputable section

namespace Cert.Merge.Ker

open Cert.Kernel3Ideal Cert.Kernel3Ideal.Gen Idealize.ShloMosaic Idealize.ShloMosaic.TcCoe Cert.Merge

/-- Whether a grid point is in the context. -/
def early (a : BitVec 32) : BitVec 1 := Scalar.cmpi .slt a 16#32

theorem select_at {s : Shape} {φ : EltTy} (b : BitVec 1) (x y : Vec Ideal s φ) (j : s.Idx) :
    Scalar.select b x y j = Scalar.select b (x j) (y j) := by
  unfold Scalar.select
  split <;> rfl

/-- The phase of a latent grid point in its sequence of four. -/
def phase (a : BitVec 32) : BitVec 32 :=
  let four : BitVec 32 := Scalar.select (Scalar.cmpi .eq 4#32 0#32) 1#32 4#32
  let r : BitVec 32 := Scalar.remsi (Scalar.subi a 16#32) four
  Scalar.select (Scalar.andi (Scalar.xori (Scalar.cmpi .slt r 0#32) (Scalar.cmpi .slt four 0#32)) (Scalar.cmpi .ne r 0#32)) (Scalar.addi r four) r

/-- Whether a grid point opens a sequence. -/
def opens (a : BitVec 32) : BitVec 1 := Scalar.ori (early a) (Scalar.cmpi .eq (phase a) 0#32)
/-- Whether a grid point closes a sequence. -/
def closes (a : BitVec 32) : BitVec 1 := Scalar.ori (early a) (Scalar.cmpi .eq (phase a) 3#32)

theorem next_row (x : Vec Ideal S256x512 .f32) (p : Fin 256) (k : Fin 512) :
    k0_pay4 x (ix2 p k) = x (ix2 (⟨(p.val + 256 - 255) % 256, Nat.mod_lt _ (by decide)⟩ : Fin 256) k) := by
  pointwise [k0_pay4]

theorem last_row (p : Fin 256) (k : Fin 512) : k0_pay3 (ix2 p k) = IntOp.cmpi .eq (BitVec.ofNat 32 p.val) 255#32 := by
  pointwise [k0_pay3]

theorem merged_at (a : BitVec 32) (v18 : Vec Ideal S256x512 .f32) (v25 : FVec Ideal S1x512 .f32) (v31 : FVec Ideal S256x512 .f32)
    (v33 : IVec S256x512 1) (v34 : FVec Ideal S256x512 .f32) (v38 v42 v47 : Vec Ideal S1x512 .f32) (v52 : Vec Ideal S256x512 .f32)
    (v55 : Vec Ideal S256x1024 .f32) (v56 : Vec Ideal S512x1024 .bf16) (v60 : Vec Ideal S256x1024 .f32) (v62 v63 : Vec Ideal S256x512 .bf16)
    (v65 : Vec Ideal S512x1024 .bf16) (p : Fin 256) (d : Fin 1024) :
    k0_pay5 a v18 v25 v31 v33 v34 v38 v42 v47 v52 v55 v56 v60 v62 v63 v65 (ix2 p d)
      = mergedOf (v55 (ix2 p d)) (v60 (ix2 p d))
          (fun k => convOf (v52 (ix2 p k)) (v38 (ix2 (0 : Fin 1) k)) (v42 (ix2 (0 : Fin 1) k)) (v47 (ix2 (0 : Fin 1) k)) (v31 (ix2 p k))
            (v18 (ix2 p k)) (Scalar.select (v33 (ix2 p k)) (v25 (ix2 (0 : Fin 1) k)) (v34 (ix2 p k))))
          (fun k => Scalar.select (early a) (v62 (ix2 p k)) (v63 (ix2 p k))) (fun k => v56 (ix2 k d)) (fun k => v65 (ix2 k d)) := by
  pointwise [k0_pay5]
  rfl

theorem prev_at (i : grid0.Coords) (v18 : Vec Ideal S256x512 .f32) (v20 : Vec Ideal S1x512 .f32) (p : Fin 256) (k : Fin 512) :
    k0_pay2 i v18 v20 (ix2 p k) = Scalar.select (IntOp.cmpi .eq (BitVec.ofNat 32 p.val) 0#32)
      (Scalar.select (opens (BitVec.ofNat 32 (i 0).val)) 0 (v20 (ix2 (0 : Fin 1) k)))
      (v18 (ix2 (⟨(p.val + 256 - 1) % 256, Nat.mod_lt _ (by decide)⟩ : Fin 256) k)) := by
  pointwise [k0_pay2]
  rfl

theorem next_at (i : grid0.Coords) (v20 : Vec Ideal S1x512 .f32) (k : Fin 512) :
    k0_pay1 i v20 (ix2 (0 : Fin 1) k) = Scalar.select (closes (BitVec.ofNat 32 (i 0).val)) 0 (v20 (ix2 (0 : Fin 1) k)) := by
  pointwise [k0_pay1]
  rfl

/-- A row of the residual, from its rows of merges and features. -/
def residRow (a : BitVec 32) (v70 : FVec Ideal S256x1024 .bf16) (v71 : Vec Ideal S1024x1024 .bf16) (v74 : Vec Ideal S1x1x1024 .f32)
    (v81 v83 : Vec Ideal S256x1024 .f32) (p : Fin 256) (d : Fin 1024) : EReal :=
  residOf (Scalar.select (early a) (v81 (ix2 p d)) (v83 (ix2 p d))) (v74 (ix3 (0 : Fin 1) (0 : Fin 1) d)) (fun e => v70 (ix2 p e))
    (fun e => v71 (ix2 e d))

theorem centred_at (a : BitVec 32) (v70 : FVec Ideal S256x1024 .bf16) (v71 : Vec Ideal S1024x1024 .bf16) (v74 : Vec Ideal S1x1x1024 .f32)
    (v81 v83 : Vec Ideal S256x1024 .f32) (p : Fin 256) (d : Fin 1024) : k0_pay10 a v70 v71 v74 v81 v83 (ix2 p d)
      = residRow a v70 v71 v74 v81 v83 p d - meanOf (residRow a v70 v71 v74 v81 v83 p) := by
  pointwise [k0_pay10]
  rfl

theorem var_at (a : BitVec 32) (v70 : FVec Ideal S256x1024 .bf16) (v71 : Vec Ideal S1024x1024 .bf16) (v74 : Vec Ideal S1x1x1024 .f32)
    (v81 v83 : Vec Ideal S256x1024 .f32) (p : Fin 256) : k0_pay11 a v70 v71 v74 v81 v83 (ix2 p (0 : Fin 1))
      = Ideal.div (∑ e, k0_pay10 a v70 v71 v74 v81 v83 (ix2 p e) * k0_pay10 a v70 v71 v74 v81 v83 (ix2 p e))
          (Ideal.ofBits .f32 0x44800000#32) := by
  unfold k0_pay11
  generalize k0_pay10 a v70 v71 v74 v81 v83 = z
  pointwise

theorem norm_at (a : BitVec 32) (v70 : FVec Ideal S256x1024 .bf16) (v71 : Vec Ideal S1024x1024 .bf16) (v74 : Vec Ideal S1x1x1024 .f32)
    (v81 v83 : Vec Ideal S256x1024 .f32) (v92 v94 : FVec Ideal S1x1024 .f32) (p : Fin 256) (d : Fin 1024) :
    k0_pay12 v92 v94 (k0_pay10 a v70 v71 v74 v81 v83) (k0_pay11 a v70 v71 v74 v81 v83) (ix2 p d)
      = normOf (residRow a v70 v71 v74 v81 v83 p) (v92 (ix2 (0 : Fin 1) d)) (v94 (ix2 (0 : Fin 1) d)) d := by
  have e1 := var_at a v70 v71 v74 v81 v83 p
  have e2 := centred_at a v70 v71 v74 v81 v83 p
  simp only [e2] at e1
  generalize k0_pay11 a v70 v71 v74 v81 v83 = y at e1
  have e3 := e2 d
  generalize k0_pay10 a v70 v71 v74 v81 v83 = z at e3
  pointwise [k0_pay12]
  rw [e1, e3]
  rfl

theorem shifted_at (v77 v79 v92 v94 : FVec Ideal S1x1024 .f32) (v100 : FVec Ideal S256x1024 .f32) (v105 : FVec Ideal S256x1 .f32)
    (p : Fin 256) (d : Fin 1024) : k0_pay13 v77 v79 v92 v94 v100 v105 (ix2 p d)
      = k0_pay12 v92 v94 v100 v105 (ix2 p d) * (1 + v79 (ix2 (0 : Fin 1) d)) + v77 (ix2 (0 : Fin 1) d) := by
  unfold k0_pay13
  generalize k0_pay12 v92 v94 v100 v105 = z
  pointwise

theorem query_at (v77 v79 v92 v94 : FVec Ideal S1x1024 .f32) (v100 : FVec Ideal S256x1024 .f32) (v105 : FVec Ideal S256x1 .f32)
    (v124 : Vec Ideal S2048x1024 .bf16) (r : Fin 2048) (p : Fin 256) : k0_pay14 v77 v79 v92 v94 v100 v105 v124 (ix2 r p)
      = ∑ d, v124 (ix2 r d) * k0_pay13 v77 v79 v92 v94 v100 v105 (ix2 p d) := by
  unfold k0_pay14
  generalize k0_pay13 v77 v79 v92 v94 v100 v105 = z
  pointwise

theorem ga_at (x : Vec Ideal S1x1x6144 .f32) (d : Fin 1024) :
    View.ld x r0_9 (ix3 (0 : Fin 1) (0 : Fin 1) d) = x (ix3 (0 : Fin 1) (0 : Fin 1) ⟨2048 + d.val, by omega⟩) := by
  rw [View.ld_apply]
  refine congrArg x (funext fun a => Fin.ext ?_)
  fin_cases a
  · rfl
  · rfl
  · show 2048 + 1 * d.val = 2048 + d.val
    omega

theorem shift_at (x : Vec Ideal S1x1x6144 .f32) (d : Fin 1024) :
    k0_pay6 (View.ld x r0_10) (ix2 (0 : Fin 1) d) = x (ix3 (0 : Fin 1) (0 : Fin 1) ⟨3072 + d.val, by omega⟩) := by
  have e : View.ld x r0_10 (ix3 (0 : Fin 1) (0 : Fin 1) d) = x (ix3 (0 : Fin 1) (0 : Fin 1) ⟨3072 + d.val, by omega⟩) := by
    rw [View.ld_apply]
    refine congrArg x (funext fun a => Fin.ext ?_)
    fin_cases a
    · rfl
    · rfl
    · show 3072 + 1 * d.val = 3072 + d.val
      omega
  rw [← e]
  generalize View.ld x r0_10 = z
  pointwise [k0_pay6]

theorem scale_at (x : Vec Ideal S1x1x6144 .f32) (d : Fin 1024) :
    k0_pay7 (View.ld x r0_11) (ix2 (0 : Fin 1) d) = x (ix3 (0 : Fin 1) (0 : Fin 1) ⟨4096 + d.val, by omega⟩) := by
  have e : View.ld x r0_11 (ix3 (0 : Fin 1) (0 : Fin 1) d) = x (ix3 (0 : Fin 1) (0 : Fin 1) ⟨4096 + d.val, by omega⟩) := by
    rw [View.ld_apply]
    refine congrArg x (funext fun a => Fin.ext ?_)
    fin_cases a
    · rfl
    · rfl
    · show 4096 + 1 * d.val = 4096 + d.val
      omega
  rw [← e]
  generalize View.ld x r0_11 = z
  pointwise [k0_pay7]

theorem tap0_at (x : Vec Ideal S3x512 .f32) (k : Fin 512) : View.ld x r0_3 (ix2 (0 : Fin 1) k) = x (ix2 (0 : Fin 3) k) := by
  rw [View.ld_apply]
  refine congrArg x (funext fun a => Fin.ext ?_)
  fin_cases a
  · rfl
  · show 0 + 1 * k.val = k.val
    omega

theorem tap1_at (x : Vec Ideal S3x512 .f32) (k : Fin 512) : View.ld x r0_4 (ix2 (0 : Fin 1) k) = x (ix2 (1 : Fin 3) k) := by
  rw [View.ld_apply]
  refine congrArg x (funext fun a => Fin.ext ?_)
  fin_cases a
  · rfl
  · show 0 + 1 * k.val = k.val
    omega

theorem tap2_at (x : Vec Ideal S3x512 .f32) (k : Fin 512) : View.ld x r0_5 (ix2 (0 : Fin 1) k) = x (ix2 (2 : Fin 3) k) := by
  rw [View.ld_apply]
  refine congrArg x (funext fun a => Fin.ext ?_)
  fin_cases a
  · rfl
  · show 0 + 1 * k.val = k.val
    omega

theorem halo_before_at (x : Vec Ideal S8x512 .f32) (k : Fin 512) : View.ld x r0_1 (ix2 (0 : Fin 1) k) = x (ix2 (7 : Fin 8) k) := by
  rw [View.ld_apply]
  refine congrArg x (funext fun a => Fin.ext ?_)
  fin_cases a
  · rfl
  · show 0 + 1 * k.val = k.val
    omega

theorem halo_after_at (x : Vec Ideal S8x512 .f32) (k : Fin 512) : View.ld x r0_2 (ix2 (0 : Fin 1) k) = x (ix2 (0 : Fin 8) k) := by
  rw [View.ld_apply]
  refine congrArg x (funext fun a => Fin.ext ?_)
  fin_cases a
  · rfl
  · show 0 + 1 * k.val = k.val
    omega

/-! # OUTPUTS -/

theorem ln_gain_at (v : Vec Ideal S1x1024 .f32) (d : Fin 1024) : k0_pay8 v (ix2 (0 : Fin 1) d) = v (ix2 (0 : Fin 1) d) := by
  pointwise [k0_pay8]

theorem ln_bias_at (v : Vec Ideal S1x1024 .f32) (d : Fin 1024) : k0_pay9 v (ix2 (0 : Fin 1) d) = v (ix2 (0 : Fin 1) d) := by
  pointwise [k0_pay9]

/-- The row of a tile before row `p`. -/
def beforeRow (a : BitVec 32) (x3 : Vec Ideal S256x512 .f32) (x4 : Vec Ideal S8x512 .f32) (p : Fin 256) (k : Fin 512) : EReal :=
  Scalar.select (IntOp.cmpi .eq (BitVec.ofNat 32 p.val) 0#32) (Scalar.select (opens a) 0 (x4 (ix2 (7 : Fin 8) k)))
    (x3 (ix2 (⟨(p.val + 256 - 1) % 256, Nat.mod_lt _ (by decide)⟩ : Fin 256) k))

/-- The row of a tile after row `p`. -/
def afterRow (a : BitVec 32) (x3 : Vec Ideal S256x512 .f32) (x5 : Vec Ideal S8x512 .f32) (p : Fin 256) (k : Fin 512) : EReal :=
  Scalar.select (IntOp.cmpi .eq (BitVec.ofNat 32 p.val) 255#32) (Scalar.select (closes a) 0 (x5 (ix2 (0 : Fin 8) k)))
    (x3 (ix2 (⟨(p.val + 256 - 255) % 256, Nat.mod_lt _ (by decide)⟩ : Fin 256) k))

section
variable (i : grid0.Coords) (x0 : Vec Ideal S256x1024 .f32) (x1 : Vec Ideal S256x1024 .f32) (x2 : Vec Ideal S1x1x6144 .f32) (x3 : Vec Ideal S256x512
  .f32) (x4 : Vec Ideal S8x512 .f32) (x5 : Vec Ideal S8x512 .f32) (x6 : Vec Ideal S256x512 .f32) (x7 : Vec Ideal S256x512 .bf16) (x8 : Vec Ideal
  S256x512 .bf16) (x9 : Vec Ideal S256x1024 .f32) (x10 : Vec Ideal S256x1024 .f32) (x11 : Vec Ideal S3x512 .f32) (x12 : Vec Ideal S512x1024 .bf16) (x13
  : Vec Ideal S512x1024 .bf16) (x14 : Vec Ideal S1024x1024 .bf16) (x15 : Vec Ideal S1x1024 .f32) (x16 : Vec Ideal S1x1024 .f32) (x17 : Vec Ideal
  S2048x1024 .bf16) (x18 : Vec Ideal S16x128x128 .bf16)

/-- The word of a grid point. -/
abbrev word (i : grid0.Coords) : BitVec 32 := BitVec.ofNat 32 (i 0).val

/-- A row of merges of a tile. -/
def mergedRow (p : Fin 256) (d : Fin 1024) : EReal :=
  mergedOf (x9 (ix2 p d)) (x10 (ix2 p d))
    (fun k => convOf (x6 (ix2 p k)) (x11 (ix2 (0 : Fin 3) k)) (x11 (ix2 (1 : Fin 3) k)) (x11 (ix2 (2 : Fin 3) k))
      (beforeRow (word i) x3 x4 p k) (x3 (ix2 p k)) (afterRow (word i) x3 x5 p k))
    (fun k => Scalar.select (early (word i)) (x7 (ix2 p k)) (x8 (ix2 p k))) (fun k => x12 (ix2 k d)) (fun k => x13 (ix2 k d))

/-- A row of the residual of a tile. -/
def rowR (p : Fin 256) (d : Fin 1024) : EReal :=
  residOf (Scalar.select (early (word i)) (x0 (ix2 p d)) (x1 (ix2 p d))) (x2 (ix3 (0 : Fin 1) (0 : Fin 1) ⟨2048 + d.val, by omega⟩))
    (mergedRow i x3 x4 x5 x6 x7 x8 x9 x10 x11 x12 x13 p) (fun e => x14 (ix2 e d))

theorem pay33_at (p : Fin 256) (d : Fin 1024) : k0_pay33 i x0 x1 x2 x3 x4 x5 x6 x7 x8 x9 x10 x11 x12 x13 x14 x15 x16 x17 x18 (ix2 p d) = mergedRow i x3 x4 x5 x6 x7 x8 x9 x10 x11 x12 x13 p d := by
  unfold k0_pay33
  rw [View.ld_unit_lit _ x3 (by decide), View.ld_unit_lit _ x6 (by decide), View.ld_unit_lit _ x9 (by decide),
    View.ld_unit_lit _ x12 (by decide), View.ld_unit_lit _ x10 (by decide), View.ld_unit_lit _ x7 (by decide),
    View.ld_unit_lit _ x8 (by decide), View.ld_unit_lit _ x13 (by decide)]
  refine (merged_at _ _ _ _ _ _ _ _ _ _ _ _ _ _ _ _ p d).trans ?_
  unfold mergedRow beforeRow afterRow
  simp only [prev_at, next_at, next_row, last_row]
  refine congrArg (fun f => mergedOf _ _ f _ _ _) (funext fun k => ?_)
  rw [tap0_at, tap1_at, tap2_at, halo_before_at, halo_after_at]

theorem residRow_at (p : Fin 256) : residRow (word i) (k0_pay33 i x0 x1 x2 x3 x4 x5 x6 x7 x8 x9 x10 x11 x12 x13 x14 x15 x16 x17 x18) x14 (View.ld x2 r0_9) x0 x1 p = rowR i x0 x1 x2 x3 x4 x5 x6 x7 x8 x9 x10 x11 x12 x13 x14 p := by
  funext d
  unfold residRow rowR
  rw [ga_at, funext fun e => pay33_at i x0 x1 x2 x3 x4 x5 x6 x7 x8 x9 x10 x11 x12 x13 x14 x15 x16 x17 x18 p e]

/-- The normed rows of a point's tile. -/
theorem block_19 (p : Fin 256) (d : Fin 1024) : out0_19 i x0 x1 x2 x3 x4 x5 x6 x7 x8 x9 x10 x11 x12 x13 x14 x15 x16 x17 x18 (ix2 p d)
    = normOf (rowR i x0 x1 x2 x3 x4 x5 x6 x7 x8 x9 x10 x11 x12 x13 x14 p) (x15 (ix2 (0 : Fin 1) d)) (x16 (ix2 (0 : Fin 1) d)) d := by
  unfold out0_19
  refine (congrFun (View.canon_cons_unit_lit _ _ [] (by decide)) _).trans ?_
  unfold k0_pay38 k0_pay39
  refine (norm_at _ _ _ _ _ _ _ _ p d).trans ?_
  unfold k0_pay36 k0_pay37
  rw [View.ld_unit_lit _ x14 (by decide), View.ld_unit_lit _ x0 (by decide), View.ld_unit_lit _ x1 (by decide), residRow_at,
    View.ld_unit_lit _ x15 (by decide), View.ld_unit_lit _ x16 (by decide), ln_gain_at, ln_bias_at]

/-- A row of the modulated features of a tile. -/
def rowU (p : Fin 256) (d : Fin 1024) : EReal :=
  normOf (rowR i x0 x1 x2 x3 x4 x5 x6 x7 x8 x9 x10 x11 x12 x13 x14 p) (x15 (ix2 (0 : Fin 1) d)) (x16 (ix2 (0 : Fin 1) d)) d * (1 + x2 (ix3 (0 : Fin 1) (0 : Fin 1) ⟨4096 + d.val, by omega⟩))
    + x2 (ix3 (0 : Fin 1) (0 : Fin 1) ⟨3072 + d.val, by omega⟩)

theorem pay13_at (p : Fin 256) (d : Fin 1024) :
    k0_pay13 (k0_pay34 i x0 x1 x2 x3 x4 x5 x6 x7 x8 x9 x10 x11 x12 x13 x14 x15 x16 x17 x18) (k0_pay35 i x0 x1 x2 x3 x4 x5 x6 x7 x8 x9 x10 x11 x12 x13 x14 x15 x16 x17 x18)
      (k0_pay36 i x0 x1 x2 x3 x4 x5 x6 x7 x8 x9 x10 x11 x12 x13 x14 x15 x16 x17 x18) (k0_pay37 i x0 x1 x2 x3 x4 x5 x6 x7 x8 x9 x10 x11 x12 x13 x14 x15 x16 x17 x18)
      (k0_pay38 i x0 x1 x2 x3 x4 x5 x6 x7 x8 x9 x10 x11 x12 x13 x14 x15 x16 x17 x18) (k0_pay39 i x0 x1 x2 x3 x4 x5 x6 x7 x8 x9 x10 x11 x12 x13 x14 x15 x16 x17 x18) (ix2 p d)
      = rowU i x0 x1 x2 x3 x4 x5 x6 x7 x8 x9 x10 x11 x12 x13 x14 x15 x16 p d := by
  have e : out0_19 i x0 x1 x2 x3 x4 x5 x6 x7 x8 x9 x10 x11 x12 x13 x14 x15 x16 x17 x18 (ix2 p d)
      = k0_pay12 (k0_pay36 i x0 x1 x2 x3 x4 x5 x6 x7 x8 x9 x10 x11 x12 x13 x14 x15 x16 x17 x18) (k0_pay37 i x0 x1 x2 x3 x4 x5 x6 x7 x8 x9 x10 x11 x12 x13 x14 x15 x16 x17 x18)
        (k0_pay38 i x0 x1 x2 x3 x4 x5 x6 x7 x8 x9 x10 x11 x12 x13 x14 x15 x16 x17 x18) (k0_pay39 i x0 x1 x2 x3 x4 x5 x6 x7 x8 x9 x10 x11 x12 x13 x14 x15 x16 x17 x18) (ix2 p d) := by
    unfold out0_19
    exact congrFun (View.canon_cons_unit_lit _ _ [] (by decide)) _
  rw [shifted_at, ← e, block_19]
  unfold k0_pay34 k0_pay35
  rw [shift_at, scale_at]
  rfl

/-- The modulated rows of a point's tile. -/
theorem block_20 (p : Fin 256) (d : Fin 1024) : out0_20 i x0 x1 x2 x3 x4 x5 x6 x7 x8 x9 x10 x11 x12 x13 x14 x15 x16 x17 x18 (ix2 p d)
    = rowU i x0 x1 x2 x3 x4 x5 x6 x7 x8 x9 x10 x11 x12 x13 x14 x15 x16 p d := by
  unfold out0_20
  exact (congrFun (View.canon_cons_unit_lit _ _ [] (by decide)) _).trans (pay13_at i x0 x1 x2 x3 x4 x5 x6 x7 x8 x9 x10 x11 x12 x13 x14 x15 x16 x17 x18 p d)

/-- A column of the queries of a tile. -/
def queryOf (r : Fin 2048) (p : Fin 256) : EReal := ∑ d, x17 (ix2 r d) * rowU i x0 x1 x2 x3 x4 x5 x6 x7 x8 x9 x10 x11 x12 x13 x14 x15 x16 p d

theorem pay40_at (r : Fin 2048) (p : Fin 256) : k0_pay40 i x0 x1 x2 x3 x4 x5 x6 x7 x8 x9 x10 x11 x12 x13 x14 x15 x16 x17 x18 (ix2 r p)
    = queryOf i x0 x1 x2 x3 x4 x5 x6 x7 x8 x9 x10 x11 x12 x13 x14 x15 x16 x17 r p := by
  unfold k0_pay40
  rw [View.ld_unit_lit _ x17 (by decide), query_at, queryOf]
  exact Finset.sum_congr rfl fun d _ => by rw [pay13_at]

end

/-- The scores of the queries `z` against the keys `x`, at row `r`. -/
def scoreAt (x : Vec Ideal S16x128x128 .bf16) (z : Fin 2048 → Fin 256 → EReal) (r : Fin 2048) (p : Fin 256) : EReal :=
  ∑ e : Fin 128, x (ix3 (⟨r.val / 128, by omega⟩ : Fin 16) (⟨r.val % 128, Nat.mod_lt _ (by decide)⟩ : Fin 128) e)
    * z ⟨r.val / 128 * 128 + e.val, by omega⟩ p

theorem tile_at (x : Vec Ideal S16x128x128 .bf16) (z : Fin 2048 → Fin 256 → EReal) (g : Fin 16) (w : FVec Ideal S128x256 .f32)
    (hw : ∀ (k : Fin 128) (p : Fin 256), w (ix2 k p) = ∑ e : Fin 128, x (ix3 g k e) * z ⟨g.val * 128 + e.val, by omega⟩ p)
    (r : Fin 2048) (p : Fin 256) :
    View.TileAt (Val := Elt Ideal) (e := .f32) (S := S2048x256) (ix2 r p) ![g.val * 128, 0] S128x256.size w (scoreAt x z r p) := by
  intro y hy
  have h0 : r.val = g.val * 128 + (y 0).val := hy 0
  have h1 : p.val = 0 + (y 1).val := hy 1
  have l0 : (y 0).val < 128 := (y 0).isLt
  have hg : g = ⟨r.val / 128, by omega⟩ := Fin.ext (by show g.val = r.val / 128; omega)
  have hk : (y 0 : Fin 128) = ⟨r.val % 128, Nat.mod_lt _ (by decide)⟩ := Fin.ext (by show (y 0).val = r.val % 128; omega)
  have hp : (y 1 : Fin 256) = p := Fin.ext (by omega)
  have hy2 : y = ix2 (y 0 : Fin 128) (y 1 : Fin 256) := by
    funext a
    fin_cases a <;> rfl
  refine (congrArg w hy2).trans ((hw (y 0) (y 1)).trans ?_)
  unfold scoreAt
  rw [hk, hp, hg]
  rfl

theorem key_0 (x : Vec Ideal S16x128x128 .bf16) (k e : Fin 128) :
    View.ld x r0_14 (ix3 (0 : Fin 1) k e) = x (ix3 (0 : Fin 16) k e) := by
  rw [View.ld_apply]
  refine congrArg x (funext fun a => Fin.ext ?_)
  fin_cases a
  · rfl
  · show 0 + 1 * k.val = k.val
    omega
  · show 0 + 1 * e.val = e.val
    omega

theorem score_0 (v77 v79 v92 v94 : FVec Ideal S1x1024 .f32) (v100 : FVec Ideal S256x1024 .f32) (v105 : FVec Ideal S256x1 .f32) (v124 : Vec Ideal S2048x1024 .bf16)
    (y : Vec Ideal S1x128x128 .bf16) (k : Fin 128) (p : Fin 256) : k0_pay15 v77 v79 v92 v94 v100 v105 v124 y (ix2 k p)
      = ∑ e : Fin 128, y (ix3 (0 : Fin 1) k e) * k0_pay14 v77 v79 v92 v94 v100 v105 v124 (ix2 (⟨0 + e.val, by omega⟩ : Fin 2048) p) := by
  unfold k0_pay15
  generalize k0_pay14 v77 v79 v92 v94 v100 v105 v124 = z
  pointwise

theorem key_1 (x : Vec Ideal S16x128x128 .bf16) (k e : Fin 128) :
    View.ld x r0_16 (ix3 (0 : Fin 1) k e) = x (ix3 (1 : Fin 16) k e) := by
  rw [View.ld_apply]
  refine congrArg x (funext fun a => Fin.ext ?_)
  fin_cases a
  · rfl
  · show 0 + 1 * k.val = k.val
    omega
  · show 0 + 1 * e.val = e.val
    omega

theorem score_1 (v77 v79 v92 v94 : FVec Ideal S1x1024 .f32) (v100 : FVec Ideal S256x1024 .f32) (v105 : FVec Ideal S256x1 .f32) (v124 : Vec Ideal S2048x1024 .bf16)
    (y : Vec Ideal S1x128x128 .bf16) (k : Fin 128) (p : Fin 256) : k0_pay16 v77 v79 v92 v94 v100 v105 v124 y (ix2 k p)
      = ∑ e : Fin 128, y (ix3 (0 : Fin 1) k e) * k0_pay14 v77 v79 v92 v94 v100 v105 v124 (ix2 (⟨128 + e.val, by omega⟩ : Fin 2048) p) := by
  unfold k0_pay16
  generalize k0_pay14 v77 v79 v92 v94 v100 v105 v124 = z
  pointwise

theorem key_2 (x : Vec Ideal S16x128x128 .bf16) (k e : Fin 128) :
    View.ld x r0_18 (ix3 (0 : Fin 1) k e) = x (ix3 (2 : Fin 16) k e) := by
  rw [View.ld_apply]
  refine congrArg x (funext fun a => Fin.ext ?_)
  fin_cases a
  · rfl
  · show 0 + 1 * k.val = k.val
    omega
  · show 0 + 1 * e.val = e.val
    omega

theorem score_2 (v77 v79 v92 v94 : FVec Ideal S1x1024 .f32) (v100 : FVec Ideal S256x1024 .f32) (v105 : FVec Ideal S256x1 .f32) (v124 : Vec Ideal S2048x1024 .bf16)
    (y : Vec Ideal S1x128x128 .bf16) (k : Fin 128) (p : Fin 256) : k0_pay18 (k0_pay17 v77 v79 v92 v94 v100 v105 v124) y (ix2 k p)
      = ∑ e : Fin 128, y (ix3 (0 : Fin 1) k e) * k0_pay14 v77 v79 v92 v94 v100 v105 v124 (ix2 (⟨256 + e.val, by omega⟩ : Fin 2048) p) := by
  unfold k0_pay18 k0_pay17
  generalize k0_pay14 v77 v79 v92 v94 v100 v105 v124 = z
  pointwise

theorem key_3 (x : Vec Ideal S16x128x128 .bf16) (k e : Fin 128) :
    View.ld x r0_20 (ix3 (0 : Fin 1) k e) = x (ix3 (3 : Fin 16) k e) := by
  rw [View.ld_apply]
  refine congrArg x (funext fun a => Fin.ext ?_)
  fin_cases a
  · rfl
  · show 0 + 1 * k.val = k.val
    omega
  · show 0 + 1 * e.val = e.val
    omega

theorem score_3 (z : FVec Ideal S2048x256 .f32) (y : Vec Ideal S1x128x128 .bf16) (k : Fin 128) (p : Fin 256) :
    k0_pay19 z y (ix2 k p) = ∑ e : Fin 128, y (ix3 (0 : Fin 1) k e) * z (ix2 (⟨384 + e.val, by omega⟩ : Fin 2048) p) := by
  pointwise [k0_pay19]

theorem key_4 (x : Vec Ideal S16x128x128 .bf16) (k e : Fin 128) :
    View.ld x r0_22 (ix3 (0 : Fin 1) k e) = x (ix3 (4 : Fin 16) k e) := by
  rw [View.ld_apply]
  refine congrArg x (funext fun a => Fin.ext ?_)
  fin_cases a
  · rfl
  · show 0 + 1 * k.val = k.val
    omega
  · show 0 + 1 * e.val = e.val
    omega

theorem score_4 (z : FVec Ideal S2048x256 .f32) (y : Vec Ideal S1x128x128 .bf16) (k : Fin 128) (p : Fin 256) :
    k0_pay20 z y (ix2 k p) = ∑ e : Fin 128, y (ix3 (0 : Fin 1) k e) * z (ix2 (⟨512 + e.val, by omega⟩ : Fin 2048) p) := by
  pointwise [k0_pay20]

theorem key_5 (x : Vec Ideal S16x128x128 .bf16) (k e : Fin 128) :
    View.ld x r0_24 (ix3 (0 : Fin 1) k e) = x (ix3 (5 : Fin 16) k e) := by
  rw [View.ld_apply]
  refine congrArg x (funext fun a => Fin.ext ?_)
  fin_cases a
  · rfl
  · show 0 + 1 * k.val = k.val
    omega
  · show 0 + 1 * e.val = e.val
    omega

theorem score_5 (z : FVec Ideal S2048x256 .f32) (y : Vec Ideal S1x128x128 .bf16) (k : Fin 128) (p : Fin 256) :
    k0_pay21 z y (ix2 k p) = ∑ e : Fin 128, y (ix3 (0 : Fin 1) k e) * z (ix2 (⟨640 + e.val, by omega⟩ : Fin 2048) p) := by
  pointwise [k0_pay21]

theorem key_6 (x : Vec Ideal S16x128x128 .bf16) (k e : Fin 128) :
    View.ld x r0_26 (ix3 (0 : Fin 1) k e) = x (ix3 (6 : Fin 16) k e) := by
  rw [View.ld_apply]
  refine congrArg x (funext fun a => Fin.ext ?_)
  fin_cases a
  · rfl
  · show 0 + 1 * k.val = k.val
    omega
  · show 0 + 1 * e.val = e.val
    omega

theorem score_6 (z : FVec Ideal S2048x256 .f32) (y : Vec Ideal S1x128x128 .bf16) (k : Fin 128) (p : Fin 256) :
    k0_pay22 z y (ix2 k p) = ∑ e : Fin 128, y (ix3 (0 : Fin 1) k e) * z (ix2 (⟨768 + e.val, by omega⟩ : Fin 2048) p) := by
  pointwise [k0_pay22]

theorem key_7 (x : Vec Ideal S16x128x128 .bf16) (k e : Fin 128) :
    View.ld x r0_28 (ix3 (0 : Fin 1) k e) = x (ix3 (7 : Fin 16) k e) := by
  rw [View.ld_apply]
  refine congrArg x (funext fun a => Fin.ext ?_)
  fin_cases a
  · rfl
  · show 0 + 1 * k.val = k.val
    omega
  · show 0 + 1 * e.val = e.val
    omega

theorem score_7 (z : FVec Ideal S2048x256 .f32) (y : Vec Ideal S1x128x128 .bf16) (k : Fin 128) (p : Fin 256) :
    k0_pay23 z y (ix2 k p) = ∑ e : Fin 128, y (ix3 (0 : Fin 1) k e) * z (ix2 (⟨896 + e.val, by omega⟩ : Fin 2048) p) := by
  pointwise [k0_pay23]

theorem key_8 (x : Vec Ideal S16x128x128 .bf16) (k e : Fin 128) :
    View.ld x r0_30 (ix3 (0 : Fin 1) k e) = x (ix3 (8 : Fin 16) k e) := by
  rw [View.ld_apply]
  refine congrArg x (funext fun a => Fin.ext ?_)
  fin_cases a
  · rfl
  · show 0 + 1 * k.val = k.val
    omega
  · show 0 + 1 * e.val = e.val
    omega

theorem score_8 (z : FVec Ideal S2048x256 .f32) (y : Vec Ideal S1x128x128 .bf16) (k : Fin 128) (p : Fin 256) :
    k0_pay24 z y (ix2 k p) = ∑ e : Fin 128, y (ix3 (0 : Fin 1) k e) * z (ix2 (⟨1024 + e.val, by omega⟩ : Fin 2048) p) := by
  pointwise [k0_pay24]

theorem key_9 (x : Vec Ideal S16x128x128 .bf16) (k e : Fin 128) :
    View.ld x r0_32 (ix3 (0 : Fin 1) k e) = x (ix3 (9 : Fin 16) k e) := by
  rw [View.ld_apply]
  refine congrArg x (funext fun a => Fin.ext ?_)
  fin_cases a
  · rfl
  · show 0 + 1 * k.val = k.val
    omega
  · show 0 + 1 * e.val = e.val
    omega

theorem score_9 (z : FVec Ideal S2048x256 .f32) (y : Vec Ideal S1x128x128 .bf16) (k : Fin 128) (p : Fin 256) :
    k0_pay25 z y (ix2 k p) = ∑ e : Fin 128, y (ix3 (0 : Fin 1) k e) * z (ix2 (⟨1152 + e.val, by omega⟩ : Fin 2048) p) := by
  pointwise [k0_pay25]

theorem key_10 (x : Vec Ideal S16x128x128 .bf16) (k e : Fin 128) :
    View.ld x r0_34 (ix3 (0 : Fin 1) k e) = x (ix3 (10 : Fin 16) k e) := by
  rw [View.ld_apply]
  refine congrArg x (funext fun a => Fin.ext ?_)
  fin_cases a
  · rfl
  · show 0 + 1 * k.val = k.val
    omega
  · show 0 + 1 * e.val = e.val
    omega

theorem score_10 (z : FVec Ideal S2048x256 .f32) (y : Vec Ideal S1x128x128 .bf16) (k : Fin 128) (p : Fin 256) :
    k0_pay26 z y (ix2 k p) = ∑ e : Fin 128, y (ix3 (0 : Fin 1) k e) * z (ix2 (⟨1280 + e.val, by omega⟩ : Fin 2048) p) := by
  pointwise [k0_pay26]

theorem key_11 (x : Vec Ideal S16x128x128 .bf16) (k e : Fin 128) :
    View.ld x r0_36 (ix3 (0 : Fin 1) k e) = x (ix3 (11 : Fin 16) k e) := by
  rw [View.ld_apply]
  refine congrArg x (funext fun a => Fin.ext ?_)
  fin_cases a
  · rfl
  · show 0 + 1 * k.val = k.val
    omega
  · show 0 + 1 * e.val = e.val
    omega

theorem score_11 (z : FVec Ideal S2048x256 .f32) (y : Vec Ideal S1x128x128 .bf16) (k : Fin 128) (p : Fin 256) :
    k0_pay28 (k0_pay27 z) y (ix2 k p) = ∑ e : Fin 128, y (ix3 (0 : Fin 1) k e) * z (ix2 (⟨1408 + e.val, by omega⟩ : Fin 2048) p) := by
  pointwise [k0_pay28, k0_pay27]

theorem key_12 (x : Vec Ideal S16x128x128 .bf16) (k e : Fin 128) :
    View.ld x r0_38 (ix3 (0 : Fin 1) k e) = x (ix3 (12 : Fin 16) k e) := by
  rw [View.ld_apply]
  refine congrArg x (funext fun a => Fin.ext ?_)
  fin_cases a
  · rfl
  · show 0 + 1 * k.val = k.val
    omega
  · show 0 + 1 * e.val = e.val
    omega

theorem score_12 (z : FVec Ideal S2048x256 .f32) (y : Vec Ideal S1x128x128 .bf16) (k : Fin 128) (p : Fin 256) :
    k0_pay29 z y (ix2 k p) = ∑ e : Fin 128, y (ix3 (0 : Fin 1) k e) * z (ix2 (⟨1536 + e.val, by omega⟩ : Fin 2048) p) := by
  pointwise [k0_pay29]

theorem key_13 (x : Vec Ideal S16x128x128 .bf16) (k e : Fin 128) :
    View.ld x r0_40 (ix3 (0 : Fin 1) k e) = x (ix3 (13 : Fin 16) k e) := by
  rw [View.ld_apply]
  refine congrArg x (funext fun a => Fin.ext ?_)
  fin_cases a
  · rfl
  · show 0 + 1 * k.val = k.val
    omega
  · show 0 + 1 * e.val = e.val
    omega

theorem score_13 (z : FVec Ideal S2048x256 .f32) (y : Vec Ideal S1x128x128 .bf16) (k : Fin 128) (p : Fin 256) :
    k0_pay30 z y (ix2 k p) = ∑ e : Fin 128, y (ix3 (0 : Fin 1) k e) * z (ix2 (⟨1664 + e.val, by omega⟩ : Fin 2048) p) := by
  pointwise [k0_pay30]

theorem key_14 (x : Vec Ideal S16x128x128 .bf16) (k e : Fin 128) :
    View.ld x r0_42 (ix3 (0 : Fin 1) k e) = x (ix3 (14 : Fin 16) k e) := by
  rw [View.ld_apply]
  refine congrArg x (funext fun a => Fin.ext ?_)
  fin_cases a
  · rfl
  · show 0 + 1 * k.val = k.val
    omega
  · show 0 + 1 * e.val = e.val
    omega

theorem score_14 (z : FVec Ideal S2048x256 .f32) (y : Vec Ideal S1x128x128 .bf16) (k : Fin 128) (p : Fin 256) :
    k0_pay31 z y (ix2 k p) = ∑ e : Fin 128, y (ix3 (0 : Fin 1) k e) * z (ix2 (⟨1792 + e.val, by omega⟩ : Fin 2048) p) := by
  pointwise [k0_pay31]

theorem key_15 (x : Vec Ideal S16x128x128 .bf16) (k e : Fin 128) :
    View.ld x r0_44 (ix3 (0 : Fin 1) k e) = x (ix3 (15 : Fin 16) k e) := by
  rw [View.ld_apply]
  refine congrArg x (funext fun a => Fin.ext ?_)
  fin_cases a
  · rfl
  · show 0 + 1 * k.val = k.val
    omega
  · show 0 + 1 * e.val = e.val
    omega

theorem score_15 (z : FVec Ideal S2048x256 .f32) (y : Vec Ideal S1x128x128 .bf16) (k : Fin 128) (p : Fin 256) :
    k0_pay32 z y (ix2 k p) = ∑ e : Fin 128, y (ix3 (0 : Fin 1) k e) * z (ix2 (⟨1920 + e.val, by omega⟩ : Fin 2048) p) := by
  pointwise [k0_pay32]

section
variable (i : grid0.Coords) (x0 : Vec Ideal S256x1024 .f32) (x1 : Vec Ideal S256x1024 .f32) (x2 : Vec Ideal S1x1x6144 .f32) (x3 : Vec Ideal S256x512
  .f32) (x4 : Vec Ideal S8x512 .f32) (x5 : Vec Ideal S8x512 .f32) (x6 : Vec Ideal S256x512 .f32) (x7 : Vec Ideal S256x512 .bf16) (x8 : Vec Ideal
  S256x512 .bf16) (x9 : Vec Ideal S256x1024 .f32) (x10 : Vec Ideal S256x1024 .f32) (x11 : Vec Ideal S3x512 .f32) (x12 : Vec Ideal S512x1024 .bf16) (x13
  : Vec Ideal S512x1024 .bf16) (x14 : Vec Ideal S1024x1024 .bf16) (x15 : Vec Ideal S1x1024 .f32) (x16 : Vec Ideal S1x1024 .f32) (x17 : Vec Ideal
  S2048x1024 .bf16) (x18 : Vec Ideal S16x128x128 .bf16)

/-- The scores of a point's tile. -/
theorem block_21 (r : Fin 2048) (p : Fin 256) : out0_21 i x0 x1 x2 x3 x4 x5 x6 x7 x8 x9 x10 x11 x12 x13 x14 x15 x16 x17 x18 (ix2 r p)
    = scoreAt x18 (queryOf i x0 x1 x2 x3 x4 x5 x6 x7 x8 x9 x10 x11 x12 x13 x14 x15 x16 x17) r p := by
  have q : ∀ (r : Fin 2048) (p : Fin 256), k0_pay40 i x0 x1 x2 x3 x4 x5 x6 x7 x8 x9 x10 x11 x12 x13 x14 x15 x16 x17 x18 (ix2 r p)
      = queryOf i x0 x1 x2 x3 x4 x5 x6 x7 x8 x9 x10 x11 x12 x13 x14 x15 x16 x17 r p := pay40_at i x0 x1 x2 x3 x4 x5 x6 x7 x8 x9 x10 x11 x12 x13 x14 x15 x16 x17 x18
  have q' := q
  unfold k0_pay40 at q'
  unfold out0_21
  generalize queryOf i x0 x1 x2 x3 x4 x5 x6 x7 x8 x9 x10 x11 x12 x13 x14 x15 x16 x17 = z at q q' ⊢
  refine View.canon_eq_of_allAt _ _ _ (cover0_21 _ _ _ _ _ _ _ _ _ _ _ _ _ _ _ _ _) ?_
  refine View.allAt_cons_unit _ _ _ _ _ (tile_at x18 z 15 _ (fun k p => (score_15 _ _ k p).trans
    (Finset.sum_congr rfl fun e _ => congrArg₂ (· * ·) (key_15 x18 k e) (q _ p))) r p) ?_
  refine View.allAt_cons_unit _ _ _ _ _ (tile_at x18 z 14 _ (fun k p => (score_14 _ _ k p).trans
    (Finset.sum_congr rfl fun e _ => congrArg₂ (· * ·) (key_14 x18 k e) (q _ p))) r p) ?_
  refine View.allAt_cons_unit _ _ _ _ _ (tile_at x18 z 13 _ (fun k p => (score_13 _ _ k p).trans
    (Finset.sum_congr rfl fun e _ => congrArg₂ (· * ·) (key_13 x18 k e) (q _ p))) r p) ?_
  refine View.allAt_cons_unit _ _ _ _ _ (tile_at x18 z 12 _ (fun k p => (score_12 _ _ k p).trans
    (Finset.sum_congr rfl fun e _ => congrArg₂ (· * ·) (key_12 x18 k e) (q _ p))) r p) ?_
  refine View.allAt_cons_unit _ _ _ _ _ (tile_at x18 z 11 _ (fun k p => (score_11 _ _ k p).trans
    (Finset.sum_congr rfl fun e _ => congrArg₂ (· * ·) (key_11 x18 k e) (q _ p))) r p) ?_
  refine View.allAt_cons_unit _ _ _ _ _ (tile_at x18 z 10 _ (fun k p => (score_10 _ _ k p).trans
    (Finset.sum_congr rfl fun e _ => congrArg₂ (· * ·) (key_10 x18 k e) (q _ p))) r p) ?_
  refine View.allAt_cons_unit _ _ _ _ _ (tile_at x18 z 9 _ (fun k p => (score_9 _ _ k p).trans
    (Finset.sum_congr rfl fun e _ => congrArg₂ (· * ·) (key_9 x18 k e) (q _ p))) r p) ?_
  refine View.allAt_cons_unit _ _ _ _ _ (tile_at x18 z 8 _ (fun k p => (score_8 _ _ k p).trans
    (Finset.sum_congr rfl fun e _ => congrArg₂ (· * ·) (key_8 x18 k e) (q _ p))) r p) ?_
  refine View.allAt_cons_unit _ _ _ _ _ (tile_at x18 z 7 _ (fun k p => (score_7 _ _ k p).trans
    (Finset.sum_congr rfl fun e _ => congrArg₂ (· * ·) (key_7 x18 k e) (q _ p))) r p) ?_
  refine View.allAt_cons_unit _ _ _ _ _ (tile_at x18 z 6 _ (fun k p => (score_6 _ _ k p).trans
    (Finset.sum_congr rfl fun e _ => congrArg₂ (· * ·) (key_6 x18 k e) (q _ p))) r p) ?_
  refine View.allAt_cons_unit _ _ _ _ _ (tile_at x18 z 5 _ (fun k p => (score_5 _ _ k p).trans
    (Finset.sum_congr rfl fun e _ => congrArg₂ (· * ·) (key_5 x18 k e) (q _ p))) r p) ?_
  refine View.allAt_cons_unit _ _ _ _ _ (tile_at x18 z 4 _ (fun k p => (score_4 _ _ k p).trans
    (Finset.sum_congr rfl fun e _ => congrArg₂ (· * ·) (key_4 x18 k e) (q _ p))) r p) ?_
  refine View.allAt_cons_unit _ _ _ _ _ (tile_at x18 z 3 _ (fun k p => (score_3 _ _ k p).trans
    (Finset.sum_congr rfl fun e _ => congrArg₂ (· * ·) (key_3 x18 k e) (q _ p))) r p) ?_
  refine View.allAt_cons_unit _ _ _ _ _ (tile_at x18 z 2 _ (fun k p => (score_2 _ _ _ _ _ _ _ _ k p).trans
    (Finset.sum_congr rfl fun e _ => congrArg₂ (· * ·) (key_2 x18 k e) (q' _ p))) r p) ?_
  refine View.allAt_cons_unit _ _ _ _ _ (tile_at x18 z 1 _ (fun k p => (score_1 _ _ _ _ _ _ _ _ k p).trans
    (Finset.sum_congr rfl fun e _ => congrArg₂ (· * ·) (key_1 x18 k e) (q' _ p))) r p) ?_
  refine View.allAt_cons_unit _ _ _ _ _ (tile_at x18 z 0 _ (fun k p => (score_0 _ _ _ _ _ _ _ _ k p).trans
    (Finset.sum_congr rfl fun e _ => congrArg₂ (· * ·) (key_0 x18 k e) (q' _ p))) r p) ?_
  exact View.allAt_nil _ _

end

end Cert.Merge.Ker

end
-- ==== Proof.Merge.Entry.lean ====
/- The arrays that the merge's call reads, from the kernel's arguments. -/
module

public import proofs.«01_k».proof.Proof.Merge.Block
public import Idealize.ShloMosaic.Lib.StableHlo.RunRead
public import Idealize.ShloMosaic.Lib.Claim

@[expose] public section

set_option maxRecDepth 16384

noncomputable section

namespace Cert.Merge.Ker

open Cert.Kernel3Ideal Cert.Kernel3Ideal.Gen Idealize.ShloMosaic Idealize.ShloMosaic.TcCoe Cert.Merge

variable (m : (ℓ : Loc nD τ sig) → Buf (Elt Ideal) ℓ) (c : Dev nD)

/-- The context's features. -/
def arg0 : FVec Ideal S16x256x1024 .f32 := m ((c.tc : Thread nD τ).loc main_arg0)
/-- The latent features. -/
def arg1 : FVec Ideal S8x1024x1024 .f32 := m ((c.tc : Thread nD τ).loc main_arg1)
/-- The modulation vectors. -/
def arg2 : FVec Ideal S16x6144 .f32 := m ((c.tc : Thread nD τ).loc main_arg2)
/-- The convolution's input. -/
def arg3 : FVec Ideal S12288x512 .f32 := m ((c.tc : Thread nD τ).loc main_arg3)
/-- The convolution's gate. -/
def arg4 : FVec Ideal S12288x512 .f32 := m ((c.tc : Thread nD τ).loc main_arg4)
/-- The attention of the context's tokens. -/
def arg5 : FVec Ideal S4096x512 .bf16 := m ((c.tc : Thread nD τ).loc main_arg5)
/-- The attention of the latent tokens. -/
def arg6 : FVec Ideal S8192x512 .bf16 := m ((c.tc : Thread nD τ).loc main_arg6)
/-- The gate of the convolution's projection. -/
def arg7 : FVec Ideal S12288x1024 .f32 := m ((c.tc : Thread nD τ).loc main_arg7)
/-- The gate of the attention's projection. -/
def arg8 : FVec Ideal S12288x1024 .f32 := m ((c.tc : Thread nD τ).loc main_arg8)
/-- The convolution's taps. -/
def arg9 : FVec Ideal S1x3x512 .f32 := m ((c.tc : Thread nD τ).loc main_arg9)
/-- The weights of the convolution's projection. -/
def arg10 : FVec Ideal S1x512x1024 .f32 := m ((c.tc : Thread nD τ).loc main_arg10)
/-- The weights of the attention's projection. -/
def arg11 : FVec Ideal S1x512x1024 .f32 := m ((c.tc : Thread nD τ).loc main_arg11)
/-- The weights of the output projection. -/
def arg12 : FVec Ideal S1x1024x1024 .f32 := m ((c.tc : Thread nD τ).loc main_arg12)
/-- The layer norm's gain. -/
def arg13 : FVec Ideal S1x1024 .f32 := m ((c.tc : Thread nD τ).loc main_arg13)
/-- The layer norm's bias. -/
def arg14 : FVec Ideal S1x1024 .f32 := m ((c.tc : Thread nD τ).loc main_arg14)
/-- The weights of the queries. -/
def arg15 : FVec Ideal S1x1024x2048 .f32 := m ((c.tc : Thread nD τ).loc main_arg15)
/-- The keys. -/
def arg16 : FVec Ideal S1x8x2x128x128 .f32 := m ((c.tc : Thread nD τ).loc main_arg16)

/-- What the merge reads, from the arguments. -/
def ins : Inputs := inputs (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)

/-- The context's tokens, in rows. -/
def xcV : FVec Ideal S4096x1024 .f32 := V m c main_v0

theorem xcV_eq : xcV m c = shapeCast S4096x1024 (arg0 m c) shapeCasts_S16x256x1024_S4096x1024 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem xcV_at (n : Fin 4096) (d : Fin 1024) : xcV m c (ix2 n d) = arg0 m c (ix3 (⟨n.val / 256, by omega⟩ : Fin 16) (⟨n.val % 256, Nat.mod_lt _ (by decide)⟩ : Fin 256) d) := by
  rw [xcV_eq]
  generalize arg0 m c = x
  pointwise

/-- The latent tokens, in rows. -/
def xlV : FVec Ideal S8192x1024 .f32 := V m c main_v1

theorem xlV_eq : xlV m c = shapeCast S8192x1024 (arg1 m c) shapeCasts_S8x1024x1024_S8192x1024 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem xlV_at (n : Fin 8192) (d : Fin 1024) : xlV m c (ix2 n d) = arg1 m c (ix3 (⟨n.val / 1024, by omega⟩ : Fin 8) (⟨n.val % 1024, Nat.mod_lt _ (by decide)⟩ : Fin 1024) d) := by
  rw [xlV_eq]
  generalize arg1 m c = x
  pointwise

/-- The modulation vectors, in rows. -/
def mdV : FVec Ideal S16x1x6144 .f32 := V m c main_v2

theorem mdV_eq : mdV m c = shapeCast S16x1x6144 (arg2 m c) shapeCasts_S16x6144_S16x1x6144 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem mdV_at (r : Fin 16) (l : Fin 6144) : mdV m c (ix3 r (0 : Fin 1) l) = arg2 m c (ix2 r l) := by
  rw [mdV_eq]
  generalize arg2 m c = x
  pointwise

/-- The queries' weights, transposed. -/
def wqV : FVec Ideal S2048x1024 .bf16 := V m c main_v5

theorem wqV_eq : wqV m c = truncf .bf16 (transpose S2048x1024 [1, 0] (shapeCast S1024x2048 (arg15 m c) shapeCasts_S1x1024x2048_S1024x2048) transposes_S1024x2048_S2048x1024_1_0) bitsLt_bf16_f32 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem wqV_at (r : Fin 2048) (d : Fin 1024) : wqV m c (ix2 r d) = arg15 m c (ix3 (0 : Fin 1) d r) := by
  rw [wqV_eq]
  generalize arg15 m c = x
  pointwise

/-- The keys, by group. -/
def skV : FVec Ideal S16x128x128 .bf16 := V m c main_v8

theorem skV_eq : skV m c = truncf .bf16 (shapeCast S16x128x128 (shapeCast S8x2x128x128 (arg16 m c) shapeCasts_S1x8x2x128x128_S8x2x128x128) shapeCasts_S8x2x128x128_S16x128x128) bitsLt_bf16_f32 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem skV_at (g : Fin 16) (k e : Fin 128) : skV m c (ix3 g k e) = arg16 m c (ix5 (0 : Fin 1) (⟨g.val / 2, by omega⟩ : Fin 8) (⟨g.val % 2, Nat.mod_lt _ (by decide)⟩ : Fin 2) k e) := by
  rw [skV_eq]
  generalize arg16 m c = x
  pointwise

/-- The taps. -/
def cwV : FVec Ideal S3x512 .f32 := V m c main_v9

theorem cwV_eq : cwV m c = shapeCast S3x512 (arg9 m c) shapeCasts_S1x3x512_S3x512 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem cwV_at (i : Fin 3) (k : Fin 512) : cwV m c (ix2 i k) = arg9 m c (ix3 (0 : Fin 1) i k) := by
  rw [cwV_eq]
  generalize arg9 m c = x
  pointwise

/-- The convolution's projection. -/
def wcV : FVec Ideal S512x1024 .bf16 := V m c main_v11

theorem wcV_eq : wcV m c = truncf .bf16 (shapeCast S512x1024 (arg10 m c) shapeCasts_S1x512x1024_S512x1024) bitsLt_bf16_f32 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem wcV_at (k : Fin 512) (d : Fin 1024) : wcV m c (ix2 k d) = arg10 m c (ix3 (0 : Fin 1) k d) := by
  rw [wcV_eq]
  generalize arg10 m c = x
  pointwise

/-- The attention's projection. -/
def wnV : FVec Ideal S512x1024 .bf16 := V m c main_v13

theorem wnV_eq : wnV m c = truncf .bf16 (shapeCast S512x1024 (arg11 m c) shapeCasts_S1x512x1024_S512x1024) bitsLt_bf16_f32 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem wnV_at (k : Fin 512) (d : Fin 1024) : wnV m c (ix2 k d) = arg11 m c (ix3 (0 : Fin 1) k d) := by
  rw [wnV_eq]
  generalize arg11 m c = x
  pointwise

/-- The output projection. -/
def woV : FVec Ideal S1024x1024 .bf16 := V m c main_v15

theorem woV_eq : woV m c = truncf .bf16 (shapeCast S1024x1024 (arg12 m c) shapeCasts_S1x1024x1024_S1024x1024) bitsLt_bf16_f32 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem woV_at (k : Fin 1024) (d : Fin 1024) : woV m c (ix2 k d) = arg12 m c (ix3 (0 : Fin 1) k d) := by
  rw [woV_eq]
  generalize arg12 m c = x
  pointwise

/-- The gain, as a row. -/
def gV : FVec Ideal S1x1024 .f32 := V m c main_v17

theorem gV_eq : gV m c = shapeCast S1x1024 (shapeCast S1024 (arg13 m c) shapeCasts_S1x1024_S1024) shapeCasts_S1024_S1x1024 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem gV_at (d : Fin 1024) : gV m c (ix2 (0 : Fin 1) d) = arg13 m c (ix2 (0 : Fin 1) d) := by
  rw [gV_eq]
  generalize arg13 m c = x
  pointwise

/-- The bias, as a row. -/
def bV : FVec Ideal S1x1024 .f32 := V m c main_v19

theorem bV_eq : bV m c = shapeCast S1x1024 (shapeCast S1024 (arg14 m c) shapeCasts_S1x1024_S1024) shapeCasts_S1024_S1x1024 := by
  show StableHlo.after hostOps0 (fun b => m (c, b)) _ = _
  simp only [hostOps0, StableHlo.TRef.ternary, StableHlo.TRef.unary, StableHlo.TRef.toBuf, StableHlo.TRef.ofBuf, cast_eq]
  after_results_simp
  rfl

theorem bV_at (d : Fin 1024) : bV m c (ix2 (0 : Fin 1) d) = arg14 m c (ix2 (0 : Fin 1) d) := by
  rw [bV_eq]
  generalize arg14 m c = x
  pointwise

end Cert.Merge.Ker

end
-- ==== Proof.Merge.Arrays.lean ====
/- The merge's results: each entry, from the arguments. -/
module

public import proofs.«01_k».proof.Proof.Merge.Entry

@[expose] public section

set_option maxRecDepth 16384

noncomputable section

namespace Cert.Merge.Ker

open Cert.Kernel3Ideal Cert.Kernel3Ideal.Gen Idealize.ShloMosaic Idealize.ShloMosaic.TcCoe Cert.Merge

variable (m : (ℓ : Loc nD τ sig) → Buf (Elt Ideal) ℓ) (c : Dev nD)

theorem early_at : ∀ t : Fin grid0.N, early (word (grid0.coords t)) = if t.val < 16 then 1#1 else 0#1 := by decide +kernel
theorem opens_at : ∀ t : Fin grid0.N, opens (word (grid0.coords t)) = if t.val < 16 ∨ t.val % 4 = 0 then 1#1 else 0#1 := by decide +kernel
theorem closes_at : ∀ t : Fin grid0.N, closes (word (grid0.coords t)) = if t.val < 16 ∨ t.val % 4 = 3 then 1#1 else 0#1 := by decide +kernel
theorem is_first : ∀ p : Fin 256, IntOp.cmpi .eq (BitVec.ofNat 32 p.val) 0#32 = if p.val = 0 then 1#1 else 0#1 := by decide +kernel
theorem is_last : ∀ p : Fin 256, IntOp.cmpi .eq (BitVec.ofNat 32 p.val) 255#32 = if p.val = 255 then 1#1 else 0#1 := by decide +kernel
theorem index_0 : ∀ t : Fin grid0.N, win0_0.index t = ![min t.val 15, 0] := by decide +kernel
theorem index_1 : ∀ t : Fin grid0.N, win0_1.index t = ![t.val - 16, 0] := by decide +kernel
theorem index_2 : ∀ t : Fin grid0.N, win0_2.index t = ![if t.val < 16 then 0 else 1 + (t.val - 16) / 4, 0, 0] := by decide +kernel
theorem index_3 : ∀ t : Fin grid0.N, win0_3.index t = ![t.val, 0] := by decide +kernel
theorem index_4 : ∀ t : Fin grid0.N, win0_4.index t = ![t.val * 32 - 1, 0] := by decide +kernel
theorem index_5 : ∀ t : Fin grid0.N, win0_5.index t = ![min ((t.val + 1) * 32) 1535, 0] := by decide +kernel
theorem index_6 : ∀ t : Fin grid0.N, win0_6.index t = ![t.val, 0] := by decide +kernel
theorem index_7 : ∀ t : Fin grid0.N, win0_7.index t = ![min t.val 15, 0] := by decide +kernel
theorem index_8 : ∀ t : Fin grid0.N, win0_8.index t = ![t.val - 16, 0] := by decide +kernel
theorem index_9 : ∀ t : Fin grid0.N, win0_9.index t = ![t.val, 0] := by decide +kernel
theorem index_10 : ∀ t : Fin grid0.N, win0_10.index t = ![t.val, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel
theorem index_14 : ∀ t : Fin grid0.N, win0_14.index t = ![0, 0] := by decide +kernel
theorem index_15 : ∀ t : Fin grid0.N, win0_15.index t = ![0, 0] := by decide +kernel
theorem index_16 : ∀ t : Fin grid0.N, win0_16.index t = ![0, 0] := by decide +kernel
theorem index_17 : ∀ t : Fin grid0.N, win0_17.index t = ![0, 0] := by decide +kernel
theorem index_18 : ∀ t : Fin grid0.N, win0_18.index t = ![0, 0, 0] := by decide +kernel
theorem index_19 : ∀ t : Fin grid0.N, win0_19.index t = ![t.val, 0] := by decide +kernel
theorem index_20 : ∀ t : Fin grid0.N, win0_20.index t = ![t.val, 0] := by decide +kernel
theorem index_21 : ∀ t : Fin grid0.N, win0_21.index t = ![0, t.val] := by decide +kernel

/-- An index of two axes is its two coordinates. -/
theorem two_axes {n k : ℕ} (y : (⟨2, ![n, k]⟩ : Shape).Idx) : y = ix2 (y 0 : Fin n) (y 1 : Fin k) := by
  funext a
  fin_cases a <;> rfl

section
variable (t : Fin cfg0.N) (p : Fin 256) (n : Fin 12288) (hn : n.val = t.val * 256 + p.val)
include hn

theorem x_point (d : Fin 1024) :
    Scalar.select (early (word (grid0.coords t))) (iblk m c 0 t (ix2 p d)) (iblk m c 1 t (ix2 p d)) = (ins m c).x n d := by
  have hp := p.isLt
  show _ = dite _ _ _
  rw [early_at t]
  by_cases ht : t.val < 16
  · have hm : n.val = min t.val 15 * 256 + p.val := by omega
    have e : iblk m c 0 t (ix2 p d) = xcV m c (ix2 (⟨n.val, by omega⟩ : Fin 4096) d) := by
      blk_ext [iblk, xcV, index_0 t, hm]
    rw [if_pos ht, dif_pos (by omega)]
    exact e.trans (xcV_at m c _ d)
  · have hm : n.val - 4096 = (t.val - 16) * 256 + p.val := by omega
    have e : iblk m c 1 t (ix2 p d) = xlV m c (ix2 (⟨n.val - 4096, by omega⟩ : Fin 8192) d) := by
      blk_ext [iblk, xlV, index_1 t, hm]
    rw [if_neg ht, dif_neg (by omega)]
    exact e.trans (xlV_at m c _ d)

theorem y_point (k : Fin 512) :
    Scalar.select (early (word (grid0.coords t))) (iblk m c 7 t (ix2 p k)) (iblk m c 8 t (ix2 p k)) = (ins m c).y n k := by
  have hp := p.isLt
  show _ = dite _ _ _
  rw [early_at t]
  by_cases ht : t.val < 16
  · have hm : n.val = min t.val 15 * 256 + p.val := by omega
    have e : iblk m c 7 t (ix2 p k) = (V m c main_arg5 : FVec Ideal S4096x512 .bf16) (ix2 (⟨n.val, by omega⟩ : Fin 4096) k) := by
      blk_ext [iblk, index_7 t, hm]
    rw [if_pos ht, dif_pos (by omega)]
    exact e.trans (congrFun (V_main_arg5 m c) _)
  · have hm : n.val - 4096 = (t.val - 16) * 256 + p.val := by omega
    have e : iblk m c 8 t (ix2 p k) = (V m c main_arg6 : FVec Ideal S8192x512 .bf16) (ix2 (⟨n.val - 4096, by omega⟩ : Fin 8192) k) := by
      blk_ext [iblk, index_8 t, hm]
    rw [if_neg ht, dif_neg (by omega)]
    exact e.trans (congrFun (V_main_arg6 m c) _)

theorem md_point (l : Fin 6144) : iblk m c 2 t (ix3 (0 : Fin 1) (0 : Fin 1) l) = (ins m c).md (modRow n) l := by
  have hp := p.isLt
  have hr : (modRow n).val = if t.val < 16 then 0 else 1 + (t.val - 16) / 4 := by
    unfold modRow
    by_cases ht : t.val < 16
    · rw [if_pos ht, if_pos (by omega)]
      rfl
    · rw [if_neg ht, if_neg (by omega)]
      show 1 + (n.val - 4096) / 1024 = _
      omega
  generalize modRow n = r at hr
  have e : iblk m c 2 t (ix3 (0 : Fin 1) (0 : Fin 1) l) = mdV m c (ix3 r (0 : Fin 1) l) := by
    blk_ext [iblk, mdV, index_2 t, hr]
  exact e.trans (mdV_at m c r l)

theorem h_point (k : Fin 512) : iblk m c 3 t (ix2 p k) = (ins m c).h n k := by
  have e : iblk m c 3 t (ix2 p k) = (V m c main_arg3 : FVec Ideal S12288x512 .f32) (ix2 n k) := by
    blk_ext [iblk, index_3 t, hn]
  exact e.trans (congrFun (V_main_arg3 m c) _)

theorem bg_point (k : Fin 512) : iblk m c 6 t (ix2 p k) = (ins m c).bg n k := by
  have e : iblk m c 6 t (ix2 p k) = (V m c main_arg4 : FVec Ideal S12288x512 .f32) (ix2 n k) := by
    blk_ext [iblk, index_6 t, hn]
  exact e.trans (congrFun (V_main_arg4 m c) _)

theorem gc_point (d : Fin 1024) : iblk m c 9 t (ix2 p d) = (ins m c).gc n d := by
  have e : iblk m c 9 t (ix2 p d) = (V m c main_arg7 : FVec Ideal S12288x1024 .f32) (ix2 n d) := by
    blk_ext [iblk, index_9 t, hn]
  exact e.trans (congrFun (V_main_arg7 m c) _)

theorem gn_point (d : Fin 1024) : iblk m c 10 t (ix2 p d) = (ins m c).gn n d := by
  have e : iblk m c 10 t (ix2 p d) = (V m c main_arg8 : FVec Ideal S12288x1024 .f32) (ix2 n d) := by
    blk_ext [iblk, index_10 t, hn]
  exact e.trans (congrFun (V_main_arg8 m c) _)

theorem before_point (k : Fin 512) :
    beforeRow (word (grid0.coords t)) (iblk m c 3 t) (iblk m c 4 t) p k = prevOf (fun n => (ins m c).h n k) n := by
  have hp := p.isLt
  have ht : t.val < 48 := t.isLt
  unfold beforeRow prevOf
  rw [is_first p, opens_at t]
  by_cases h0 : p.val = 0
  · rw [if_pos h0]
    by_cases ho : t.val < 16 ∨ t.val % 4 = 0
    · rw [if_pos ho, if_pos (show first n by unfold first; omega)]
      rfl
    · rw [if_neg ho, if_neg (show ¬ first n by unfold first; omega)]
      have hm : n.val - 1 = (t.val * 32 - 1) * 8 + 7 := by omega
      have e : iblk m c 4 t (ix2 (7 : Fin 8) k) = (V m c main_arg3 : FVec Ideal S12288x512 .f32) (ix2 (⟨n.val - 1, by omega⟩ : Fin 12288) k) := by
        blk_ext [iblk, index_4 t, hm]
      exact e.trans (congrFun (V_main_arg3 m c) _)
  · rw [if_neg h0, if_neg (show ¬ first n by unfold first; omega)]
    exact h_point m c t ⟨(p.val + 256 - 1) % 256, by omega⟩ ⟨n.val - 1, by omega⟩ (by show n.val - 1 = t.val * 256 + (p.val + 256 - 1) % 256; omega) k

theorem after_point (k : Fin 512) :
    afterRow (word (grid0.coords t)) (iblk m c 3 t) (iblk m c 5 t) p k = nextOf (fun n => (ins m c).h n k) n := by
  have hp := p.isLt
  have ht : t.val < 48 := t.isLt
  unfold afterRow nextOf
  rw [is_last p, closes_at t]
  by_cases h0 : p.val = 255
  · rw [if_pos h0]
    by_cases ho : t.val < 16 ∨ t.val % 4 = 3
    · rw [if_pos ho, dif_pos (show last n by unfold last; omega)]
      rfl
    · rw [if_neg ho, dif_neg (show ¬ last n by unfold last; omega)]
      have hm : n.val + 1 = (min ((t.val + 1) * 32) 1535) * 8 := by omega
      have e : iblk m c 5 t (ix2 (0 : Fin 8) k) = (V m c main_arg3 : FVec Ideal S12288x512 .f32) (ix2 (⟨n.val + 1, by omega⟩ : Fin 12288) k) := by
        blk_ext [iblk, index_5 t, hm]
      exact e.trans (congrFun (V_main_arg3 m c) _)
  · rw [if_neg h0, dif_neg (show ¬ last n by unfold last; omega)]
    exact h_point m c t ⟨(p.val + 256 - 255) % 256, by omega⟩ ⟨n.val + 1, by omega⟩ (by show n.val + 1 = t.val * 256 + (p.val + 256 - 255) % 256; omega) k

end

theorem cw_point (t : Fin cfg0.N) (i : Fin 3) (k : Fin 512) : iblk m c 11 t (ix2 i k) = (ins m c).cw i k := by
  have he : iblk m c 11 t (ix2 i k) = cwV m c (ix2 i k) := by
    blk_ext [iblk, cwV, index_11 t]
  exact he.trans (cwV_at m c i k)

theorem wc_point (t : Fin cfg0.N) (k : Fin 512) (d : Fin 1024) : iblk m c 12 t (ix2 k d) = (ins m c).wc k d := by
  have he : iblk m c 12 t (ix2 k d) = wcV m c (ix2 k d) := by
    blk_ext [iblk, wcV, index_12 t]
  exact he.trans (wcV_at m c k d)

theorem wn_point (t : Fin cfg0.N) (k : Fin 512) (d : Fin 1024) : iblk m c 13 t (ix2 k d) = (ins m c).wn k d := by
  have he : iblk m c 13 t (ix2 k d) = wnV m c (ix2 k d) := by
    blk_ext [iblk, wnV, index_13 t]
  exact he.trans (wnV_at m c k d)

theorem wo_point (t : Fin cfg0.N) (k : Fin 1024) (d : Fin 1024) : iblk m c 14 t (ix2 k d) = (ins m c).wo k d := by
  have he : iblk m c 14 t (ix2 k d) = woV m c (ix2 k d) := by
    blk_ext [iblk, woV, index_14 t]
  exact he.trans (woV_at m c k d)

theorem g_point (t : Fin cfg0.N) (d : Fin 1024) : iblk m c 15 t (ix2 (0 : Fin 1) d) = (ins m c).g d := by
  have he : iblk m c 15 t (ix2 (0 : Fin 1) d) = gV m c (ix2 (0 : Fin 1) d) := by
    blk_ext [iblk, gV, index_15 t]
  exact he.trans (gV_at m c d)

theorem b_point (t : Fin cfg0.N) (d : Fin 1024) : iblk m c 16 t (ix2 (0 : Fin 1) d) = (ins m c).b d := by
  have he : iblk m c 16 t (ix2 (0 : Fin 1) d) = bV m c (ix2 (0 : Fin 1) d) := by
    blk_ext [iblk, bV, index_16 t]
  exact he.trans (bV_at m c d)

theorem wq_point (t : Fin cfg0.N) (r : Fin 2048) (d : Fin 1024) : iblk m c 17 t (ix2 r d) = (ins m c).wq d r := by
  have he : iblk m c 17 t (ix2 r d) = wqV m c (ix2 r d) := by
    blk_ext [iblk, wqV, index_17 t]
  exact he.trans (wqV_at m c r d)

theorem sk_point (t : Fin cfg0.N) (g : Fin 16) (k e : Fin 128) : iblk m c 18 t (ix3 g k e) = (ins m c).sk g k e := by
  have he : iblk m c 18 t (ix3 g k e) = skV m c (ix3 g k e) := by
    blk_ext [iblk, skV, index_18 t]
  exact he.trans (skV_at m c g k e)

theorem merged_point (t : Fin cfg0.N) (p : Fin 256) (n : Fin 12288) (hn : n.val = t.val * 256 + p.val) :
    mergedRow (grid0.coords t) (iblk m c 3 t) (iblk m c 4 t) (iblk m c 5 t) (iblk m c 6 t) (iblk m c 7 t) (iblk m c 8 t) (iblk m c 9 t) (iblk m c 10 t) (iblk m c 11 t)
      (iblk m c 12 t) (iblk m c 13 t) p = (ins m c).merged n := by
  funext d
  unfold mergedRow Inputs.merged
  rw [gc_point m c t p n hn, gn_point m c t p n hn, funext fun k => y_point m c t p n hn k, funext fun k => wc_point m c t k d,
    funext fun k => wn_point m c t k d]
  refine congrArg (fun f => mergedOf _ _ f _ _ _) (funext fun k => ?_)
  unfold Inputs.conv
  rw [bg_point m c t p n hn, cw_point m c t, cw_point m c t, cw_point m c t, before_point m c t p n hn, h_point m c t p n hn,
    after_point m c t p n hn]

theorem resid_point (t : Fin cfg0.N) (p : Fin 256) (n : Fin 12288) (hn : n.val = t.val * 256 + p.val) :
    rowR (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) p = (ins m c).resid n := by
  funext d
  unfold rowR Inputs.resid
  rw [x_point m c t p n hn, md_point m c t p n hn, merged_point m c t p n hn, funext fun e => wo_point m c t e d]

theorem normed_row (t : Fin cfg0.N) (p : Fin 256) (n : Fin 12288) (hn : n.val = t.val * 256 + p.val) (d : Fin 1024) :
    out0_19 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) (ix2 p d) = (ins m c).normed n d := by
  rw [block_19, resid_point m c t p n hn, g_point m c t, b_point m c t]
  rfl

theorem normed_point (t : Fin cfg0.N) (y : S256x1024.Idx) (n : Fin 12288) (d : Fin 1024) (hn : n.val = t.val * 256 + (y 0).val)
    (hd : d.val = (y 1).val) : out0_19 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) y = (ins m c).normed n d := by
  obtain rfl : d = y 1 := Fin.ext hd
  rw [two_axes y]
  exact normed_row m c t (y 0) n hn (y 1)

theorem rowU_point (t : Fin cfg0.N) (p : Fin 256) (n : Fin 12288) (hn : n.val = t.val * 256 + p.val) (d : Fin 1024) :
    rowU (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) p d = (ins m c).modulated n d := by
  unfold rowU Inputs.modulated Inputs.normed
  rw [resid_point m c t p n hn, g_point m c t, b_point m c t, md_point m c t p n hn, md_point m c t p n hn]

theorem modulated_point (t : Fin cfg0.N) (y : S256x1024.Idx) (n : Fin 12288) (d : Fin 1024) (hn : n.val = t.val * 256 + (y 0).val)
    (hd : d.val = (y 1).val) : out0_20 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) y = (ins m c).modulated n d := by
  obtain rfl : d = y 1 := Fin.ext hd
  rw [two_axes y]
  refine (block_20 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) (y 0) (y 1)).trans ?_
  exact rowU_point m c t (y 0) n hn (y 1)

theorem score_row (t : Fin cfg0.N) (r : Fin 2048) (p : Fin 256) (n : Fin 12288) (hn : n.val = t.val * 256 + p.val) :
    out0_21 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) (ix2 r p) = (ins m c).score r n := by
  rw [block_21]
  unfold scoreAt Inputs.score scoreOf
  refine Finset.sum_congr rfl fun e _ => ?_
  rw [sk_point m c t, mul_comm]
  refine congrArg (· * _) ?_
  unfold queryOf
  refine Finset.sum_congr rfl fun d _ => ?_
  rw [wq_point m c t, rowU_point m c t p n hn, mul_comm]

theorem score_point (t : Fin cfg0.N) (y : S2048x256.Idx) (r : Fin 2048) (n : Fin 12288) (hr : r.val = (y 0).val)
    (hn : n.val = t.val * 256 + (y 1).val) : out0_21 (grid0.coords t) (iblk m c 0 t) (iblk m c 1 t) (iblk m c 2 t) (iblk m c 3 t) (iblk m c 4 t) (iblk m c 5 t) (iblk m c 6 t) (iblk m c 7 t) (iblk m c 8 t) (iblk
      m c 9 t) (iblk m c 10 t) (iblk m c 11 t) (iblk m c 12 t) (iblk m c 13 t) (iblk m c 14 t) (iblk m c 15 t) (iblk m c 16 t) (iblk m c 17 t)
      (iblk m c 18 t) y = (ins m c).score r n := by
  obtain rfl : r = y 0 := Fin.ext hr
  rw [two_axes y]
  exact score_row m c t (y 0) (y 1) n hn

theorem normed_array : (dats m 0 c).arrAt 19 cfg0.N = fun j : S12288x1024.Idx => (ins m c).normed (j 0) (j 1) := by
  refine (dats m 0 c).arrAt_eq_of_covers 19 _ (by decide +kernel) fun t hf y => ?_
  have e0 : (((cfg0.win 19).blk t).view.emb y 0).val = t.val * 256 + (y 0).val := by
    blk_simp [index_19 t]
  have e1 : (((cfg0.win 19).blk t).view.emb y 1).val = (y 1).val := by
    blk_simp [index_19 t]
  show _ = (ins m c).normed (((cfg0.win 19).blk t).view.emb y 0) (((cfg0.win 19).blk t).view.emb y 1)
  blk_simp
  rw [after0_19]
  exact normed_point m c t y _ _ e0 e1

theorem modulated_array : (dats m 0 c).arrAt 20 cfg0.N = fun j : S12288x1024.Idx => (ins m c).modulated (j 0) (j 1) := by
  refine (dats m 0 c).arrAt_eq_of_covers 20 _ (by decide +kernel) fun t hf y => ?_
  have e0 : (((cfg0.win 20).blk t).view.emb y 0).val = t.val * 256 + (y 0).val := by
    blk_simp [index_20 t]
  have e1 : (((cfg0.win 20).blk t).view.emb y 1).val = (y 1).val := by
    blk_simp [index_20 t]
  show _ = (ins m c).modulated (((cfg0.win 20).blk t).view.emb y 0) (((cfg0.win 20).blk t).view.emb y 1)
  blk_simp
  rw [after0_20]
  exact modulated_point m c t y _ _ e0 e1

theorem score_array : (dats m 0 c).arrAt 21 cfg0.N = fun j : S2048x12288.Idx => (ins m c).score (j 0) (j 1) := by
  refine (dats m 0 c).arrAt_eq_of_covers 21 _ (by decide +kernel) fun t hf y => ?_
  have e0 : (((cfg0.win 21).blk t).view.emb y 0).val = (y 0).val := by
    blk_simp [index_21 t]
  have e1 : (((cfg0.win 21).blk t).view.emb y 1).val = t.val * 256 + (y 1).val := by
    blk_simp [index_21 t]
  show _ = (ins m c).score (((cfg0.win 21).blk t).view.emb y 0) (((cfg0.win 21).blk t).view.emb y 1)
  blk_simp
  rw [after0_21]
  exact score_point m c t y _ _ e0 e1

end Cert.Merge.Ker

end
-- ==== Proof.Merge.Ref.lean ====
/- The reference's merge, in stages. -/
module

public import proofs.«01_k».proof.Proof.Gen.Reference3Ideal.Run
public import Idealize.ShloMosaic.PureOps.Ideal
public import proofs.«01_k».proof.Proof.Merge.Spec
public import Idealize.ShloMosaic.Lib.Pointwise

@[expose] public section

set_option maxRecDepth 16384

noncomputable section

namespace Cert.Merge.Ref

open Cert.Reference3Ideal Cert.Reference3Ideal.Gen Idealize.ShloMosaic Cert.Merge

variable (V0 : Valuation τ sig (Elt Ideal))

/-- The value of argument 0. -/
def a0 : FVec Ideal S16x256x1024 .f32 := V0 (Proc.devRef .tc main_arg0)
/-- The value of argument 1. -/
def a1 : FVec Ideal S8x1024x1024 .f32 := V0 (Proc.devRef .tc main_arg1)
/-- The value of argument 2. -/
def a2 : FVec Ideal S16x6144 .f32 := V0 (Proc.devRef .tc main_arg2)
/-- The value of argument 3. -/
def a3 : FVec Ideal S12288x512 .f32 := V0 (Proc.devRef .tc main_arg3)
/-- The value of argument 4. -/
def a4 : FVec Ideal S12288x512 .f32 := V0 (Proc.devRef .tc main_arg4)
/-- The value of argument 5. -/
def a5 : FVec Ideal S4096x512 .bf16 := V0 (Proc.devRef .tc main_arg5)
/-- The value of argument 6. -/
def a6 : FVec Ideal S8192x512 .bf16 := V0 (Proc.devRef .tc main_arg6)
/-- The value of argument 7. -/
def a7 : FVec Ideal S12288x1024 .f32 := V0 (Proc.devRef .tc main_arg7)
/-- The value of argument 8. -/
def a8 : FVec Ideal S12288x1024 .f32 := V0 (Proc.devRef .tc main_arg8)
/-- The value of argument 9. -/
def a9 : FVec Ideal S1x3x512 .f32 := V0 (Proc.devRef .tc main_arg9)
/-- The value of argument 10. -/
def a10 : FVec Ideal S1x512x1024 .f32 := V0 (Proc.devRef .tc main_arg10)
/-- The value of argument 11. -/
def a11 : FVec Ideal S1x512x1024 .f32 := V0 (Proc.devRef .tc main_arg11)
/-- The value of argument 12. -/
def a12 : FVec Ideal S1x1024x1024 .f32 := V0 (Proc.devRef .tc main_arg12)
/-- The value of argument 13. -/
def a13 : FVec Ideal S1x1024 .f32 := V0 (Proc.devRef .tc main_arg13)
/-- The value of argument 14. -/
def a14 : FVec Ideal S1x1024 .f32 := V0 (Proc.devRef .tc main_arg14)
/-- The value of argument 15. -/
def a15 : FVec Ideal S1x1024x2048 .f32 := V0 (Proc.devRef .tc main_arg15)
/-- The value of argument 16. -/
def a16 : FVec Ideal S1x8x2x128x128 .f32 := V0 (Proc.devRef .tc main_arg16)

/-- What the merge reads, from the arguments. -/
def ins : Inputs := inputs (a0 V0) (a1 V0) (a2 V0) (a3 V0) (a4 V0) (a5 V0) (a6 V0) (a7 V0) (a8 V0) (a9 V0) (a10 V0) (a11 V0) (a12 V0) (a13 V0) (a14 V0) (a15 V0) (a16 V0)

/-! The stages: of the context's tokens and of the latent ones. -/

/-- The context's modulation. -/
def r18 : FVec Ideal S1x1x6144 .f32 := Value.res_main_v18 V0
/-- The context's padded convolution input. -/
def r25 : FVec Ideal S16x258x512 .f32 := Value.res_main_v25 V0
/-- The context's residual. -/
def r57 : FVec Ideal S16x256x1024 .f32 := Value.res_main_v57 V0
/-- The context's normed features. -/
def r81 : FVec Ideal S16x256x1024 .f32 := Value.res_main_v81 V0
/-- The context's modulated features. -/
def r88 : FVec Ideal S4096x1024 .f32 := Value.res_main_v88 V0
/-- The latent modulation. -/
def r106 : FVec Ideal S8x1x6144 .f32 := Value.res_main_v106 V0
/-- The latent padded convolution input. -/
def r113 : FVec Ideal S8x1026x512 .f32 := Value.res_main_v113 V0
/-- The latent residual. -/
def r145 : FVec Ideal S8x1024x1024 .f32 := Value.res_main_v145 V0
/-- The latent normed features. -/
def r169 : FVec Ideal S8x1024x1024 .f32 := Value.res_main_v169 V0
/-- The latent modulated features. -/
def r176 : FVec Ideal S8192x1024 .f32 := Value.res_main_v176 V0

/-- The token at place `p` of context sequence `s`. -/
def nC (s : Fin 16) (p : Fin 256) : Fin 12288 := ⟨s.val * 256 + p.val, by omega⟩
/-- The token at place `p` of latent sequence `s`. -/
def nL (s : Fin 8) (p : Fin 1024) : Fin 12288 := ⟨4096 + (s.val * 1024 + p.val), by omega⟩

theorem zero_word : (FloatOps.sitofp .f32 (0#32 : BitVec 32) : Ideal .f32) = 0 := by
  show (((0#32 : BitVec 32).toInt : ℝ) : EReal) = 0
  simp

theorem r18_at (l : Fin 6144) : r18 V0 (ix3 (0 : Fin 1) (0 : Fin 1) l) = a2 V0 (ix2 (0 : Fin 16) l) := by
  unfold r18 Value.res_main_v18 a2
  generalize V0 (Proc.devRef .tc main_arg2) = x
  pointwise

theorem r106_at (s : Fin 8) (l : Fin 6144) : r106 V0 (ix3 s (0 : Fin 1) l) = a2 V0 (ix2 (⟨1 + s.val, by omega⟩ : Fin 16) l) := by
  unfold r106 Value.res_main_v106 a2
  generalize V0 (Proc.devRef .tc main_arg2) = x
  pointwise

theorem r25_at (s : Fin 16) (q : Fin 258) (k : Fin 512) : r25 V0 (ix3 s q k)
    = if h : 1 ≤ q.val ∧ q.val - 1 < 256 then a3 V0 (ix2 (⟨s.val * 256 + (q.val - 1), by omega⟩ : Fin 12288) k) else 0 := by
  unfold r25 Value.res_main_v25 a3
  generalize V0 (Proc.devRef .tc main_arg3) = x
  rw [← zero_word]
  pointwise

theorem r113_at (s : Fin 8) (q : Fin 1026) (k : Fin 512) : r113 V0 (ix3 s q k)
    = if h : 1 ≤ q.val ∧ q.val - 1 < 1024 then a3 V0 (ix2 (⟨4096 + (s.val * 1024 + (q.val - 1)), by omega⟩ : Fin 12288) k) else 0 := by
  unfold r113 Value.res_main_v113 a3
  generalize V0 (Proc.devRef .tc main_arg3) = x
  rw [← zero_word]
  pointwise

theorem prevC (s : Fin 16) (p : Fin 256) (k : Fin 512) : prevOf (fun n => (ins V0).h n k) (nC s p) = r25 V0 (ix3 s (⟨p.val, by omega⟩ : Fin 258) k) := by
  have hs := s.isLt
  have hp := p.isLt
  have hv : (nC s p).val = s.val * 256 + p.val := rfl
  rw [r25_at]
  unfold prevOf
  by_cases h0 : p.val = 0
  · rw [if_pos (show first (nC s p) by unfold first; omega), dif_neg (by simp only; omega)]
  · rw [if_neg (show ¬ first (nC s p) by unfold first; omega), dif_pos (by simp only; omega)]
    refine congrArg (fun n : Fin 12288 => a3 V0 (ix2 n k)) (Fin.ext ?_)
    try simp only
    omega

theorem hereC (s : Fin 16) (p : Fin 256) (k : Fin 512) : (ins V0).h (nC s p) k = r25 V0 (ix3 s (⟨1 + p.val, by omega⟩ : Fin 258) k) := by
  have hs := s.isLt
  have hp := p.isLt
  have hv : (nC s p).val = s.val * 256 + p.val := rfl
  rw [r25_at, dif_pos (by simp only; omega)]
  refine congrArg (fun n : Fin 12288 => a3 V0 (ix2 n k)) (Fin.ext ?_)
  try simp only
  omega

theorem nextC (s : Fin 16) (p : Fin 256) (k : Fin 512) : nextOf (fun n => (ins V0).h n k) (nC s p) = r25 V0 (ix3 s (⟨2 + p.val, by omega⟩ : Fin 258) k) := by
  have hs := s.isLt
  have hp := p.isLt
  have hv : (nC s p).val = s.val * 256 + p.val := rfl
  rw [r25_at]
  unfold nextOf
  by_cases h0 : p.val = 255
  · rw [dif_pos (show last (nC s p) by unfold last; omega), dif_neg (by simp only; omega)]
  · rw [dif_neg (show ¬ last (nC s p) by unfold last; omega), dif_pos (by simp only; omega)]
    refine congrArg (fun n : Fin 12288 => a3 V0 (ix2 n k)) (Fin.ext ?_)
    try simp only
    omega

theorem xC (s : Fin 16) (p : Fin 256) (d : Fin 1024) : (ins V0).x (nC s p) d = a0 V0 (ix3 s p d) := by
  have hs := s.isLt
  have hp := p.isLt
  have hv : (nC s p).val = s.val * 256 + p.val := rfl
  refine (dif_pos (show (nC s p).val < 4096 by omega)).trans ?_
  refine congrArg₂ (fun (s : Fin 16) (p : Fin 256) => a0 V0 (ix3 s p d)) (Fin.ext ?_) (Fin.ext ?_) <;> (try simp only) <;> omega

theorem yC (s : Fin 16) (p : Fin 256) (k : Fin 512) : (ins V0).y (nC s p) k = a5 V0 (ix2 (⟨s.val * 256 + p.val, by omega⟩ : Fin 4096) k) := by
  have hs := s.isLt
  have hp := p.isLt
  have hv : (nC s p).val = s.val * 256 + p.val := rfl
  refine (dif_pos (show (nC s p).val < 4096 by omega)).trans ?_
  refine congrArg (fun n : Fin 4096 => a5 V0 (ix2 n k)) (Fin.ext ?_)
  try simp only
  omega

theorem mdC (s : Fin 16) (p : Fin 256) (l : Fin 6144) : (ins V0).md (modRow (nC s p)) l = r18 V0 (ix3 (0 : Fin 1) (0 : Fin 1) l) := by
  have hs := s.isLt
  have hp := p.isLt
  have hv : (nC s p).val = s.val * 256 + p.val := rfl
  rw [r18_at]
  refine congrArg (fun r : Fin 16 => a2 V0 (ix2 r l)) ?_
  unfold modRow
  rw [if_pos (by omega)]

theorem residC (s : Fin 16) (p : Fin 256) (d : Fin 1024) : r57 V0 (ix3 s p d) = (ins V0).resid (nC s p) d := by
  have e : (ins V0).resid (nC s p) d = residOf (a0 V0 (ix3 s p d)) (r18 V0 (ix3 (0 : Fin 1) (0 : Fin 1) ⟨2048 + d.val, by omega⟩))
      (fun d => mergedOf (a7 V0 (ix2 (nC s p) d)) (a8 V0 (ix2 (nC s p) d))
        (fun k => convOf (a4 V0 (ix2 (nC s p) k)) (a9 V0 (ix3 (0 : Fin 1) (0 : Fin 3) k)) (a9 V0 (ix3 (0 : Fin 1) (1 : Fin 3) k))
          (a9 V0 (ix3 (0 : Fin 1) (2 : Fin 3) k)) (r25 V0 (ix3 s (⟨p.val, by omega⟩ : Fin 258) k))
          (r25 V0 (ix3 s (⟨1 + p.val, by omega⟩ : Fin 258) k)) (r25 V0 (ix3 s (⟨2 + p.val, by omega⟩ : Fin 258) k)))
        (fun k => a5 V0 (ix2 (⟨s.val * 256 + p.val, by omega⟩ : Fin 4096) k)) (fun k => a10 V0 (ix3 (0 : Fin 1) k d))
        (fun k => a11 V0 (ix3 (0 : Fin 1) k d)))
      (fun e => a12 V0 (ix3 (0 : Fin 1) e d)) := by
    unfold Inputs.resid
    rw [xC, mdC]
    refine congrArg (fun f => residOf _ _ f _) (funext fun d => ?_)
    unfold Inputs.merged
    rw [funext fun k => yC V0 s p k]
    refine congrArg (fun f => mergedOf _ _ f _ _ _) (funext fun k => ?_)
    unfold Inputs.conv
    rw [prevC, hereC, nextC]
    rfl
  rw [e]
  unfold r57 Value.res_main_v57
  pointwise [Value.res_main_v0, Value.res_main_v1, Value.res_main_v2, Value.res_main_v3]
  rfl

theorem normedC (s : Fin 16) (p : Fin 256) (d : Fin 1024) : r81 V0 (ix3 s p d) = (ins V0).normed (nC s p) d := by
  have e : (ins V0).normed (nC s p) d
      = normOf (fun d => r57 V0 (ix3 s p d)) (a13 V0 (ix2 (0 : Fin 1) d)) (a14 V0 (ix2 (0 : Fin 1) d)) d := by
    rw [funext fun d => residC V0 s p d]
    rfl
  rw [e]
  unfold r81 Value.res_main_v81
  pointwise [Value.res_main_v63, Value.res_main_v61, Value.res_main_v4, Value.res_main_v5]
  rfl

theorem modulatedC (s : Fin 16) (p : Fin 256) (d : Fin 1024) :
    r88 V0 (ix2 (⟨s.val * 256 + p.val, by omega⟩ : Fin 4096) d) = (ins V0).modulated (nC s p) d := by
  have e : (ins V0).modulated (nC s p) d = r81 V0 (ix3 s p d) * (1 + r18 V0 (ix3 (0 : Fin 1) (0 : Fin 1) ⟨4096 + d.val, by omega⟩))
      + r18 V0 (ix3 (0 : Fin 1) (0 : Fin 1) ⟨3072 + d.val, by omega⟩) := by
    unfold Inputs.modulated
    rw [normedC, mdC, mdC]
  rw [e]
  unfold r88 Value.res_main_v88
  pointwise
  rfl

theorem prevL (s : Fin 8) (p : Fin 1024) (k : Fin 512) : prevOf (fun n => (ins V0).h n k) (nL s p) = r113 V0 (ix3 s (⟨p.val, by omega⟩ : Fin 1026) k) := by
  have hs := s.isLt
  have hp := p.isLt
  have hv : (nL s p).val = 4096 + (s.val * 1024 + p.val) := rfl
  rw [r113_at]
  unfold prevOf
  by_cases h0 : p.val = 0
  · rw [if_pos (show first (nL s p) by unfold first; omega), dif_neg (by simp only; omega)]
  · rw [if_neg (show ¬ first (nL s p) by unfold first; omega), dif_pos (by simp only; omega)]
    refine congrArg (fun n : Fin 12288 => a3 V0 (ix2 n k)) (Fin.ext ?_)
    try simp only
    omega

theorem hereL (s : Fin 8) (p : Fin 1024) (k : Fin 512) : (ins V0).h (nL s p) k = r113 V0 (ix3 s (⟨1 + p.val, by omega⟩ : Fin 1026) k) := by
  have hs := s.isLt
  have hp := p.isLt
  have hv : (nL s p).val = 4096 + (s.val * 1024 + p.val) := rfl
  rw [r113_at, dif_pos (by simp only; omega)]
  refine congrArg (fun n : Fin 12288 => a3 V0 (ix2 n k)) (Fin.ext ?_)
  try simp only
  omega

theorem nextL (s : Fin 8) (p : Fin 1024) (k : Fin 512) : nextOf (fun n => (ins V0).h n k) (nL s p) = r113 V0 (ix3 s (⟨2 + p.val, by omega⟩ : Fin 1026) k) := by
  have hs := s.isLt
  have hp := p.isLt
  have hv : (nL s p).val = 4096 + (s.val * 1024 + p.val) := rfl
  rw [r113_at]
  unfold nextOf
  by_cases h0 : p.val = 1023
  · rw [dif_pos (show last (nL s p) by unfold last; omega), dif_neg (by simp only; omega)]
  · rw [dif_neg (show ¬ last (nL s p) by unfold last; omega), dif_pos (by simp only; omega)]
    refine congrArg (fun n : Fin 12288 => a3 V0 (ix2 n k)) (Fin.ext ?_)
    try simp only
    omega

theorem xL (s : Fin 8) (p : Fin 1024) (d : Fin 1024) : (ins V0).x (nL s p) d = a1 V0 (ix3 s p d) := by
  have hs := s.isLt
  have hp := p.isLt
  have hv : (nL s p).val = 4096 + (s.val * 1024 + p.val) := rfl
  refine (dif_neg (show ¬ (nL s p).val < 4096 by omega)).trans ?_
  refine congrArg₂ (fun (s : Fin 8) (p : Fin 1024) => a1 V0 (ix3 s p d)) (Fin.ext ?_) (Fin.ext ?_) <;> (try simp only) <;> omega

theorem yL (s : Fin 8) (p : Fin 1024) (k : Fin 512) : (ins V0).y (nL s p) k = a6 V0 (ix2 (⟨s.val * 1024 + p.val, by omega⟩ : Fin 8192) k) := by
  have hs := s.isLt
  have hp := p.isLt
  have hv : (nL s p).val = 4096 + (s.val * 1024 + p.val) := rfl
  refine (dif_neg (show ¬ (nL s p).val < 4096 by omega)).trans ?_
  refine congrArg (fun n : Fin 8192 => a6 V0 (ix2 n k)) (Fin.ext ?_)
  try simp only
  omega

theorem mdL (s : Fin 8) (p : Fin 1024) (l : Fin 6144) : (ins V0).md (modRow (nL s p)) l = r106 V0 (ix3 s (0 : Fin 1) l) := by
  have hs := s.isLt
  have hp := p.isLt
  have hv : (nL s p).val = 4096 + (s.val * 1024 + p.val) := rfl
  rw [r106_at]
  refine congrArg (fun r : Fin 16 => a2 V0 (ix2 r l)) ?_
  unfold modRow
  rw [if_neg (by omega)]
  exact Fin.ext (by show 1 + ((nL s p).val - 4096) / 1024 = 1 + s.val; omega)

theorem residL (s : Fin 8) (p : Fin 1024) (d : Fin 1024) : r145 V0 (ix3 s p d) = (ins V0).resid (nL s p) d := by
  have e : (ins V0).resid (nL s p) d = residOf (a1 V0 (ix3 s p d)) (r106 V0 (ix3 s (0 : Fin 1) ⟨2048 + d.val, by omega⟩))
      (fun d => mergedOf (a7 V0 (ix2 (nL s p) d)) (a8 V0 (ix2 (nL s p) d))
        (fun k => convOf (a4 V0 (ix2 (nL s p) k)) (a9 V0 (ix3 (0 : Fin 1) (0 : Fin 3) k)) (a9 V0 (ix3 (0 : Fin 1) (1 : Fin 3) k))
          (a9 V0 (ix3 (0 : Fin 1) (2 : Fin 3) k)) (r113 V0 (ix3 s (⟨p.val, by omega⟩ : Fin 1026) k))
          (r113 V0 (ix3 s (⟨1 + p.val, by omega⟩ : Fin 1026) k)) (r113 V0 (ix3 s (⟨2 + p.val, by omega⟩ : Fin 1026) k)))
        (fun k => a6 V0 (ix2 (⟨s.val * 1024 + p.val, by omega⟩ : Fin 8192) k)) (fun k => a10 V0 (ix3 (0 : Fin 1) k d))
        (fun k => a11 V0 (ix3 (0 : Fin 1) k d)))
      (fun e => a12 V0 (ix3 (0 : Fin 1) e d)) := by
    unfold Inputs.resid
    rw [xL, mdL]
    refine congrArg (fun f => residOf _ _ f _) (funext fun d => ?_)
    unfold Inputs.merged
    rw [funext fun k => yL V0 s p k]
    refine congrArg (fun f => mergedOf _ _ f _ _ _) (funext fun k => ?_)
    unfold Inputs.conv
    rw [prevL, hereL, nextL]
    rfl
  rw [e]
  unfold r145 Value.res_main_v145
  pointwise [Value.res_main_v0, Value.res_main_v1, Value.res_main_v2, Value.res_main_v3]
  rfl

theorem normedL (s : Fin 8) (p : Fin 1024) (d : Fin 1024) : r169 V0 (ix3 s p d) = (ins V0).normed (nL s p) d := by
  have e : (ins V0).normed (nL s p) d
      = normOf (fun d => r145 V0 (ix3 s p d)) (a13 V0 (ix2 (0 : Fin 1) d)) (a14 V0 (ix2 (0 : Fin 1) d)) d := by
    rw [funext fun d => residL V0 s p d]
    rfl
  rw [e]
  unfold r169 Value.res_main_v169
  pointwise [Value.res_main_v151, Value.res_main_v149, Value.res_main_v4, Value.res_main_v5]
  rfl

theorem modulatedL (s : Fin 8) (p : Fin 1024) (d : Fin 1024) :
    r176 V0 (ix2 (⟨s.val * 1024 + p.val, by omega⟩ : Fin 8192) d) = (ins V0).modulated (nL s p) d := by
  have e : (ins V0).modulated (nL s p) d = r169 V0 (ix3 s p d) * (1 + r106 V0 (ix3 s (0 : Fin 1) ⟨4096 + d.val, by omega⟩))
      + r106 V0 (ix3 s (0 : Fin 1) ⟨3072 + d.val, by omega⟩) := by
    unfold Inputs.modulated
    rw [normedL, mdL, mdL]
  rw [e]
  unfold r176 Value.res_main_v176
  pointwise
  rfl

/-- The context's tokens and then the latent ones. -/
def joined {φ : FTy} (f : FVec Ideal S4096x1024 φ) (g : FVec Ideal S8192x1024 φ) : FVec Ideal S12288x1024 φ :=
  concatenate S12288x1024 0 [⟨S4096x1024, f⟩, ⟨S8192x1024, g⟩] concatenates_S4096x1024_S8192x1024_S12288x1024_d0

theorem joined_at {φ : FTy} (f : FVec Ideal S4096x1024 φ) (g : FVec Ideal S8192x1024 φ) (n : Fin 12288) (d : Fin 1024) :
    joined f g (ix2 n d) = if h : n.val < 4096 then f (ix2 (⟨n.val, h⟩ : Fin 4096) d) else g (ix2 (⟨n.val - 4096, by omega⟩ : Fin 8192) d) := by
  pointwise [joined]

/-- The scores of the context's tokens, from their features, the queries' weights and the keys. -/
def scoresC (u : FVec Ideal S4096x1024 .f32) (w : FVec Ideal S1024x2048 .f32) (k : FVec Ideal S8x2x128x128 .f32) : FVec Ideal S4096x2048 .f32 :=
  shapeCast _ (transpose S4096x8x2x128 [3, 0, 1, 2] (Host.dotGeneral dot_S8x2x128x128_S4096x8x2x128_S8x2x128x4096_3_3_2_0_01_12 none k
    (shapeCast _ (Host.dotGeneral dot_S4096x1024_S1024x2048_S4096x2048_1_0_0_1_n_n none u w) shapeCasts_S4096x2048_S4096x8x2x128))
    transposes_S8x2x128x4096_S4096x8x2x128_3_0_1_2) shapeCasts_S4096x8x2x128_S4096x2048

theorem scoresC_at (u : FVec Ideal S4096x1024 .f32) (w : FVec Ideal S1024x2048 .f32) (k : FVec Ideal S8x2x128x128 .f32) (n : Fin 4096) (r : Fin 2048) :
    scoresC u w k (ix2 n r)
      = ∑ e : Fin 128, k (ix4 (⟨r.val / 256, by omega⟩ : Fin 8) (⟨r.val / 128 % 2, Nat.mod_lt _ (by decide)⟩ : Fin 2)
          (⟨r.val % 128, Nat.mod_lt _ (by decide)⟩ : Fin 128) e)
        * ∑ d : Fin 1024, u (ix2 n d) * w (ix2 d ⟨r.val / 256 * 256 + r.val / 128 % 2 * 128 + e.val, by omega⟩) := by
  pointwise [scoresC]

/-- The scores of the latent tokens, from their features, the queries' weights and the keys. -/
def scoresL (u : FVec Ideal S8192x1024 .f32) (w : FVec Ideal S1024x2048 .f32) (k : FVec Ideal S8x2x128x128 .f32) : FVec Ideal S8192x2048 .f32 :=
  shapeCast _ (transpose S8192x8x2x128 [3, 0, 1, 2] (Host.dotGeneral dot_S8x2x128x128_S8192x8x2x128_S8x2x128x8192_3_3_2_0_01_12 none k
    (shapeCast _ (Host.dotGeneral dot_S8192x1024_S1024x2048_S8192x2048_1_0_0_1_n_n none u w) shapeCasts_S8192x2048_S8192x8x2x128))
    transposes_S8x2x128x8192_S8192x8x2x128_3_0_1_2) shapeCasts_S8192x8x2x128_S8192x2048

theorem scoresL_at (u : FVec Ideal S8192x1024 .f32) (w : FVec Ideal S1024x2048 .f32) (k : FVec Ideal S8x2x128x128 .f32) (n : Fin 8192) (r : Fin 2048) :
    scoresL u w k (ix2 n r)
      = ∑ e : Fin 128, k (ix4 (⟨r.val / 256, by omega⟩ : Fin 8) (⟨r.val / 128 % 2, Nat.mod_lt _ (by decide)⟩ : Fin 2)
          (⟨r.val % 128, Nat.mod_lt _ (by decide)⟩ : Fin 128) e)
        * ∑ d : Fin 1024, u (ix2 n d) * w (ix2 d ⟨r.val / 256 * 256 + r.val / 128 % 2 * 128 + e.val, by omega⟩) := by
  pointwise [scoresL]

/-- The queries' weights. -/
def r6 : FVec Ideal S1024x2048 .f32 := Value.res_main_v6 V0
/-- The keys. -/
def r7 : FVec Ideal S8x2x128x128 .f32 := Value.res_main_v7 V0

theorem r6_at (d : Fin 1024) (r : Fin 2048) : r6 V0 (ix2 d r) = (ins V0).wq d r := by
  show r6 V0 (ix2 d r) = a15 V0 (ix3 (0 : Fin 1) d r)
  unfold r6 Value.res_main_v6 a15
  generalize V0 (Proc.devRef .tc main_arg15) = x
  pointwise

theorem r7_at (g : Fin 8) (z : Fin 2) (k e : Fin 128) : r7 V0 (ix4 g z k e) = a16 V0 (ix5 (0 : Fin 1) g z k e) := by
  unfold r7 Value.res_main_v7 a16
  generalize V0 (Proc.devRef .tc main_arg16) = x
  pointwise

/-- The specification's score, with the keys first and the groups in two axes. -/
theorem score_keys (r : Fin 2048) (n : Fin 12288) : (ins V0).score r n
    = ∑ e : Fin 128, r7 V0 (ix4 (⟨r.val / 256, by omega⟩ : Fin 8) (⟨r.val / 128 % 2, Nat.mod_lt _ (by decide)⟩ : Fin 2)
          (⟨r.val % 128, Nat.mod_lt _ (by decide)⟩ : Fin 128) e)
        * ∑ d : Fin 1024, (ins V0).modulated n d * r6 V0 (ix2 d ⟨r.val / 256 * 256 + r.val / 128 % 2 * 128 + e.val, by omega⟩) := by
  unfold Inputs.score scoreOf
  refine Finset.sum_congr rfl fun e _ => ?_
  rw [mul_comm]
  refine congrArg₂ (· * ·) ?_ (Finset.sum_congr rfl fun d _ => congrArg (fun t => (ins V0).modulated n d * t) ?_)
  · rw [r7_at]
    refine congrArg (fun g : Fin 8 => a16 V0 (ix5 (0 : Fin 1) g (⟨r.val / 128 % 2, Nat.mod_lt _ (by decide)⟩ : Fin 2)
      (⟨r.val % 128, Nat.mod_lt _ (by decide)⟩ : Fin 128) e)) (Fin.ext ?_)
    show r.val / 128 / 2 = r.val / 256
    omega
  · rw [r6_at]
    refine congrArg ((ins V0).wq d) (Fin.ext ?_)
    show r.val / 128 * 128 + e.val = r.val / 256 * 256 + r.val / 128 % 2 * 128 + e.val
    omega

/-- Token `n` by its sequence and place. -/
theorem tokenC (n : Fin 4096) : nC (⟨n.val / 256, by omega⟩ : Fin 16) (⟨n.val % 256, Nat.mod_lt _ (by decide)⟩ : Fin 256)
    = ⟨n.val, by omega⟩ := by
  refine Fin.ext ?_
  show (n.val / 256 * 256 + n.val % 256) = n.val
  omega

theorem modRowC (n : Fin 4096) (d : Fin 1024) : r88 V0 (ix2 n d) = (ins V0).modulated ⟨n.val, by omega⟩ d := by
  have e := modulatedC V0 (⟨n.val / 256, by omega⟩ : Fin 16) (⟨n.val % 256, Nat.mod_lt _ (by decide)⟩ : Fin 256) d
  rw [tokenC] at e
  rw [← e]
  refine congrArg (fun n : Fin 4096 => r88 V0 (ix2 n d)) (Fin.ext ?_)
  show n.val = n.val / 256 * 256 + n.val % 256
  omega

/-- The normed features, in rows. -/
def rowsC (x : FVec Ideal S16x256x1024 .f32) : FVec Ideal S4096x1024 .f32 := shapeCast S4096x1024 x shapeCasts_S16x256x1024_S4096x1024

theorem rowsC_at (x : FVec Ideal S16x256x1024 .f32) (n : Fin 4096) (d : Fin 1024) : rowsC x (ix2 n d)
    = x (ix3 (⟨n.val / 256, by omega⟩ : Fin 16) (⟨n.val % 256, Nat.mod_lt _ (by decide)⟩ : Fin 256) d) := by
  pointwise [rowsC]

theorem normRowC (n : Fin 4096) (d : Fin 1024) : rowsC (r81 V0) (ix2 n d) = (ins V0).normed ⟨n.val, by omega⟩ d := by
  rw [rowsC_at, normedC, tokenC]

theorem scoreRowC (n : Fin 4096) (r : Fin 2048) :
    scoresC (r88 V0) (r6 V0) (r7 V0) (ix2 n r) = (ins V0).score r ⟨n.val, by omega⟩ := by
  rw [scoresC_at, score_keys]
  refine Finset.sum_congr rfl fun e _ => congrArg (_ * ·) (Finset.sum_congr rfl fun d _ => ?_)
  rw [modRowC]

/-- Token `n` by its sequence and place. -/
theorem tokenL (n : Fin 8192) : nL (⟨n.val / 1024, by omega⟩ : Fin 8) (⟨n.val % 1024, Nat.mod_lt _ (by decide)⟩ : Fin 1024)
    = ⟨4096 + n.val, by omega⟩ := by
  refine Fin.ext ?_
  show 4096 + (n.val / 1024 * 1024 + n.val % 1024) = 4096 + n.val
  omega

theorem modRowL (n : Fin 8192) (d : Fin 1024) : r176 V0 (ix2 n d) = (ins V0).modulated ⟨4096 + n.val, by omega⟩ d := by
  have e := modulatedL V0 (⟨n.val / 1024, by omega⟩ : Fin 8) (⟨n.val % 1024, Nat.mod_lt _ (by decide)⟩ : Fin 1024) d
  rw [tokenL] at e
  rw [← e]
  refine congrArg (fun n : Fin 8192 => r176 V0 (ix2 n d)) (Fin.ext ?_)
  show n.val = n.val / 1024 * 1024 + n.val % 1024
  omega

/-- The normed features, in rows. -/
def rowsL (x : FVec Ideal S8x1024x1024 .f32) : FVec Ideal S8192x1024 .f32 := shapeCast S8192x1024 x shapeCasts_S8x1024x1024_S8192x1024

theorem rowsL_at (x : FVec Ideal S8x1024x1024 .f32) (n : Fin 8192) (d : Fin 1024) : rowsL x (ix2 n d)
    = x (ix3 (⟨n.val / 1024, by omega⟩ : Fin 8) (⟨n.val % 1024, Nat.mod_lt _ (by decide)⟩ : Fin 1024) d) := by
  pointwise [rowsL]

theorem normRowL (n : Fin 8192) (d : Fin 1024) : rowsL (r169 V0) (ix2 n d) = (ins V0).normed ⟨4096 + n.val, by omega⟩ d := by
  rw [rowsL_at, normedL, tokenL]

theorem scoreRowL (n : Fin 8192) (r : Fin 2048) :
    scoresL (r176 V0) (r6 V0) (r7 V0) (ix2 n r) = (ins V0).score r ⟨4096 + n.val, by omega⟩ := by
  rw [scoresL_at, score_keys]
  refine Finset.sum_congr rfl fun e _ => congrArg (_ * ·) (Finset.sum_congr rfl fun d _ => ?_)
  rw [modRowL]

/-- The normed features, of all tokens. -/
def x1 : FVec Ideal S12288x1024 .f32 := joined (rowsC (r81 V0)) (rowsL (r169 V0))
/-- The modulated features, of all tokens. -/
def u2 : FVec Ideal S12288x1024 .bf16 := joined (truncf .bf16 (r88 V0) bitsLt_bf16_f32) (truncf .bf16 (r176 V0) bitsLt_bf16_f32)
/-- The scores, one row for each key. -/
def st : FVec Ideal S2048x12288 .f32 :=
  transpose S2048x12288 [1, 0] (concatenate S12288x2048 0 [⟨S4096x2048, scoresC (r88 V0) (r6 V0) (r7 V0)⟩,
    ⟨S8192x2048, scoresL (r176 V0) (r6 V0) (r7 V0)⟩] concatenates_S4096x2048_S8192x2048_S12288x2048_d0) transposes_S12288x2048_S2048x12288_1_0

theorem x1_at (n : Fin 12288) (d : Fin 1024) : x1 V0 (ix2 n d) = (ins V0).normed n d := by
  unfold x1
  rw [joined_at]
  by_cases h : n.val < 4096
  · rw [dif_pos h, normRowC]
  · rw [dif_neg h, normRowL]
    refine congrArg (fun n => (ins V0).normed n d) (Fin.ext ?_)
    show 4096 + (n.val - 4096) = n.val
    omega

theorem u2_at (n : Fin 12288) (d : Fin 1024) : u2 V0 (ix2 n d) = (ins V0).modulated n d := by
  unfold u2
  rw [joined_at]
  by_cases h : n.val < 4096
  · rw [dif_pos h]
    exact modRowC V0 _ d
  · rw [dif_neg h]
    refine (modRowL V0 _ d).trans (congrArg (fun n => (ins V0).modulated n d) (Fin.ext ?_))
    show 4096 + (n.val - 4096) = n.val
    omega

theorem st_at (r : Fin 2048) (n : Fin 12288) : st V0 (ix2 r n) = (ins V0).score r n := by
  have e : st V0 (ix2 r n) = if h : n.val < 4096 then scoresC (r88 V0) (r6 V0) (r7 V0) (ix2 (⟨n.val, h⟩ : Fin 4096) r)
      else scoresL (r176 V0) (r6 V0) (r7 V0) (ix2 (⟨n.val - 4096, by omega⟩ : Fin 8192) r) := by
    unfold st
    generalize scoresC (r88 V0) (r6 V0) (r7 V0) = y
    generalize scoresL (r176 V0) (r6 V0) (r7 V0) = z
    pointwise
  rw [e]
  by_cases h : n.val < 4096
  · rw [dif_pos h, scoreRowC]
  · rw [dif_neg h, scoreRowL]
    refine congrArg (fun n => (ins V0).score r n) (Fin.ext ?_)
    show 4096 + (n.val - 4096) = n.val
    omega

/-- An index of two axes is its two coordinates. -/
theorem two_axes {n k : ℕ} (y : (⟨2, ![n, k]⟩ : Shape).Idx) : y = ix2 (y 0 : Fin n) (y 1 : Fin k) := by
  funext a
  fin_cases a <;> rfl

/-- The reference's normed features are the specification's. -/
theorem x1_eq : x1 V0 = fun j : S12288x1024.Idx => (ins V0).normed (j 0) (j 1) := by
  funext j
  exact (congrArg (x1 V0) (two_axes j)).trans (x1_at V0 (j 0) (j 1))

/-- The reference's modulated features are the specification's. -/
theorem u2_eq : u2 V0 = fun j : S12288x1024.Idx => (ins V0).modulated (j 0) (j 1) := by
  funext j
  exact (congrArg (u2 V0) (two_axes j)).trans (u2_at V0 (j 0) (j 1))

/-- The reference's scores are the specification's. -/
theorem st_eq : st V0 = fun j : S2048x12288.Idx => (ins V0).score (j 0) (j 1) := by
  funext j
  exact (congrArg (st V0) (two_axes j)).trans (st_at V0 (j 0) (j 1))

end Cert.Merge.Ref

end
-- ==== Proof.Proj.Spec.lean ====
/- The modulation and the input projection at one token, as sums. -/
module

public import Idealize.ShloMosaic.PureOps.Ideal
public import Idealize.ShloMosaic.Lib.Pointwise

@[expose] public section

noncomputable section

namespace Cert.Proj

open Idealize.ShloMosaic

/-- The logistic function. -/
def gate (z : EReal) : EReal := Ideal.div 1 (1 + Ideal.exp (-z))

/-- One entry of a modulation vector, from its condition. -/
def modOf (a : Fin 1024 → EReal) (w : Fin 1024 → Fin 6144 → EReal) (b : Fin 6144 → EReal) (l : Fin 6144) : EReal :=
  ∑ d, a d * gate (a d) * w d l + b l

/-- One column of a token's projection, from its features and its modulation. -/
def projOf (x : Fin 1024 → EReal) (v : Fin 6144 → EReal) (w : Fin 1024 → Fin 5120 → EReal) (l : Fin 5120) : EReal :=
  ∑ d : Fin 1024, (x d * (1 + v ⟨1024 + d.val, by omega⟩) + v ⟨d.val, by omega⟩) * w d l

/-- A column of the projection: column `l` of the piece that starts at `o`. -/
abbrev col (o : Fin 4097) (l : Fin 1024) : Fin 5120 := ⟨o.val + l.val, by omega⟩

/-- The sequence of latent tokens of token `n`. -/
abbrev seqOf (n : Fin 12288) (h : ¬ n.val < 4096) : Fin 8 := ⟨(n.val - 4096) / 1024, by omega⟩
/-- Its place there. -/
abbrev posOf (n : Fin 12288) : Fin 1024 := ⟨(n.val - 4096) % 1024, Nat.mod_lt _ (by decide)⟩

/-- The features of token `n`. -/
def rowOf (xc : Fin 16 → Fin 256 → Fin 1024 → EReal) (xl : Fin 8 → Fin 1024 → Fin 1024 → EReal) (n : Fin 12288) (d : Fin 1024) : EReal :=
  if h : n.val < 4096 then xc ⟨n.val / 256, by omega⟩ ⟨n.val % 256, Nat.mod_lt _ (by decide)⟩ d else xl (seqOf n h) (posOf n) d

/-- The condition of token `n`. -/
def condOf (cc : Fin 1024 → EReal) (cl : Fin 8 → Fin 1024 → EReal) (n : Fin 12288) (d : Fin 1024) : EReal :=
  if h : n.val < 4096 then cc d else cl (seqOf n h) d

end Cert.Proj

end
-- ==== Proof.Proj.Block.lean ====
/- The input projection's body: each output's block at a grid point, from the blocks it reads. -/
module

public import proofs.«01_k».proof.Proof.Gen.Kernel2Ideal.Frame
public import proofs.«01_k».proof.Proof.Proj.Spec
public import Idealize.ShloMosaic.Lib.Tactic
public import Idealize.ShloMosaic.Lib.Pipeline.ValueKit
public import Idealize.ShloMosaic.Lib.Pointwise

@[expose] public section

set_option maxRecDepth 16384

noncomputable section

namespace Cert.Proj.Ker

open Cert.Kernel2Ideal Cert.Kernel2Ideal.Gen Idealize.ShloMosaic Idealize.ShloMosaic.TcCoe Cert.Proj

/-- The tile that the body modulates: the context's in the first sixteen points, the latents' later. -/
def tile (i : grid1.Coords) (x0 x1 : Vec Ideal S256x1024 .f32) : Vec Ideal S256x1024 .f32 :=
  Scalar.select (Scalar.cmpi .slt (BitVec.ofNat 32 (i 0).val) 16#32) x0 x1

theorem select_at (b : BitVec 1) (x y : Vec Ideal S256x1024 .f32) (j : S256x1024.Idx) :
    Scalar.select b x y j = Scalar.select b (x j) (y j) := by
  unfold Scalar.select
  split <;> rfl

/-- The body's logistic function is the one of the specification. -/
theorem logistic_at (z : FVec Ideal S256x1024 .f32) (j : S256x1024.Idx) : logistic z j = gate (z j) := by
  pointwise
  rfl

theorem shift_at (x : Vec Ideal S1x1x6144 .f32) (d : Fin 1024) :
    View.ld x r1_0 (ix3 (0 : Fin 1) (0 : Fin 1) d) = x (ix3 (0 : Fin 1) (0 : Fin 1) ⟨d.val, by omega⟩) := by
  rw [View.ld_apply]
  refine congrArg x (funext fun a => Fin.ext ?_)
  fin_cases a
  · rfl
  · rfl
  · show 0 + 1 * d.val = d.val
    omega

theorem scale_at (x : Vec Ideal S1x1x6144 .f32) (d : Fin 1024) :
    View.ld x r1_1 (ix3 (0 : Fin 1) (0 : Fin 1) d) = x (ix3 (0 : Fin 1) (0 : Fin 1) ⟨1024 + d.val, by omega⟩) := by
  rw [View.ld_apply]
  refine congrArg x (funext fun a => Fin.ext ?_)
  fin_cases a
  · rfl
  · rfl
  · show 1024 + 1 * d.val = 1024 + d.val
    omega

/-- The modulated tile. -/
theorem modulated_at (i : grid1.Coords) (v0 v2 : Vec Ideal S1x1x1024 .f32) (x0 x1 : Vec Ideal S256x1024 .f32) (p : Fin 256) (d : Fin 1024) :
    k1_pay6 i v0 v2 x0 x1 (ix2 p d) = tile i x0 x1 (ix2 p d) * (1 + v2 (ix3 (0 : Fin 1) (0 : Fin 1) d)) + v0 (ix3 (0 : Fin 1) (0 : Fin 1) d) := by
  have e : tile i x0 x1 (ix2 p d)
      = Scalar.select (Scalar.cmpi .slt (BitVec.ofNat 32 (i 0).val) 16#32) (x0 (ix2 p d)) (x1 (ix2 p d)) := by
    unfold tile
    exact select_at _ _ _ _
  rw [e]
  pointwise [k1_pay6]

/-- One column of the projection of row `p` of a point's tile. -/
def projAt (i : grid1.Coords) (x0 x1 : Vec Ideal S256x1024 .f32) (x2 : Vec Ideal S1x1x6144 .f32) (x3 : Vec Ideal S1024x5120 .bf16)
    (p : Fin 256) (l : Fin 5120) : EReal :=
  projOf (fun d => tile i x0 x1 (ix2 p d)) (fun l => x2 (ix3 (0 : Fin 1) (0 : Fin 1) l)) (fun d l => x3 (ix2 d l)) l

section
variable (i : grid1.Coords) (x0 x1 : Vec Ideal S256x1024 .f32) (x2 : Vec Ideal S1x1x6144 .f32) (x3 : Vec Ideal S1024x5120 .bf16)

/-- The modulated tile, from the blocks. -/
def modulated : FVec Ideal S256x1024 .bf16 := k1_pay6 i (View.ld x2 r1_0) (View.ld x2 r1_1) x0 x1

/-- The product of the modulated tile with the columns of the weights from `o` on. -/
theorem product_at (p : Fin 256) (l : Fin 5120) (w : Fin 1024 → EReal) (hw : ∀ d, w d = x3 (ix2 d l)) :
    ∑ d : Fin 1024, modulated i x0 x1 x2 (ix2 p d) * w d = projAt i x0 x1 x2 x3 p l := by
  unfold projAt projOf modulated
  refine Finset.sum_congr rfl fun d _ => ?_
  rw [modulated_at, shift_at, scale_at, hw]

theorem column_512 (o : ℕ) (inb : ∀ a, (![0, o] : Fin 2 → ℕ) a + S1024x512.size a ≤ S1024x5120.size a) (d : Fin 1024) (l : Fin 512) (k : Fin 5120) (hk : k.val = o + l.val) :
    View.ld x3 (Rect.unit (s := S1024x5120) ![0, o] S1024x512.size inb) (ix2 d l) = x3 (ix2 d k) := by
  rw [View.ld_apply]
  refine congrArg x3 (funext fun a => Fin.ext ?_)
  fin_cases a
  · show 0 + 1 * d.val = d.val
    omega
  · show o + 1 * l.val = k.val
    omega

theorem column_1024 (o : ℕ) (inb : ∀ a, (![0, o] : Fin 2 → ℕ) a + S1024x1024.size a ≤ S1024x5120.size a) (d : Fin 1024) (l : Fin 1024) (k : Fin 5120) (hk : k.val = o + l.val) :
    View.ld x3 (Rect.unit (s := S1024x5120) ![0, o] S1024x1024.size inb) (ix2 d l) = x3 (ix2 d k) := by
  rw [View.ld_apply]
  refine congrArg x3 (funext fun a => Fin.ext ?_)
  fin_cases a
  · show 0 + 1 * d.val = d.val
    omega
  · show o + 1 * l.val = k.val
    omega

theorem matmul_512 (u : FVec Ideal S256x1024 .bf16) (w : FVec Ideal S1024x512 .bf16) (p : Fin 256) (l : Fin 512) :
    matmul dot_S256x1024_S1024x512_S256x512_1_0_0_1_n_n none u (shapeCast S1024x512 w shapeCasts_S1024x512_S1024x512)
      (constant S256x512 .f32 0x00000000#32) (ix2 p l) = ∑ d : Fin 1024, u (ix2 p d) * w (ix2 d l) := by
  pointwise

theorem matmul_1024 (u : FVec Ideal S256x1024 .bf16) (w : FVec Ideal S1024x1024 .bf16) (p : Fin 256) (l : Fin 1024) :
    matmul dot_S256x1024_S1024x1024_S256x1024_1_0_0_1_n_n none u (shapeCast S1024x1024 w shapeCasts_S1024x1024_S1024x1024)
      (constant S256x1024 .f32 0x00000000#32) (ix2 p l) = ∑ d : Fin 1024, u (ix2 p d) * w (ix2 d l) := by
  pointwise

/-- The product of two pieces of the projection. -/
theorem block_4 (p : Fin 256) (l : Fin 512) : out1_4 i x0 x1 x2 x3 (ix2 p l)
    = projAt i x0 x1 x2 x3 p ⟨1024 + l.val, by omega⟩ * projAt i x0 x1 x2 x3 p ⟨0 + l.val, by omega⟩ := by
  unfold out1_4
  refine (congrFun (View.canon_cons_unit_lit _ _ [] (by decide)) _).trans ?_
  rw [View.ld_unit_lit _ x0 (by decide), View.ld_unit_lit _ x1 (by decide)]
  refine congrArg₂ (· * ·) ((matmul_512 (modulated i x0 x1 x2) (View.ld x3 r1_4) p l).trans ?_)
    ((matmul_512 (modulated i x0 x1 x2) (View.ld x3 r1_3) p l).trans ?_)
  · exact product_at i x0 x1 x2 x3 p _ _ fun d => column_512 x3 1024 _ d l _ rfl
  · exact product_at i x0 x1 x2 x3 p _ _ fun d => column_512 x3 0 _ d l _ rfl

/-- The gate of the convolution. -/
theorem block_5 (p : Fin 256) (l : Fin 512) : out1_5 i x0 x1 x2 x3 (ix2 p l) = projAt i x0 x1 x2 x3 p ⟨512 + l.val, by omega⟩ := by
  unfold out1_5
  refine (congrFun (View.canon_cons_unit_lit _ _ [] (by decide)) _).trans ?_
  rw [View.ld_unit_lit _ x0 (by decide), View.ld_unit_lit _ x1 (by decide)]
  refine (matmul_512 (modulated i x0 x1 x2) (View.ld x3 r1_6) p l).trans ?_
  exact product_at i x0 x1 x2 x3 p _ _ fun d => column_512 x3 512 _ d l _ rfl

theorem modulated_eq : k1_pay9 i x0 x1 x2 x3 = modulated i x0 x1 x2 := by
  unfold k1_pay9 modulated
  rw [View.ld_unit_lit _ x0 (by decide), View.ld_unit_lit _ x1 (by decide)]

/-- The queries, scaled. -/
theorem block_6 (p : Fin 256) (l : Fin 512) : out1_6 i x0 x1 x2 x3 (ix2 p l)
    = projAt i x0 x1 x2 x3 p ⟨1536 + l.val, by omega⟩ * Ideal.ofBits .f32 0x3E000000#32 := by
  unfold out1_6
  refine (congrFun (View.canon_cons_unit_lit _ _ [] (by decide)) _).trans ?_
  rw [modulated_eq]
  refine congrArg (· * Ideal.ofBits .f32 0x3E000000#32) ((matmul_512 (modulated i x0 x1 x2) (View.ld x3 r1_7) p l).trans ?_)
  exact product_at i x0 x1 x2 x3 p _ _ fun d => column_512 x3 1536 _ d l _ rfl

/-- The keys. -/
theorem block_7 (p : Fin 256) (l : Fin 512) : out1_7 i x0 x1 x2 x3 (ix2 p l) = projAt i x0 x1 x2 x3 p ⟨2048 + l.val, by omega⟩ := by
  unfold out1_7
  refine (congrFun (View.canon_cons_unit_lit _ _ [] (by decide)) _).trans ?_
  rw [modulated_eq]
  refine (matmul_512 (modulated i x0 x1 x2) (View.ld x3 r1_8) p l).trans ?_
  exact product_at i x0 x1 x2 x3 p _ _ fun d => column_512 x3 2048 _ d l _ rfl

/-- The values. -/
theorem block_8 (p : Fin 256) (l : Fin 512) : out1_8 i x0 x1 x2 x3 (ix2 p l) = projAt i x0 x1 x2 x3 p ⟨2560 + l.val, by omega⟩ := by
  unfold out1_8
  refine (congrFun (View.canon_cons_unit_lit _ _ [] (by decide)) _).trans ?_
  rw [modulated_eq]
  refine (matmul_512 (modulated i x0 x1 x2) (View.ld x3 r1_9) p l).trans ?_
  exact product_at i x0 x1 x2 x3 p _ _ fun d => column_512 x3 2560 _ d l _ rfl

/-- The gate of the convolution's branch. -/
theorem block_9 (p : Fin 256) (l : Fin 1024) : out1_9 i x0 x1 x2 x3 (ix2 p l) = gate (projAt i x0 x1 x2 x3 p ⟨3072 + l.val, by omega⟩) := by
  unfold out1_9
  refine (congrFun (View.canon_cons_unit_lit _ _ [] (by decide)) _).trans ?_
  rw [modulated_eq]
  refine (logistic_at _ _).trans (congrArg gate ((matmul_1024 (modulated i x0 x1 x2) (View.ld x3 r1_10) p l).trans ?_))
  exact product_at i x0 x1 x2 x3 p _ _ fun d => column_1024 x3 3072 _ d l _ rfl

/-- The gate of the attention's branch. -/
theorem block_10 (p : Fin 256) (l : Fin 1024) : out1_10 i x0 x1 x2 x3 (ix2 p l) = gate (projAt i x0 x1 x2 x3 p ⟨4096 + l.val, by omega⟩) := by
  unfold out1_10
  refine (congrFun (View.canon_cons_unit_lit _ _ [] (by decide)) _).trans ?_
  rw [modulated_eq]
  refine (logistic_at _ _).trans (congrArg gate ((matmul_1024 (modulated i x0 x1 x2) (View.ld x3 r1_11) p l).trans ?_))
  exact product_at i x0 x1 x2 x3 p _ _ fun d => column_1024 x3 4096 _ d l _ rfl

end

end Cert.Proj.Ker

end
-- ==== Proof.Proj.Mods.lean ====
/- The modulation: each entry of the first call's result. -/
module

public import proofs.«01_k».proof.Proof.Gen.Kernel2Ideal.Frame
public import proofs.«01_k».proof.Proof.Proj.Spec
public import Idealize.ShloMosaic.Lib.Tactic
public import Idealize.ShloMosaic.Lib.Pipeline.ValueKit
public import Idealize.ShloMosaic.Lib.Pointwise

@[expose] public section

set_option maxRecDepth 16384

noncomputable section

namespace Cert.Proj.Ker

open Cert.Kernel2Ideal Cert.Kernel2Ideal.Gen Idealize.ShloMosaic Idealize.ShloMosaic.TcCoe Cert.Proj

variable (V : (c : Dev nD) → (b : Ref sig .tc) → Buf (Elt Ideal) ((c : Thread nD τ).loc b))

/-- What the body leaves in its output's block. -/
theorem mods_block (x0 : Vec Ideal S16x1024 .f32) (x1 : Vec Ideal S1024x1536 .f32) (x2 : Vec Ideal S1x1536 .f32) (r : Fin 16)
    (l : Fin 1536) : out0_3 x0 x1 x2 (ix2 r l)
      = ∑ d : Fin 1024, x0 (ix2 r d) * gate (x0 (ix2 r d)) * x1 (ix2 d l) + x2 (ix2 (0 : Fin 1) l) := by
  unfold out0_3
  refine (congrFun (View.canon_cons_unit_lit _ _ [] (by decide)) _).trans ?_
  rw [View.ld_unit_lit _ x0 (by decide), View.ld_unit_lit _ x1 (by decide), View.ld_unit_lit _ x2 (by decide)]
  pointwise [k0_pay1]
  rfl

/-- An index of two axes is its two coordinates. -/
theorem two_axes {n k : ℕ} (y : (⟨2, ![n, k]⟩ : Shape).Idx) : y = ix2 (y 0 : Fin n) (y 1 : Fin k) := by
  funext a
  fin_cases a <;> rfl

theorem index0_0 : ∀ t : Fin grid0.N, win0_0.index t = ![0, 0] := by decide +kernel
theorem index0_1 : ∀ t : Fin grid0.N, win0_1.index t = ![0, t.val] := by decide +kernel
theorem index0_2 : ∀ t : Fin grid0.N, win0_2.index t = ![0, t.val] := by decide +kernel
theorem index0_3 : ∀ t : Fin grid0.N, win0_3.index t = ![0, t.val] := by decide +kernel

/-- The conditions, a row each. -/
def condV (c : Dev nD) : FVec Ideal S16x1024 .f32 := V c main_v4
/-- The modulation's matrix. -/
def adaV (c : Dev nD) : FVec Ideal S1024x6144 .f32 := V c main_v5
/-- The modulation's bias. -/
def biasV (c : Dev nD) : FVec Ideal S1x6144 .f32 := V c main_v7

/-- One entry of the first call's result. -/
def modAt (c : Dev nD) (r : Fin 16) (l : Fin 6144) : EReal :=
  modOf (fun d => condV V c (ix2 r d)) (fun d l => adaV V c (ix2 d l)) (fun l => biasV V c (ix2 (0 : Fin 1) l)) l

theorem mods_point (c : Dev nD) (t : Fin cfg0.N) (y : S16x1536.Idx) (r : Fin 16) (l : Fin 6144) (hr : r.val = (y 0).val)
    (hl : l.val = t.val * 1536 + (y 1).val) : out0_3 (iblk0 V c 0 t) (iblk0 V c 1 t) (iblk0 V c 2 t) y = modAt V c r l := by
  rw [two_axes y]
  refine (mods_block (iblk0 V c 0 t) (iblk0 V c 1 t) (iblk0 V c 2 t) (y 0) (y 1)).trans ?_
  have r0 : ∀ d : Fin 1024, iblk0 V c 0 t (ix2 (y 0 : Fin 16) d) = condV V c (ix2 r d) := by
    intro d
    blk_ext [iblk0, condV, index0_0 t, hr]
  have r1 : ∀ d : Fin 1024, iblk0 V c 1 t (ix2 d (y 1 : Fin 1536)) = adaV V c (ix2 d l) := by
    intro d
    blk_ext [iblk0, adaV, index0_1 t, hl]
  have r2 : iblk0 V c 2 t (ix2 (0 : Fin 1) (y 1 : Fin 1536)) = biasV V c (ix2 (0 : Fin 1) l) := by
    blk_ext [iblk0, biasV, index0_2 t, hl]
  unfold modAt modOf
  refine congrArg₂ (· + ·) (Finset.sum_congr rfl fun d _ => ?_) r2
  rw [r0, r1]

/-- The first call's result. -/
theorem mods_array (c : Dev nD) : (dat0 V c).arrAt 3 cfg0.N = fun j : S16x6144.Idx => modAt V c (j 0) (j 1) := by
  refine (dat0 V c).arrAt_eq_of_covers 3 _ (by decide +kernel) fun t hf y => ?_
  have e0 : (((cfg0.win 3).blk t).view.emb y 0).val = (y 0).val := by
    blk_simp [index0_3 t]
  have e1 : (((cfg0.win 3).blk t).view.emb y 1).val = t.val * 1536 + (y 1).val := by
    blk_simp [index0_3 t]
  show _ = modAt V c (((cfg0.win 3).blk t).view.emb y 0) (((cfg0.win 3).blk t).view.emb y 1)
  blk_simp
  rw [after0_3]
  exact mods_point V c t y _ _ e0 e1

end Cert.Proj.Ker

end
-- ==== Proof.Proj.Inproj.lean ====
/- The input projection's results: each entry, from the arrays the call reads. -/
module

public import proofs.«01_k».proof.Proof.Proj.Block
public import proofs.«01_k».proof.Proof.Proj.Mods

@[expose] public section

set_option maxRecDepth 16384

noncomputable section

namespace Cert.Proj.Ker

open Cert.Kernel2Ideal Cert.Kernel2Ideal.Gen Idealize.ShloMosaic Idealize.ShloMosaic.TcCoe Cert.Proj

variable (V : (c : Dev nD) → (b : Ref sig .tc) → Buf (Elt Ideal) ((c : Thread nD τ).loc b))

theorem early : ∀ t : Fin grid1.N, Scalar.cmpi .slt (BitVec.ofNat 32 (grid1.coords t 0).val) 16#32 = if t.val < 16 then 1#1 else 0#1 := by
  decide +kernel
theorem index1_0 : ∀ t : Fin grid1.N, win1_0.index t = ![min t.val 15, 0] := by decide +kernel
theorem index1_1 : ∀ t : Fin grid1.N, win1_1.index t = ![t.val - 16, 0] := by decide +kernel
theorem index1_2 : ∀ t : Fin grid1.N, win1_2.index t = ![if t.val < 16 then 0 else 1 + (t.val - 16) / 4, 0, 0] := by decide +kernel
theorem index1_3 : ∀ t : Fin grid1.N, win1_3.index t = ![0, 0] := by decide +kernel
theorem index1_4 : ∀ t : Fin grid1.N, win1_4.index t = ![t.val, 0] := by decide +kernel
theorem index1_5 : ∀ t : Fin grid1.N, win1_5.index t = ![t.val, 0] := by decide +kernel
theorem index1_6 : ∀ t : Fin grid1.N, win1_6.index t = ![t.val, 0] := by decide +kernel
theorem index1_7 : ∀ t : Fin grid1.N, win1_7.index t = ![t.val, 0] := by decide +kernel
theorem index1_8 : ∀ t : Fin grid1.N, win1_8.index t = ![t.val, 0] := by decide +kernel
theorem index1_9 : ∀ t : Fin grid1.N, win1_9.index t = ![t.val, 0] := by decide +kernel
theorem index1_10 : ∀ t : Fin grid1.N, win1_10.index t = ![t.val, 0] := by decide +kernel

/-- The context's tokens. -/
def ctxV (c : Dev nD) : FVec Ideal S4096x1024 .f32 := V c main_v0
/-- The latent tokens. -/
def latV (c : Dev nD) : FVec Ideal S8192x1024 .f32 := V c main_v1
/-- The modulation vectors. -/
def modV (c : Dev nD) : FVec Ideal S16x1x6144 .f32 := V c main_v9
/-- The projection's weights. -/
def inV (c : Dev nD) : FVec Ideal S1024x5120 .bf16 := V c main_v11

/-- The features of token `n`, in the arrays of rows. -/
def tokenV (c : Dev nD) (n : Fin 12288) (d : Fin 1024) : EReal :=
  if h : n.val < 4096 then ctxV V c (ix2 (⟨n.val, h⟩ : Fin 4096) d) else latV V c (ix2 (⟨n.val - 4096, by omega⟩ : Fin 8192) d)

/-- The modulation vector of token `n`. -/
def modRow (n : Fin 12288) : Fin 16 := if n.val < 4096 then 0 else ⟨1 + (n.val - 4096) / 1024, by omega⟩

/-- One column of the projection of token `n`. -/
def tokAt (c : Dev nD) (n : Fin 12288) (l : Fin 5120) : EReal :=
  projOf (tokenV V c n) (fun l => modV V c (ix3 (modRow n) (0 : Fin 1) l)) (fun d l => inV V c (ix2 d l)) l

theorem tile_at (c : Dev nD) (t : Fin cfg1.N) (p : Fin 256) (d : Fin 1024) (n : Fin 12288) (hn : n.val = t.val * 256 + p.val) :
    tile (grid1.coords t) (iblk1 V c 0 t) (iblk1 V c 1 t) (ix2 p d) = tokenV V c n d := by
  have hp := p.isLt
  have hw := early t
  unfold tile tokenV
  rw [hw]
  by_cases ht : t.val < 16
  · rw [if_pos ht, dif_pos (by omega)]
    show iblk1 V c 0 t (ix2 p d) = _
    have hm : n.val = min t.val 15 * 256 + p.val := by omega
    blk_ext [iblk1, ctxV, index1_0 t, hm]
  · rw [if_neg ht, dif_neg (by omega)]
    show iblk1 V c 1 t (ix2 p d) = _
    have hm : n.val - 4096 = (t.val - 16) * 256 + p.val := by omega
    blk_ext [iblk1, latV, index1_1 t, hm]

theorem mod_at (c : Dev nD) (t : Fin cfg1.N) (p : Fin 256) (l : Fin 6144) (n : Fin 12288) (hn : n.val = t.val * 256 + p.val) :
    iblk1 V c 2 t (ix3 (0 : Fin 1) (0 : Fin 1) l) = modV V c (ix3 (modRow n) (0 : Fin 1) l) := by
  have hp := p.isLt
  have hr : (modRow n).val = if t.val < 16 then 0 else 1 + (t.val - 16) / 4 := by
    unfold modRow
    by_cases ht : t.val < 16
    · rw [if_pos ht, if_pos (by omega)]
      rfl
    · rw [if_neg ht, if_neg (by omega)]
      show 1 + (n.val - 4096) / 1024 = _
      omega
  generalize modRow n = r at hr
  blk_ext [iblk1, modV, index1_2 t, hr]

/-- One column of a row of a point's tile is that of the token it holds. -/
theorem point_at (c : Dev nD) (t : Fin cfg1.N) (p : Fin 256) (n : Fin 12288) (hn : n.val = t.val * 256 + p.val) (l : Fin 5120) :
    projAt (grid1.coords t) (iblk1 V c 0 t) (iblk1 V c 1 t) (iblk1 V c 2 t) (iblk1 V c 3 t) p l = tokAt V c n l := by
  have r3 : ∀ (d : Fin 1024) (l : Fin 5120), iblk1 V c 3 t (ix2 d l) = inV V c (ix2 d l) := by
    intro d l
    blk_ext [iblk1, inV, index1_3 t]
  unfold projAt tokAt
  rw [funext fun d => tile_at V c t p d n hn, funext fun l => mod_at V c t p l n hn, funext fun d => funext fun l => r3 d l]

/-- The product of two pieces. -/
def hAt (c : Dev nD) (n : Fin 12288) (l : Fin 512) : EReal := tokAt V c n ⟨1024 + l.val, by omega⟩ * tokAt V c n ⟨0 + l.val, by omega⟩

theorem h_point (c : Dev nD) (t : Fin cfg1.N) (y : S256x512.Idx) (n : Fin 12288) (l : Fin 512) (hn : n.val = t.val * 256 + (y 0).val)
    (hl : l.val = (y 1).val) :
    out1_4 (grid1.coords t) (iblk1 V c 0 t) (iblk1 V c 1 t) (iblk1 V c 2 t) (iblk1 V c 3 t) y = hAt V c n l := by
  obtain rfl : l = y 1 := Fin.ext hl
  rw [two_axes y]
  refine (block_4 (grid1.coords t) (iblk1 V c 0 t) (iblk1 V c 1 t) (iblk1 V c 2 t) (iblk1 V c 3 t) (y 0) (y 1)).trans ?_
  rw [point_at V c t (y 0) n hn, point_at V c t (y 0) n hn]
  rfl

theorem h_array (c : Dev nD) : (dat1 V c).arrAt 4 cfg1.N = fun j : S12288x512.Idx => hAt V c (j 0) (j 1) := by
  refine (dat1 V c).arrAt_eq_of_covers 4 _ (by decide +kernel) fun t hf y => ?_
  have e0 : (((cfg1.win 4).blk t).view.emb y 0).val = t.val * 256 + (y 0).val := by
    blk_simp [index1_4 t]
  have e1 : (((cfg1.win 4).blk t).view.emb y 1).val = (y 1).val := by
    blk_simp [index1_4 t]
  show _ = hAt V c (((cfg1.win 4).blk t).view.emb y 0) (((cfg1.win 4).blk t).view.emb y 1)
  blk_simp
  rw [after1_4]
  exact h_point V c t y _ _ e0 e1

/-- The gate of the convolution. -/
def bAt (c : Dev nD) (n : Fin 12288) (l : Fin 512) : EReal := tokAt V c n ⟨512 + l.val, by omega⟩

theorem b_point (c : Dev nD) (t : Fin cfg1.N) (y : S256x512.Idx) (n : Fin 12288) (l : Fin 512) (hn : n.val = t.val * 256 + (y 0).val)
    (hl : l.val = (y 1).val) :
    out1_5 (grid1.coords t) (iblk1 V c 0 t) (iblk1 V c 1 t) (iblk1 V c 2 t) (iblk1 V c 3 t) y = bAt V c n l := by
  obtain rfl : l = y 1 := Fin.ext hl
  rw [two_axes y]
  refine (block_5 (grid1.coords t) (iblk1 V c 0 t) (iblk1 V c 1 t) (iblk1 V c 2 t) (iblk1 V c 3 t) (y 0) (y 1)).trans ?_
  rw [point_at V c t (y 0) n hn]
  rfl

theorem b_array (c : Dev nD) : (dat1 V c).arrAt 5 cfg1.N = fun j : S12288x512.Idx => bAt V c (j 0) (j 1) := by
  refine (dat1 V c).arrAt_eq_of_covers 5 _ (by decide +kernel) fun t hf y => ?_
  have e0 : (((cfg1.win 5).blk t).view.emb y 0).val = t.val * 256 + (y 0).val := by
    blk_simp [index1_5 t]
  have e1 : (((cfg1.win 5).blk t).view.emb y 1).val = (y 1).val := by
    blk_simp [index1_5 t]
  show _ = bAt V c (((cfg1.win 5).blk t).view.emb y 0) (((cfg1.win 5).blk t).view.emb y 1)
  blk_simp
  rw [after1_5]
  exact b_point V c t y _ _ e0 e1

/-- The scaled queries. -/
def qAt (c : Dev nD) (n : Fin 12288) (l : Fin 512) : EReal := tokAt V c n ⟨1536 + l.val, by omega⟩ * Ideal.ofBits .f32 0x3E000000#32

theorem q_point (c : Dev nD) (t : Fin cfg1.N) (y : S256x512.Idx) (n : Fin 12288) (l : Fin 512) (hn : n.val = t.val * 256 + (y 0).val)
    (hl : l.val = (y 1).val) :
    out1_6 (grid1.coords t) (iblk1 V c 0 t) (iblk1 V c 1 t) (iblk1 V c 2 t) (iblk1 V c 3 t) y = qAt V c n l := by
  obtain rfl : l = y 1 := Fin.ext hl
  rw [two_axes y]
  refine (block_6 (grid1.coords t) (iblk1 V c 0 t) (iblk1 V c 1 t) (iblk1 V c 2 t) (iblk1 V c 3 t) (y 0) (y 1)).trans ?_
  rw [point_at V c t (y 0) n hn]
  rfl

theorem q_array (c : Dev nD) : (dat1 V c).arrAt 6 cfg1.N = fun j : S12288x512.Idx => qAt V c (j 0) (j 1) := by
  refine (dat1 V c).arrAt_eq_of_covers 6 _ (by decide +kernel) fun t hf y => ?_
  have e0 : (((cfg1.win 6).blk t).view.emb y 0).val = t.val * 256 + (y 0).val := by
    blk_simp [index1_6 t]
  have e1 : (((cfg1.win 6).blk t).view.emb y 1).val = (y 1).val := by
    blk_simp [index1_6 t]
  show _ = qAt V c (((cfg1.win 6).blk t).view.emb y 0) (((cfg1.win 6).blk t).view.emb y 1)
  blk_simp
  rw [after1_6]
  exact q_point V c t y _ _ e0 e1

/-- The keys. -/
def kAt (c : Dev nD) (n : Fin 12288) (l : Fin 512) : EReal := tokAt V c n ⟨2048 + l.val, by omega⟩

theorem k_point (c : Dev nD) (t : Fin cfg1.N) (y : S256x512.Idx) (n : Fin 12288) (l : Fin 512) (hn : n.val = t.val * 256 + (y 0).val)
    (hl : l.val = (y 1).val) :
    out1_7 (grid1.coords t) (iblk1 V c 0 t) (iblk1 V c 1 t) (iblk1 V c 2 t) (iblk1 V c 3 t) y = kAt V c n l := by
  obtain rfl : l = y 1 := Fin.ext hl
  rw [two_axes y]
  refine (block_7 (grid1.coords t) (iblk1 V c 0 t) (iblk1 V c 1 t) (iblk1 V c 2 t) (iblk1 V c 3 t) (y 0) (y 1)).trans ?_
  rw [point_at V c t (y 0) n hn]
  rfl

theorem k_array (c : Dev nD) : (dat1 V c).arrAt 7 cfg1.N = fun j : S12288x512.Idx => kAt V c (j 0) (j 1) := by
  refine (dat1 V c).arrAt_eq_of_covers 7 _ (by decide +kernel) fun t hf y => ?_
  have e0 : (((cfg1.win 7).blk t).view.emb y 0).val = t.val * 256 + (y 0).val := by
    blk_simp [index1_7 t]
  have e1 : (((cfg1.win 7).blk t).view.emb y 1).val = (y 1).val := by
    blk_simp [index1_7 t]
  show _ = kAt V c (((cfg1.win 7).blk t).view.emb y 0) (((cfg1.win 7).blk t).view.emb y 1)
  blk_simp
  rw [after1_7]
  exact k_point V c t y _ _ e0 e1

/-- The values. -/
def vAt (c : Dev nD) (n : Fin 12288) (l : Fin 512) : EReal := tokAt V c n ⟨2560 + l.val, by omega⟩

theorem v_point (c : Dev nD) (t : Fin cfg1.N) (y : S256x512.Idx) (n : Fin 12288) (l : Fin 512) (hn : n.val = t.val * 256 + (y 0).val)
    (hl : l.val = (y 1).val) :
    out1_8 (grid1.coords t) (iblk1 V c 0 t) (iblk1 V c 1 t) (iblk1 V c 2 t) (iblk1 V c 3 t) y = vAt V c n l := by
  obtain rfl : l = y 1 := Fin.ext hl
  rw [two_axes y]
  refine (block_8 (grid1.coords t) (iblk1 V c 0 t) (iblk1 V c 1 t) (iblk1 V c 2 t) (iblk1 V c 3 t) (y 0) (y 1)).trans ?_
  rw [point_at V c t (y 0) n hn]
  rfl

theorem v_array (c : Dev nD) : (dat1 V c).arrAt 8 cfg1.N = fun j : S12288x512.Idx => vAt V c (j 0) (j 1) := by
  refine (dat1 V c).arrAt_eq_of_covers 8 _ (by decide +kernel) fun t hf y => ?_
  have e0 : (((cfg1.win 8).blk t).view.emb y 0).val = t.val * 256 + (y 0).val := by
    blk_simp [index1_8 t]
  have e1 : (((cfg1.win 8).blk t).view.emb y 1).val = (y 1).val := by
    blk_simp [index1_8 t]
  show _ = vAt V c (((cfg1.win 8).blk t).view.emb y 0) (((cfg1.win 8).blk t).view.emb y 1)
  blk_simp
  rw [after1_8]
  exact v_point V c t y _ _ e0 e1

/-- The gate of the convolution's branch. -/
def gcAt (c : Dev nD) (n : Fin 12288) (l : Fin 1024) : EReal := gate (tokAt V c n ⟨3072 + l.val, by omega⟩)

theorem gc_point (c : Dev nD) (t : Fin cfg1.N) (y : S256x1024.Idx) (n : Fin 12288) (l : Fin 1024) (hn : n.val = t.val * 256 + (y 0).val)
    (hl : l.val = (y 1).val) :
    out1_9 (grid1.coords t) (iblk1 V c 0 t) (iblk1 V c 1 t) (iblk1 V c 2 t) (iblk1 V c 3 t) y = gcAt V c n l := by
  obtain rfl : l = y 1 := Fin.ext hl
  rw [two_axes y]
  refine (block_9 (grid1.coords t) (iblk1 V c 0 t) (iblk1 V c 1 t) (iblk1 V c 2 t) (iblk1 V c 3 t) (y 0) (y 1)).trans ?_
  rw [point_at V c t (y 0) n hn]
  rfl

theorem gc_array (c : Dev nD) : (dat1 V c).arrAt 9 cfg1.N = fun j : S12288x1024.Idx => gcAt V c (j 0) (j 1) := by
  refine (dat1 V c).arrAt_eq_of_covers 9 _ (by decide +kernel) fun t hf y => ?_
  have e0 : (((cfg1.win 9).blk t).view.emb y 0).val = t.val * 256 + (y 0).val := by
    blk_simp [index1_9 t]
  have e1 : (((cfg1.win 9).blk t).view.emb y 1).val = (y 1).val := by
    blk_simp [index1_9 t]
  show _ = gcAt V c (((cfg1.win 9).blk t).view.emb y 0) (((cfg1.win 9).blk t).view.emb y 1)
  blk_simp
  rw [after1_9]
  exact gc_point V c t y _ _ e0 e1

/-- The gate of the attention's branch. -/
def gnAt (c : Dev nD) (n : Fin 12288) (l : Fin 1024) : EReal := gate (tokAt V c n ⟨4096 + l.val, by omega⟩)

theorem gn_point (c : Dev nD) (t : Fin cfg1.N) (y : S256x1024.Idx) (n : Fin 12288) (l : Fin 1024) (hn : n.val = t.val * 256 + (y 0).val)
    (hl : l.val = (y 1).val) :
    out1_10 (grid1.coords t) (iblk1 V c 0 t) (iblk1 V c 1 t) (iblk1 V c 2 t) (iblk1 V c 3 t) y = gnAt V c n l := by
  obtain rfl : l = y 1 := Fin.ext hl
  rw [two_axes y]
  refine (block_10 (grid1.coords t) (iblk1 V c 0 t) (iblk1 V c 1 t) (iblk1 V c 2 t) (iblk1 V c 3 t) (y 0) (y 1)).trans ?_
  rw [point_at V c t (y 0) n hn]
  rfl

theorem gn_array (c : Dev nD) : (dat1 V c).arrAt 10 cfg1.N = fun j : S12288x1024.Idx => gnAt V c (j 0) (j 1) := by
  refine (dat1 V c).arrAt_eq_of_covers 10 _ (by decide +kernel) fun t hf y => ?_
  have e0 : (((cfg1.win 10).blk t).view.emb y 0).val = t.val * 256 + (y 0).val := by
    blk_simp [index1_10 t]
  have e1 : (((cfg1.win 10).blk t).view.emb y 1).val = (y 1).val := by
    blk_simp [index1_10 t]
  show _ = gnAt V c (((cfg1.win 10).blk t).view.emb y 0) (((cfg1.win 10).blk t).view.emb y 1)
  blk_simp
  rw [after1_10]
  exact gn_point V c t y _ _ e0 e1

end Cert.Proj.Ker

end
-- ==== Proof.Proj.Entry.lean ====
/- The kernel's results, from its arguments. -/
module

public import proofs.«01_k».proof.Proof.Proj.Inproj
public import Idealize.ShloMosaic.Lib.StableHlo.RunRead
public import Idealize.ShloMosaic.Lib.Claim

@[expose] public section

set_option maxRecDepth 16384

noncomputable section

namespace Cert.Proj.Ker

open Cert.Kernel2Ideal Cert.Kernel2Ideal.Gen Idealize.ShloMosaic Idealize.ShloMosaic.TcCoe Cert.Proj

variable (m : (ℓ : Loc nD τ sig) → Buf (Elt Ideal) ℓ) (ρ : Dev nD → PrngReg) (c : Dev nD)

/-- The context's features. -/
def arg0 : FVec Ideal S16x256x1024 .f32 := m ((c.tc : Thread nD τ).loc main_arg0)
/-- The latent features. -/
def arg1 : FVec Ideal S8x1024x1024 .f32 := m ((c.tc : Thread nD τ).loc main_arg1)
/-- The condition of each latent sequence. -/
def arg2 : FVec Ideal S8x1024 .f32 := m ((c.tc : Thread nD τ).loc main_arg2)
/-- The condition of the context. -/
def arg3 : FVec Ideal S1024 .f32 := m ((c.tc : Thread nD τ).loc main_arg3)
/-- The modulation's weights. -/
def arg4 : FVec Ideal S1x1024x6144 .f32 := m ((c.tc : Thread nD τ).loc main_arg4)
/-- The modulation's bias. -/
def arg5 : FVec Ideal S1x6144 .f32 := m ((c.tc : Thread nD τ).loc main_arg5)
/-- The projection's weights. -/
def arg6 : FVec Ideal S1x1024x5120 .f32 := m ((c.tc : Thread nD τ).loc main_arg6)

theorem v0_eq : V1 m ρ c main_v0 = shapeCast S4096x1024 (arg0 m c) shapeCasts_S16x256x1024_S4096x1024 := by
  show StableHlo.after hostOps0 (W0 m ρ c) _ = _
  simp only [hostOps0, StableHlo.TRef.ternary, StableHlo.TRef.unary, StableHlo.TRef.toBuf, StableHlo.TRef.ofBuf, cast_eq]
  after_results_simp
  rfl

theorem v1_eq : V1 m ρ c main_v1 = shapeCast S8192x1024 (arg1 m c) shapeCasts_S8x1024x1024_S8192x1024 := by
  show StableHlo.after hostOps0 (W0 m ρ c) _ = _
  simp only [hostOps0, StableHlo.TRef.ternary, StableHlo.TRef.unary, StableHlo.TRef.toBuf, StableHlo.TRef.ofBuf, cast_eq]
  after_results_simp
  rfl

theorem v4_eq : V1 m ρ c main_v4 = concatenate S16x1024 0
    [⟨S1x1024, broadcastInDim S1x1024 ![1] bcast_S1024_S1x1024_1 (arg3 m c)⟩, ⟨S8x1024, arg2 m c⟩,
      ⟨S7x1024, broadcastInDim S7x1024 ![] bcast_S_S7x1024 (constant (F := Ideal) S_ .f32 0x00000000#32)⟩]
    concatenates_S1x1024_S8x1024_S7x1024_S16x1024_d0 := by
  show StableHlo.after hostOps0 (W0 m ρ c) _ = _
  simp only [hostOps0, StableHlo.TRef.ternary, StableHlo.TRef.unary, StableHlo.TRef.toBuf, StableHlo.TRef.ofBuf, cast_eq]
  after_results_simp
  rfl

theorem v5_eq : V1 m ρ c main_v5 = shapeCast S1024x6144 (arg4 m c) shapeCasts_S1x1024x6144_S1024x6144 := by
  show StableHlo.after hostOps0 (W0 m ρ c) _ = _
  simp only [hostOps0, StableHlo.TRef.ternary, StableHlo.TRef.unary, StableHlo.TRef.toBuf, StableHlo.TRef.ofBuf, cast_eq]
  after_results_simp
  rfl

theorem v7_eq : V1 m ρ c main_v7 = shapeCast S1x6144 (shapeCast S6144 (arg5 m c) shapeCasts_S1x6144_S6144) shapeCasts_S6144_S1x6144 := by
  show StableHlo.after hostOps0 (W0 m ρ c) _ = _
  simp only [hostOps0, StableHlo.TRef.ternary, StableHlo.TRef.unary, StableHlo.TRef.toBuf, StableHlo.TRef.ofBuf, cast_eq]
  after_results_simp
  rfl

theorem v0_kept : V3 m ρ c main_v0 = V1 m ρ c main_v0 :=
  (W3_of m ρ c main_v0 (by decide)).trans (W2_of m ρ c main_v0 (by decide))
theorem v1_kept : V3 m ρ c main_v1 = V1 m ρ c main_v1 :=
  (W3_of m ρ c main_v1 (by decide)).trans (W2_of m ρ c main_v1 (by decide))

/-- The modulation call's result. -/
def mods : FVec Ideal S16x6144 .f32 := fun j => modAt (V1 m ρ) c (j 0) (j 1)

theorem v9_eq : V3 m ρ c main_v9 = shapeCast S16x1x6144 (mods m ρ c) shapeCasts_S16x6144_S16x1x6144 := by
  have e : W2 m ρ c (Proc.devRef .tc main_v8) = mods m ρ c := (W2_arr m ρ c 3).trans (mods_array (V1 m ρ) c)
  rw [← e]
  show StableHlo.after hostOps1 (W2 m ρ c) _ = _
  simp only [hostOps1, StableHlo.TRef.ternary, StableHlo.TRef.unary, StableHlo.TRef.toBuf, StableHlo.TRef.ofBuf, cast_eq]
  after_results_simp
  rfl

theorem v11_eq : V3 m ρ c main_v11
    = truncf (F := Ideal) .bf16 (shapeCast S1024x5120 (arg6 m c) shapeCasts_S1x1024x5120_S1024x5120) bitsLt_bf16_f32 := by
  have e : W2 m ρ c (Proc.devRef .tc main_arg6) = arg6 m c := W2_args m ρ c main_arg6 (by decide)
  rw [← e]
  show StableHlo.after hostOps1 (W2 m ρ c) _ = _
  simp only [hostOps1, StableHlo.TRef.ternary, StableHlo.TRef.unary, StableHlo.TRef.toBuf, StableHlo.TRef.ofBuf, cast_eq]
  after_results_simp
  rfl

theorem cond_zero (d : Fin 1024) : condV (V1 m ρ) c (ix2 (0 : Fin 16) d) = arg3 m c (ix1 d) := by
  unfold condV
  rw [v4_eq]
  generalize arg3 m c = x
  generalize arg2 m c = y
  pointwise

theorem cond_succ (s : Fin 8) (d : Fin 1024) : condV (V1 m ρ) c (ix2 (⟨1 + s.val, by omega⟩ : Fin 16) d) = arg2 m c (ix2 s d) := by
  unfold condV
  rw [v4_eq]
  generalize arg3 m c = x
  generalize arg2 m c = y
  pointwise

theorem ada_at (d : Fin 1024) (l : Fin 6144) : adaV (V1 m ρ) c (ix2 d l) = arg4 m c (ix3 (0 : Fin 1) d l) := by
  unfold adaV
  rw [v5_eq]
  generalize arg4 m c = x
  pointwise

theorem bias_at (l : Fin 6144) : biasV (V1 m ρ) c (ix2 (0 : Fin 1) l) = arg5 m c (ix2 (0 : Fin 1) l) := by
  unfold biasV
  rw [v7_eq]
  generalize arg5 m c = x
  pointwise

theorem in_at (d : Fin 1024) (l : Fin 5120) : inV (V3 m ρ) c (ix2 d l) = arg6 m c (ix3 (0 : Fin 1) d l) := by
  unfold inV
  rw [v11_eq]
  generalize arg6 m c = x
  pointwise

theorem mod_row (r : Fin 16) (l : Fin 6144) : modV (V3 m ρ) c (ix3 r (0 : Fin 1) l) = modAt (V1 m ρ) c r l := by
  unfold modV
  rw [v9_eq, show modAt (V1 m ρ) c r l = mods m ρ c (ix2 r l) from rfl]
  generalize mods m ρ c = x
  pointwise

theorem ctx_row (n : Fin 4096) (d : Fin 1024) : ctxV (V3 m ρ) c (ix2 n d)
    = arg0 m c (ix3 (⟨n.val / 256, by omega⟩ : Fin 16) (⟨n.val % 256, Nat.mod_lt _ (by decide)⟩ : Fin 256) d) := by
  unfold ctxV
  rw [v0_kept, v0_eq]
  generalize arg0 m c = x
  pointwise

theorem lat_row (n : Fin 8192) (d : Fin 1024) : latV (V3 m ρ) c (ix2 n d)
    = arg1 m c (ix3 (⟨n.val / 1024, by omega⟩ : Fin 8) (⟨n.val % 1024, Nat.mod_lt _ (by decide)⟩ : Fin 1024) d) := by
  unfold latV
  rw [v1_kept, v1_eq]
  generalize arg1 m c = x
  pointwise

end Cert.Proj.Ker

end
-- ==== Proof.Proj.Ref.lean ====
/- The reference's modulation and input projection, in stages. -/
module

public import proofs.«01_k».proof.Proof.Gen.Reference2Ideal.Run
public import Idealize.ShloMosaic.PureOps.Ideal
public import proofs.«01_k».proof.Proof.Proj.Spec
public import Idealize.ShloMosaic.Lib.Pointwise

@[expose] public section

set_option maxRecDepth 16384

noncomputable section

namespace Cert.Proj.Ref

open Cert.Reference2Ideal Cert.Reference2Ideal.Gen Idealize.ShloMosaic

/-- The modulation of the context's tokens. -/
def ctxMods (a : FVec Ideal S1024 .f32) (w : FVec Ideal S1x1024x6144 .f32) (b : FVec Ideal S1x6144 .f32) : FVec Ideal S1x1x6144 .f32 :=
  broadcastInDim S1x1x6144 ![0, 2] bcast_S1x6144_S1x1x6144_0_2
    (addf (Host.dotGeneral dot_S1x1024_S1024x6144_S1x6144_1_0_0_1_n_n none
        (mulf (broadcastInDim S1x1024 ![1] bcast_S1024_S1x1024_1 a)
          (Host.divf (broadcastInDim S1x1024 ![] bcast_S_S1x1024 (constant S_ .f32 0x3F800000#32))
            (addf (broadcastInDim S1x1024 ![] bcast_S_S1x1024 (constant S_ .f32 0x3F800000#32))
              (Host.exp (Host.negf (broadcastInDim S1x1024 ![1] bcast_S1024_S1x1024_1 a))))))
        (shapeCast _ w shapeCasts_S1x1024x6144_S1024x6144))
      (broadcastInDim S1x6144 ![1] bcast_S6144_S1x6144_1 (shapeCast _ b shapeCasts_S1x6144_S6144)))

/-- The modulation of each sequence of latent tokens. -/
def latMods (a : FVec Ideal S8x1024 .f32) (w : FVec Ideal S1x1024x6144 .f32) (b : FVec Ideal S1x6144 .f32) : FVec Ideal S8x1x6144 .f32 :=
  broadcastInDim S8x1x6144 ![0, 2] bcast_S8x6144_S8x1x6144_0_2
    (addf (Host.dotGeneral dot_S8x1024_S1024x6144_S8x6144_1_0_0_1_n_n none
        (mulf a (Host.divf (broadcastInDim S8x1024 ![] bcast_S_S8x1024 (constant S_ .f32 0x3F800000#32))
            (addf (broadcastInDim S8x1024 ![] bcast_S_S8x1024 (constant S_ .f32 0x3F800000#32)) (Host.exp (Host.negf a)))))
        (shapeCast _ w shapeCasts_S1x1024x6144_S1024x6144))
      (broadcastInDim S8x6144 ![0, 1] bcast_S1x6144_S8x6144_0_1
        (broadcastInDim S1x6144 ![1] bcast_S6144_S1x6144_1 (shapeCast _ b shapeCasts_S1x6144_S6144))))

/-- The projection of the context's modulated tokens. -/
def ctxProj (x : FVec Ideal S16x256x1024 .f32) (d : FVec Ideal S1x1x6144 .f32) (w : FVec Ideal S1x1024x5120 .f32) :
    FVec Ideal S16x256x5120 .f32 :=
  Host.dotGeneral dot_S16x256x1024_S1024x5120_S16x256x5120_2_0_01_1_n_n none
    (addf (mulf x (broadcastInDim S16x256x1024 ![0, 1, 2] bcast_S1x1x1024_S16x256x1024_0_1_2
          (addf (broadcastInDim S1x1x1024 ![] bcast_S_S1x1x1024 (constant S_ .f32 0x3F800000#32))
            (extractStridedSlice S1x1x1024 ![0, 0, 1024] d slices_S1x1x6144_S1x1x1024_0_0_1024))))
      (broadcastInDim S16x256x1024 ![0, 1, 2] bcast_S1x1x1024_S16x256x1024_0_1_2
        (extractStridedSlice S1x1x1024 ![0, 0, 0] d slices_S1x1x6144_S1x1x1024_0_0_0)))
    (shapeCast _ w shapeCasts_S1x1024x5120_S1024x5120)

/-- The projection of the latent modulated tokens. -/
def latProj (x : FVec Ideal S8x1024x1024 .f32) (d : FVec Ideal S8x1x6144 .f32) (w : FVec Ideal S1x1024x5120 .f32) :
    FVec Ideal S8x1024x5120 .f32 :=
  Host.dotGeneral dot_S8x1024x1024_S1024x5120_S8x1024x5120_2_0_01_1_n_n none
    (addf (mulf x (broadcastInDim S8x1024x1024 ![0, 1, 2] bcast_S8x1x1024_S8x1024x1024_0_1_2
          (addf (broadcastInDim S8x1x1024 ![] bcast_S_S8x1x1024 (constant S_ .f32 0x3F800000#32))
            (extractStridedSlice S8x1x1024 ![0, 0, 1024] d slices_S8x1x6144_S8x1x1024_0_0_1024))))
      (broadcastInDim S8x1024x1024 ![0, 1, 2] bcast_S8x1x1024_S8x1024x1024_0_1_2
        (extractStridedSlice S8x1x1024 ![0, 0, 0] d slices_S8x1x6144_S8x1x1024_0_0_0)))
    (shapeCast _ w shapeCasts_S1x1024x5120_S1024x5120)

theorem ctxMods_at (a : FVec Ideal S1024 .f32) (w : FVec Ideal S1x1024x6144 .f32) (b : FVec Ideal S1x6144 .f32) (l : Fin 6144) :
    ctxMods a w b (ix3 (0 : Fin 1) (0 : Fin 1) l)
      = modOf (fun d => a (ix1 d)) (fun d l => w (ix3 (0 : Fin 1) d l)) (fun l => b (ix2 (0 : Fin 1) l)) l := by
  pointwise [ctxMods]
  rfl

theorem latMods_at (a : FVec Ideal S8x1024 .f32) (w : FVec Ideal S1x1024x6144 .f32) (b : FVec Ideal S1x6144 .f32) (s : Fin 8) (l : Fin 6144) :
    latMods a w b (ix3 s (0 : Fin 1) l)
      = modOf (fun d => a (ix2 s d)) (fun d l => w (ix3 (0 : Fin 1) d l)) (fun l => b (ix2 (0 : Fin 1) l)) l := by
  pointwise [latMods]
  rfl

theorem ctxProj_at (x : FVec Ideal S16x256x1024 .f32) (d : FVec Ideal S1x1x6144 .f32) (w : FVec Ideal S1x1024x5120 .f32)
    (s : Fin 16) (n : Fin 256) (l : Fin 5120) : ctxProj x d w (ix3 s n l)
      = projOf (fun e => x (ix3 s n e)) (fun l => d (ix3 (0 : Fin 1) (0 : Fin 1) l)) (fun e l => w (ix3 (0 : Fin 1) e l)) l := by
  pointwise [ctxProj]
  rfl

theorem latProj_at (x : FVec Ideal S8x1024x1024 .f32) (d : FVec Ideal S8x1x6144 .f32) (w : FVec Ideal S1x1024x5120 .f32)
    (s : Fin 8) (n : Fin 1024) (l : Fin 5120) : latProj x d w (ix3 s n l)
      = projOf (fun e => x (ix3 s n e)) (fun l => d (ix3 s (0 : Fin 1) l)) (fun e l => w (ix3 (0 : Fin 1) e l)) l := by
  pointwise [latProj]
  rfl

/-- The context's tokens and then the latent ones, of arrays of 512 columns. -/
def joined_512 {φ : FTy} (f : FVec Ideal S16x256x512 φ) (g : FVec Ideal S8x1024x512 φ) : FVec Ideal S12288x512 φ :=
  concatenate S12288x512 0 [⟨S4096x512, shapeCast S4096x512 f shapeCasts_S16x256x512_S4096x512⟩,
    ⟨S8192x512, shapeCast S8192x512 g shapeCasts_S8x1024x512_S8192x512⟩] concatenates_S4096x512_S8192x512_S12288x512_d0

theorem joined_512_at {φ : FTy} (f : FVec Ideal S16x256x512 φ) (g : FVec Ideal S8x1024x512 φ) (n : Fin 12288) (l : Fin 512) :
    joined_512 f g (ix2 n l)
      = if h : n.val < 4096 then f (ix3 (⟨n.val / 256, by omega⟩ : Fin 16) (⟨n.val % 256, Nat.mod_lt _ (by decide)⟩ : Fin 256) l)
        else g (ix3 (seqOf n h) (posOf n) l) := by
  pointwise [joined_512]

/-- The context's tokens and then the latent ones, of arrays of 1024 columns. -/
def joined_1024 {φ : FTy} (f : FVec Ideal S16x256x1024 φ) (g : FVec Ideal S8x1024x1024 φ) : FVec Ideal S12288x1024 φ :=
  concatenate S12288x1024 0 [⟨S4096x1024, shapeCast S4096x1024 f shapeCasts_S16x256x1024_S4096x1024⟩,
    ⟨S8192x1024, shapeCast S8192x1024 g shapeCasts_S8x1024x1024_S8192x1024⟩] concatenates_S4096x1024_S8192x1024_S12288x1024_d0

theorem joined_1024_at {φ : FTy} (f : FVec Ideal S16x256x1024 φ) (g : FVec Ideal S8x1024x1024 φ) (n : Fin 12288) (l : Fin 1024) :
    joined_1024 f g (ix2 n l)
      = if h : n.val < 4096 then f (ix3 (⟨n.val / 256, by omega⟩ : Fin 16) (⟨n.val % 256, Nat.mod_lt _ (by decide)⟩ : Fin 256) l)
        else g (ix3 (seqOf n h) (posOf n) l) := by
  pointwise [joined_1024]

/-- One column of the projection of token `n`, from the arguments. -/
def tok (x0 : FVec Ideal S16x256x1024 .f32) (x1 : FVec Ideal S8x1024x1024 .f32) (x2 : FVec Ideal S8x1024 .f32) (x3 : FVec Ideal S1024 .f32)
    (x4 : FVec Ideal S1x1024x6144 .f32) (x5 : FVec Ideal S1x6144 .f32) (x6 : FVec Ideal S1x1024x5120 .f32) (n : Fin 12288) (l : Fin 5120) : EReal :=
  projOf (rowOf (fun s p d => x0 (ix3 s p d)) (fun s p d => x1 (ix3 s p d)) n)
    (modOf (condOf (fun d => x3 (ix1 d)) (fun s d => x2 (ix2 s d)) n) (fun d l => x4 (ix3 (0 : Fin 1) d l)) (fun l => x5 (ix2 (0 : Fin 1) l)))
    (fun d l => x6 (ix3 (0 : Fin 1) d l)) l

section
variable (x0 : FVec Ideal S16x256x1024 .f32) (x1 : FVec Ideal S8x1024x1024 .f32) (x2 : FVec Ideal S8x1024 .f32) (x3 : FVec Ideal S1024 .f32)
  (x4 : FVec Ideal S1x1024x6144 .f32) (x5 : FVec Ideal S1x6144 .f32) (x6 : FVec Ideal S1x1024x5120 .f32)

/-- The projection of the context's tokens, from the arguments. -/
def ctx : FVec Ideal S16x256x5120 .f32 := ctxProj x0 (ctxMods x3 x4 x5) x6
/-- The projection of the latent tokens, from the arguments. -/
def lat : FVec Ideal S8x1024x5120 .f32 := latProj x1 (latMods x2 x4 x5) x6

theorem ctx_at (n : Fin 12288) (h : n.val < 4096) (l : Fin 5120) :
    ctx x0 x3 x4 x5 x6 (ix3 (⟨n.val / 256, by omega⟩ : Fin 16) (⟨n.val % 256, Nat.mod_lt _ (by decide)⟩ : Fin 256) l)
      = tok x0 x1 x2 x3 x4 x5 x6 n l := by
  unfold ctx tok
  rw [ctxProj_at]
  refine congrArg₂ (fun a b => projOf a b _ l) (funext fun d => ?_) (funext fun k => ?_)
  · unfold rowOf
    rw [dif_pos h]
  · rw [ctxMods_at]
    refine congrArg (fun a => modOf a _ _ k) (funext fun d => ?_)
    unfold condOf
    rw [dif_pos h]

theorem lat_at (n : Fin 12288) (h : ¬ n.val < 4096) (l : Fin 5120) :
    lat x1 x2 x4 x5 x6 (ix3 (seqOf n h) (posOf n) l) = tok x0 x1 x2 x3 x4 x5 x6 n l := by
  unfold lat tok
  rw [latProj_at]
  refine congrArg₂ (fun a b => projOf a b _ l) (funext fun d => ?_) (funext fun k => ?_)
  · unfold rowOf
    rw [dif_neg h]
  · rw [latMods_at]
    refine congrArg (fun a => modOf a _ _ k) (funext fun d => ?_)
    unfold condOf
    rw [dif_neg h]

/-- The product of two pieces, of the context's tokens. -/
def h_ctx (u : FVec Ideal S16x256x5120 .f32) : FVec Ideal S16x256x512 .f32 :=
  (mulf (extractStridedSlice S16x256x512 ![0, 0, 1024] u slices_S16x256x5120_S16x256x512_0_0_1024) (extractStridedSlice S16x256x512 ![0, 0, 0] u slices_S16x256x5120_S16x256x512_0_0_0))

theorem h_ctx_at (u : FVec Ideal S16x256x5120 .f32) (s : Fin 16) (p : Fin 256) (l : Fin 512) :
    h_ctx u (ix3 s p l) = u (ix3 s p ⟨1024 + l.val, by omega⟩) * u (ix3 s p ⟨0 + l.val, by omega⟩) := by
  pointwise [h_ctx]

/-- The product of two pieces, of the latent tokens. -/
def h_lat (u : FVec Ideal S8x1024x5120 .f32) : FVec Ideal S8x1024x512 .f32 :=
  (mulf (extractStridedSlice S8x1024x512 ![0, 0, 1024] u slices_S8x1024x5120_S8x1024x512_0_0_1024) (extractStridedSlice S8x1024x512 ![0, 0, 0] u slices_S8x1024x5120_S8x1024x512_0_0_0))

theorem h_lat_at (u : FVec Ideal S8x1024x5120 .f32) (s : Fin 8) (p : Fin 1024) (l : Fin 512) :
    h_lat u (ix3 s p l) = u (ix3 s p ⟨1024 + l.val, by omega⟩) * u (ix3 s p ⟨0 + l.val, by omega⟩) := by
  pointwise [h_lat]

/-- The product of two pieces. -/
def h : FVec Ideal S12288x512 .f32 := joined_512 (h_ctx (ctx x0 x3 x4 x5 x6)) (h_lat (lat x1 x2 x4 x5 x6))

theorem h_at (n : Fin 12288) (l : Fin 512) : h x0 x1 x2 x3 x4 x5 x6 (ix2 n l)
    = tok x0 x1 x2 x3 x4 x5 x6 n ⟨1024 + l.val, by omega⟩ * tok x0 x1 x2 x3 x4 x5 x6 n ⟨0 + l.val, by omega⟩ := by
  unfold h
  rw [joined_512_at]
  by_cases hn : n.val < 4096
  · rw [dif_pos hn, h_ctx_at]
    simp only [ctx_at x0 x1 x2 x3 x4 x5 x6 n hn]
  · rw [dif_neg hn, h_lat_at]
    simp only [lat_at x0 x1 x2 x3 x4 x5 x6 n hn]

/-- The gate of the convolution, of the context's tokens. -/
def b_ctx (u : FVec Ideal S16x256x5120 .f32) : FVec Ideal S16x256x512 .f32 :=
  (extractStridedSlice S16x256x512 ![0, 0, 512] u slices_S16x256x5120_S16x256x512_0_0_512)

theorem b_ctx_at (u : FVec Ideal S16x256x5120 .f32) (s : Fin 16) (p : Fin 256) (l : Fin 512) :
    b_ctx u (ix3 s p l) = u (ix3 s p ⟨512 + l.val, by omega⟩) := by
  pointwise [b_ctx]

/-- The gate of the convolution, of the latent tokens. -/
def b_lat (u : FVec Ideal S8x1024x5120 .f32) : FVec Ideal S8x1024x512 .f32 :=
  (extractStridedSlice S8x1024x512 ![0, 0, 512] u slices_S8x1024x5120_S8x1024x512_0_0_512)

theorem b_lat_at (u : FVec Ideal S8x1024x5120 .f32) (s : Fin 8) (p : Fin 1024) (l : Fin 512) :
    b_lat u (ix3 s p l) = u (ix3 s p ⟨512 + l.val, by omega⟩) := by
  pointwise [b_lat]

/-- The gate of the convolution. -/
def b : FVec Ideal S12288x512 .f32 := joined_512 (b_ctx (ctx x0 x3 x4 x5 x6)) (b_lat (lat x1 x2 x4 x5 x6))

theorem b_at (n : Fin 12288) (l : Fin 512) : b x0 x1 x2 x3 x4 x5 x6 (ix2 n l)
    = tok x0 x1 x2 x3 x4 x5 x6 n ⟨512 + l.val, by omega⟩ := by
  unfold b
  rw [joined_512_at]
  by_cases hn : n.val < 4096
  · rw [dif_pos hn, b_ctx_at]
    simp only [ctx_at x0 x1 x2 x3 x4 x5 x6 n hn]
  · rw [dif_neg hn, b_lat_at]
    simp only [lat_at x0 x1 x2 x3 x4 x5 x6 n hn]

/-- The scaled queries, of the context's tokens. -/
def q_ctx (u : FVec Ideal S16x256x5120 .f32) : FVec Ideal S16x256x512 .bf16 :=
  (truncf .bf16 (mulf (extractStridedSlice S16x256x512 ![0, 0, 1536] u slices_S16x256x5120_S16x256x512_0_0_1536) (broadcastInDim S16x256x512 ![] bcast_S_S16x256x512 (constant S_ .f32 0x3E000000#32))) bitsLt_bf16_f32)

theorem q_ctx_at (u : FVec Ideal S16x256x5120 .f32) (s : Fin 16) (p : Fin 256) (l : Fin 512) :
    q_ctx u (ix3 s p l) = u (ix3 s p ⟨1536 + l.val, by omega⟩) * Ideal.ofBits .f32 0x3E000000#32 := by
  pointwise [q_ctx]

/-- The scaled queries, of the latent tokens. -/
def q_lat (u : FVec Ideal S8x1024x5120 .f32) : FVec Ideal S8x1024x512 .bf16 :=
  (truncf .bf16 (mulf (extractStridedSlice S8x1024x512 ![0, 0, 1536] u slices_S8x1024x5120_S8x1024x512_0_0_1536) (broadcastInDim S8x1024x512 ![] bcast_S_S8x1024x512 (constant S_ .f32 0x3E000000#32))) bitsLt_bf16_f32)

theorem q_lat_at (u : FVec Ideal S8x1024x5120 .f32) (s : Fin 8) (p : Fin 1024) (l : Fin 512) :
    q_lat u (ix3 s p l) = u (ix3 s p ⟨1536 + l.val, by omega⟩) * Ideal.ofBits .f32 0x3E000000#32 := by
  pointwise [q_lat]

/-- The scaled queries. -/
def q : FVec Ideal S12288x512 .bf16 := joined_512 (q_ctx (ctx x0 x3 x4 x5 x6)) (q_lat (lat x1 x2 x4 x5 x6))

theorem q_at (n : Fin 12288) (l : Fin 512) : q x0 x1 x2 x3 x4 x5 x6 (ix2 n l)
    = tok x0 x1 x2 x3 x4 x5 x6 n ⟨1536 + l.val, by omega⟩ * Ideal.ofBits .f32 0x3E000000#32 := by
  unfold q
  rw [joined_512_at]
  by_cases hn : n.val < 4096
  · rw [dif_pos hn, q_ctx_at]
    simp only [ctx_at x0 x1 x2 x3 x4 x5 x6 n hn]
  · rw [dif_neg hn, q_lat_at]
    simp only [lat_at x0 x1 x2 x3 x4 x5 x6 n hn]

/-- The keys, of the context's tokens. -/
def k_ctx (u : FVec Ideal S16x256x5120 .f32) : FVec Ideal S16x256x512 .f32 :=
  (extractStridedSlice S16x256x512 ![0, 0, 2048] u slices_S16x256x5120_S16x256x512_0_0_2048)

theorem k_ctx_at (u : FVec Ideal S16x256x5120 .f32) (s : Fin 16) (p : Fin 256) (l : Fin 512) :
    k_ctx u (ix3 s p l) = u (ix3 s p ⟨2048 + l.val, by omega⟩) := by
  pointwise [k_ctx]

/-- The keys, of the latent tokens. -/
def k_lat (u : FVec Ideal S8x1024x5120 .f32) : FVec Ideal S8x1024x512 .f32 :=
  (extractStridedSlice S8x1024x512 ![0, 0, 2048] u slices_S8x1024x5120_S8x1024x512_0_0_2048)

theorem k_lat_at (u : FVec Ideal S8x1024x5120 .f32) (s : Fin 8) (p : Fin 1024) (l : Fin 512) :
    k_lat u (ix3 s p l) = u (ix3 s p ⟨2048 + l.val, by omega⟩) := by
  pointwise [k_lat]

/-- The keys. -/
def k : FVec Ideal S12288x512 .f32 := joined_512 (k_ctx (ctx x0 x3 x4 x5 x6)) (k_lat (lat x1 x2 x4 x5 x6))

theorem k_at (n : Fin 12288) (l : Fin 512) : k x0 x1 x2 x3 x4 x5 x6 (ix2 n l)
    = tok x0 x1 x2 x3 x4 x5 x6 n ⟨2048 + l.val, by omega⟩ := by
  unfold k
  rw [joined_512_at]
  by_cases hn : n.val < 4096
  · rw [dif_pos hn, k_ctx_at]
    simp only [ctx_at x0 x1 x2 x3 x4 x5 x6 n hn]
  · rw [dif_neg hn, k_lat_at]
    simp only [lat_at x0 x1 x2 x3 x4 x5 x6 n hn]

/-- The values, of the context's tokens. -/
def v_ctx (u : FVec Ideal S16x256x5120 .f32) : FVec Ideal S16x256x512 .f32 :=
  (extractStridedSlice S16x256x512 ![0, 0, 2560] u slices_S16x256x5120_S16x256x512_0_0_2560)

theorem v_ctx_at (u : FVec Ideal S16x256x5120 .f32) (s : Fin 16) (p : Fin 256) (l : Fin 512) :
    v_ctx u (ix3 s p l) = u (ix3 s p ⟨2560 + l.val, by omega⟩) := by
  pointwise [v_ctx]

/-- The values, of the latent tokens. -/
def v_lat (u : FVec Ideal S8x1024x5120 .f32) : FVec Ideal S8x1024x512 .f32 :=
  (extractStridedSlice S8x1024x512 ![0, 0, 2560] u slices_S8x1024x5120_S8x1024x512_0_0_2560)

theorem v_lat_at (u : FVec Ideal S8x1024x5120 .f32) (s : Fin 8) (p : Fin 1024) (l : Fin 512) :
    v_lat u (ix3 s p l) = u (ix3 s p ⟨2560 + l.val, by omega⟩) := by
  pointwise [v_lat]

/-- The values. -/
def v : FVec Ideal S12288x512 .f32 := joined_512 (v_ctx (ctx x0 x3 x4 x5 x6)) (v_lat (lat x1 x2 x4 x5 x6))

theorem v_at (n : Fin 12288) (l : Fin 512) : v x0 x1 x2 x3 x4 x5 x6 (ix2 n l)
    = tok x0 x1 x2 x3 x4 x5 x6 n ⟨2560 + l.val, by omega⟩ := by
  unfold v
  rw [joined_512_at]
  by_cases hn : n.val < 4096
  · rw [dif_pos hn, v_ctx_at]
    simp only [ctx_at x0 x1 x2 x3 x4 x5 x6 n hn]
  · rw [dif_neg hn, v_lat_at]
    simp only [lat_at x0 x1 x2 x3 x4 x5 x6 n hn]

/-- The gate of the convolution's branch, of the context's tokens. -/
def gc_ctx (u : FVec Ideal S16x256x5120 .f32) : FVec Ideal S16x256x1024 .f32 :=
  (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (extractStridedSlice S16x256x1024 ![0, 0, 3072] u slices_S16x256x5120_S16x256x1024_0_0_3072)))))

theorem gc_ctx_at (u : FVec Ideal S16x256x5120 .f32) (s : Fin 16) (p : Fin 256) (l : Fin 1024) :
    gc_ctx u (ix3 s p l) = gate (u (ix3 s p ⟨3072 + l.val, by omega⟩)) := by
  pointwise [gc_ctx]
  rfl

/-- The gate of the convolution's branch, of the latent tokens. -/
def gc_lat (u : FVec Ideal S8x1024x5120 .f32) : FVec Ideal S8x1024x1024 .f32 :=
  (Host.divf (broadcastInDim S8x1024x1024 ![] bcast_S_S8x1024x1024 (constant S_ .f32 0x3F800000#32)) (addf (broadcastInDim S8x1024x1024 ![] bcast_S_S8x1024x1024 (constant S_ .f32 0x3F800000#32)) (Host.exp (Host.negf (extractStridedSlice S8x1024x1024 ![0, 0, 3072] u slices_S8x1024x5120_S8x1024x1024_0_0_3072)))))

theorem gc_lat_at (u : FVec Ideal S8x1024x5120 .f32) (s : Fin 8) (p : Fin 1024) (l : Fin 1024) :
    gc_lat u (ix3 s p l) = gate (u (ix3 s p ⟨3072 + l.val, by omega⟩)) := by
  pointwise [gc_lat]
  rfl

/-- The gate of the convolution's branch. -/
def gc : FVec Ideal S12288x1024 .f32 := joined_1024 (gc_ctx (ctx x0 x3 x4 x5 x6)) (gc_lat (lat x1 x2 x4 x5 x6))

theorem gc_at (n : Fin 12288) (l : Fin 1024) : gc x0 x1 x2 x3 x4 x5 x6 (ix2 n l)
    = gate (tok x0 x1 x2 x3 x4 x5 x6 n ⟨3072 + l.val, by omega⟩) := by
  unfold gc
  rw [joined_1024_at]
  by_cases hn : n.val < 4096
  · rw [dif_pos hn, gc_ctx_at]
    simp only [ctx_at x0 x1 x2 x3 x4 x5 x6 n hn]
  · rw [dif_neg hn, gc_lat_at]
    simp only [lat_at x0 x1 x2 x3 x4 x5 x6 n hn]

/-- The gate of the attention's branch, of the context's tokens. -/
def gn_ctx (u : FVec Ideal S16x256x5120 .f32) : FVec Ideal S16x256x1024 .f32 :=
  (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf (extractStridedSlice S16x256x1024 ![0, 0, 4096] u slices_S16x256x5120_S16x256x1024_0_0_4096)))))

theorem gn_ctx_at (u : FVec Ideal S16x256x5120 .f32) (s : Fin 16) (p : Fin 256) (l : Fin 1024) :
    gn_ctx u (ix3 s p l) = gate (u (ix3 s p ⟨4096 + l.val, by omega⟩)) := by
  pointwise [gn_ctx]
  rfl

/-- The gate of the attention's branch, of the latent tokens. -/
def gn_lat (u : FVec Ideal S8x1024x5120 .f32) : FVec Ideal S8x1024x1024 .f32 :=
  (Host.divf (broadcastInDim S8x1024x1024 ![] bcast_S_S8x1024x1024 (constant S_ .f32 0x3F800000#32)) (addf (broadcastInDim S8x1024x1024 ![] bcast_S_S8x1024x1024 (constant S_ .f32 0x3F800000#32)) (Host.exp (Host.negf (extractStridedSlice S8x1024x1024 ![0, 0, 4096] u slices_S8x1024x5120_S8x1024x1024_0_0_4096)))))

theorem gn_lat_at (u : FVec Ideal S8x1024x5120 .f32) (s : Fin 8) (p : Fin 1024) (l : Fin 1024) :
    gn_lat u (ix3 s p l) = gate (u (ix3 s p ⟨4096 + l.val, by omega⟩)) := by
  pointwise [gn_lat]
  rfl

/-- The gate of the attention's branch. -/
def gn : FVec Ideal S12288x1024 .f32 := joined_1024 (gn_ctx (ctx x0 x3 x4 x5 x6)) (gn_lat (lat x1 x2 x4 x5 x6))

theorem gn_at (n : Fin 12288) (l : Fin 1024) : gn x0 x1 x2 x3 x4 x5 x6 (ix2 n l)
    = gate (tok x0 x1 x2 x3 x4 x5 x6 n ⟨4096 + l.val, by omega⟩) := by
  unfold gn
  rw [joined_1024_at]
  by_cases hn : n.val < 4096
  · rw [dif_pos hn, gn_ctx_at]
    simp only [ctx_at x0 x1 x2 x3 x4 x5 x6 n hn]
  · rw [dif_neg hn, gn_lat_at]
    simp only [lat_at x0 x1 x2 x3 x4 x5 x6 n hn]

/-- The new cache of keys. -/
def cacheK : FVec Ideal S16x1x256x8x64 .f32 :=
  broadcastInDim S16x1x256x8x64 ![0, 2, 3, 4] bcast_S16x256x8x64_S16x1x256x8x64_0_2_3_4
    (shapeCast S16x256x8x64 (k_ctx (ctx x0 x3 x4 x5 x6)) shapeCasts_S16x256x512_S16x256x8x64)

theorem cacheK_at (s : Fin 16) (z : Fin 1) (p : Fin 256) (a : Fin 8) (e : Fin 64) : cacheK x0 x3 x4 x5 x6 (ix5 s z p a e)
    = tok x0 x1 x2 x3 x4 x5 x6 (⟨s.val * 256 + p.val, by omega⟩ : Fin 12288) ⟨2048 + (a.val * 64 + e.val), by omega⟩ := by
  have e1 : cacheK x0 x3 x4 x5 x6 (ix5 s z p a e) = k_ctx (ctx x0 x3 x4 x5 x6) (ix3 s p (⟨a.val * 64 + e.val, by omega⟩ : Fin 512)) := by
    generalize hu : k_ctx (ctx x0 x3 x4 x5 x6) = u
    unfold cacheK
    rw [hu]
    pointwise
  rw [e1, k_ctx_at, ← ctx_at x0 x1 x2 x3 x4 x5 x6 _ (by show s.val * 256 + p.val < 4096; omega)]
  refine congrArg _ (funext fun i => Fin.ext ?_)
  fin_cases i
  · show s.val = (s.val * 256 + p.val) / 256
    omega
  · show p.val = (s.val * 256 + p.val) % 256
    omega
  · rfl

/-- The new cache of values. -/
def cacheV : FVec Ideal S16x1x256x8x64 .f32 :=
  broadcastInDim S16x1x256x8x64 ![0, 2, 3, 4] bcast_S16x256x8x64_S16x1x256x8x64_0_2_3_4
    (shapeCast S16x256x8x64 (v_ctx (ctx x0 x3 x4 x5 x6)) shapeCasts_S16x256x512_S16x256x8x64)

theorem cacheV_at (s : Fin 16) (z : Fin 1) (p : Fin 256) (a : Fin 8) (e : Fin 64) : cacheV x0 x3 x4 x5 x6 (ix5 s z p a e)
    = tok x0 x1 x2 x3 x4 x5 x6 (⟨s.val * 256 + p.val, by omega⟩ : Fin 12288) ⟨2560 + (a.val * 64 + e.val), by omega⟩ := by
  have e1 : cacheV x0 x3 x4 x5 x6 (ix5 s z p a e) = v_ctx (ctx x0 x3 x4 x5 x6) (ix3 s p (⟨a.val * 64 + e.val, by omega⟩ : Fin 512)) := by
    generalize hu : v_ctx (ctx x0 x3 x4 x5 x6) = u
    unfold cacheV
    rw [hu]
    pointwise
  rw [e1, v_ctx_at, ← ctx_at x0 x1 x2 x3 x4 x5 x6 _ (by show s.val * 256 + p.val < 4096; omega)]
  refine congrArg _ (funext fun i => Fin.ext ?_)
  fin_cases i
  · show s.val = (s.val * 256 + p.val) / 256
    omega
  · show p.val = (s.val * 256 + p.val) % 256
    omega
  · rfl

end

variable (m : (ℓ : Loc nD τ sig) → Buf (Elt Ideal) ℓ) (c : Dev nD)

/-- Argument 0. -/
def arg0 : FVec Ideal S16x256x1024 .f32 := m ((c.tc : Thread nD τ).loc main_arg0)
/-- Argument 1. -/
def arg1 : FVec Ideal S8x1024x1024 .f32 := m ((c.tc : Thread nD τ).loc main_arg1)
/-- Argument 2. -/
def arg2 : FVec Ideal S8x1024 .f32 := m ((c.tc : Thread nD τ).loc main_arg2)
/-- Argument 3. -/
def arg3 : FVec Ideal S1024 .f32 := m ((c.tc : Thread nD τ).loc main_arg3)
/-- Argument 4. -/
def arg4 : FVec Ideal S1x1024x6144 .f32 := m ((c.tc : Thread nD τ).loc main_arg4)
/-- Argument 5. -/
def arg5 : FVec Ideal S1x6144 .f32 := m ((c.tc : Thread nD τ).loc main_arg5)
/-- Argument 6. -/
def arg6 : FVec Ideal S1x1024x5120 .f32 := m ((c.tc : Thread nD τ).loc main_arg6)

theorem h_eq : Value.res_main_v98 m c = h (arg0 m c) (arg1 m c) (arg2 m c) (arg3 m c) (arg4 m c) (arg5 m c) (arg6 m c) := rfl

theorem b_eq : Value.res_main_v101 m c = b (arg0 m c) (arg1 m c) (arg2 m c) (arg3 m c) (arg4 m c) (arg5 m c) (arg6 m c) := rfl

theorem q_eq : Value.res_main_v104 m c = q (arg0 m c) (arg1 m c) (arg2 m c) (arg3 m c) (arg4 m c) (arg5 m c) (arg6 m c) := rfl

theorem k_eq : Value.res_main_v107 m c = k (arg0 m c) (arg1 m c) (arg2 m c) (arg3 m c) (arg4 m c) (arg5 m c) (arg6 m c) := rfl

theorem v_eq : Value.res_main_v110 m c = v (arg0 m c) (arg1 m c) (arg2 m c) (arg3 m c) (arg4 m c) (arg5 m c) (arg6 m c) := rfl

theorem gc_eq : Value.res_main_v113 m c = gc (arg0 m c) (arg1 m c) (arg2 m c) (arg3 m c) (arg4 m c) (arg5 m c) (arg6 m c) := rfl

theorem gn_eq : Value.res_main_v116 m c = gn (arg0 m c) (arg1 m c) (arg2 m c) (arg3 m c) (arg4 m c) (arg5 m c) (arg6 m c) := rfl

end Cert.Proj.Ref

end
-- ==== Proof.Proj.Value.lean ====
/- The kernel's results are the reference's functions of the kernel's arguments. -/
module

public import proofs.«01_k».proof.Proof.Proj.Entry
public import proofs.«01_k».proof.Proof.Proj.Ref

@[expose] public section

set_option maxRecDepth 16384

noncomputable section

namespace Cert.Proj.Ker

open Cert.Kernel2Ideal Cert.Kernel2Ideal.Gen Idealize.ShloMosaic Idealize.ShloMosaic.TcCoe Cert.Proj

variable (m : (ℓ : Loc nD τ sig) → Buf (Elt Ideal) ℓ) (ρ : Dev nD → PrngReg) (c : Dev nD)

/-- The features of a token are the argument's. -/
theorem token_eq (n : Fin 12288) : tokenV (V3 m ρ) c n = rowOf (fun s p d => arg0 m c (ix3 s p d)) (fun s p d => arg1 m c (ix3 s p d)) n := by
  funext d
  unfold tokenV rowOf
  by_cases h : n.val < 4096
  · rw [dif_pos h, dif_pos h, ctx_row]
  · rw [dif_neg h, dif_neg h, lat_row]

/-- The condition behind a token's modulation vector is the argument's. -/
theorem cond_eq (n : Fin 12288) : (fun d => condV (V1 m ρ) c (ix2 (modRow n) d))
    = condOf (fun d => arg3 m c (ix1 d)) (fun s d => arg2 m c (ix2 s d)) n := by
  funext d
  unfold condOf modRow
  by_cases h : n.val < 4096
  · rw [dif_pos h, if_pos h, cond_zero]
  · rw [dif_neg h, if_neg h]
    exact cond_succ m ρ c (seqOf n h) d

/-- A token's projection is the reference's of the arguments. -/
theorem tok_eq (n : Fin 12288) (l : Fin 5120) : tokAt (V3 m ρ) c n l
    = Ref.tok (arg0 m c) (arg1 m c) (arg2 m c) (arg3 m c) (arg4 m c) (arg5 m c) (arg6 m c) n l := by
  unfold tokAt Ref.tok
  rw [token_eq, funext fun l => mod_row m ρ c (modRow n) l, funext fun d => funext fun l => in_at m ρ c d l]
  unfold modAt
  rw [cond_eq, funext fun d => funext fun l => ada_at m ρ c d l, funext fun l => bias_at m ρ c l]

theorem h_token (n : Fin 12288) (l : Fin 512) : hAt (V3 m ρ) c n l = Ref.h (arg0 m c) (arg1 m c) (arg2 m c) (arg3 m c) (arg4 m c) (arg5 m c) (arg6 m c) (ix2 n l) := by
  rw [Ref.h_at]
  unfold hAt
  simp only [tok_eq m ρ c]

theorem h_value : (fun j : S12288x512.Idx => hAt (V3 m ρ) c (j 0) (j 1)) = Ref.h (arg0 m c) (arg1 m c) (arg2 m c) (arg3 m c) (arg4 m c) (arg5 m c) (arg6 m c) := by
  funext j
  rw [two_axes j]
  exact h_token m ρ c (j 0) (j 1)

/-- The call's product, left by the last stretch. -/
theorem h_left : W4 m ρ c (Proc.devRef .tc main_v12_0) = Ref.h (arg0 m c) (arg1 m c) (arg2 m c) (arg3 m c) (arg4 m c) (arg5 m c) (arg6 m c) :=
  ((W4_arr m ρ c 4).trans (h_array (V3 m ρ) c)).trans (h_value m ρ c)

theorem b_token (n : Fin 12288) (l : Fin 512) : bAt (V3 m ρ) c n l = Ref.b (arg0 m c) (arg1 m c) (arg2 m c) (arg3 m c) (arg4 m c) (arg5 m c) (arg6 m c) (ix2 n l) := by
  rw [Ref.b_at]
  unfold bAt
  simp only [tok_eq m ρ c]

theorem b_value : (fun j : S12288x512.Idx => bAt (V3 m ρ) c (j 0) (j 1)) = Ref.b (arg0 m c) (arg1 m c) (arg2 m c) (arg3 m c) (arg4 m c) (arg5 m c) (arg6 m c) := by
  funext j
  rw [two_axes j]
  exact b_token m ρ c (j 0) (j 1)

/-- The call's convolution's gate, left by the last stretch. -/
theorem b_left : W4 m ρ c (Proc.devRef .tc main_v12_1) = Ref.b (arg0 m c) (arg1 m c) (arg2 m c) (arg3 m c) (arg4 m c) (arg5 m c) (arg6 m c) :=
  ((W4_arr m ρ c 5).trans (b_array (V3 m ρ) c)).trans (b_value m ρ c)

theorem q_token (n : Fin 12288) (l : Fin 512) : qAt (V3 m ρ) c n l = Ref.q (arg0 m c) (arg1 m c) (arg2 m c) (arg3 m c) (arg4 m c) (arg5 m c) (arg6 m c) (ix2 n l) := by
  rw [Ref.q_at]
  unfold qAt
  simp only [tok_eq m ρ c]

theorem q_value : (fun j : S12288x512.Idx => qAt (V3 m ρ) c (j 0) (j 1)) = Ref.q (arg0 m c) (arg1 m c) (arg2 m c) (arg3 m c) (arg4 m c) (arg5 m c) (arg6 m c) := by
  funext j
  rw [two_axes j]
  exact q_token m ρ c (j 0) (j 1)

/-- The call's queries, left by the last stretch. -/
theorem q_left : W4 m ρ c (Proc.devRef .tc main_v12_2) = Ref.q (arg0 m c) (arg1 m c) (arg2 m c) (arg3 m c) (arg4 m c) (arg5 m c) (arg6 m c) :=
  ((W4_arr m ρ c 6).trans (q_array (V3 m ρ) c)).trans (q_value m ρ c)

theorem k_token (n : Fin 12288) (l : Fin 512) : kAt (V3 m ρ) c n l = Ref.k (arg0 m c) (arg1 m c) (arg2 m c) (arg3 m c) (arg4 m c) (arg5 m c) (arg6 m c) (ix2 n l) := by
  rw [Ref.k_at]
  unfold kAt
  simp only [tok_eq m ρ c]

theorem k_value : (fun j : S12288x512.Idx => kAt (V3 m ρ) c (j 0) (j 1)) = Ref.k (arg0 m c) (arg1 m c) (arg2 m c) (arg3 m c) (arg4 m c) (arg5 m c) (arg6 m c) := by
  funext j
  rw [two_axes j]
  exact k_token m ρ c (j 0) (j 1)

/-- The call's keys, left by the last stretch. -/
theorem k_left : W4 m ρ c (Proc.devRef .tc main_v12_3) = Ref.k (arg0 m c) (arg1 m c) (arg2 m c) (arg3 m c) (arg4 m c) (arg5 m c) (arg6 m c) :=
  ((W4_arr m ρ c 7).trans (k_array (V3 m ρ) c)).trans (k_value m ρ c)

theorem v_token (n : Fin 12288) (l : Fin 512) : vAt (V3 m ρ) c n l = Ref.v (arg0 m c) (arg1 m c) (arg2 m c) (arg3 m c) (arg4 m c) (arg5 m c) (arg6 m c) (ix2 n l) := by
  rw [Ref.v_at]
  unfold vAt
  simp only [tok_eq m ρ c]

theorem v_value : (fun j : S12288x512.Idx => vAt (V3 m ρ) c (j 0) (j 1)) = Ref.v (arg0 m c) (arg1 m c) (arg2 m c) (arg3 m c) (arg4 m c) (arg5 m c) (arg6 m c) := by
  funext j
  rw [two_axes j]
  exact v_token m ρ c (j 0) (j 1)

/-- The call's values, left by the last stretch. -/
theorem v_left : W4 m ρ c (Proc.devRef .tc main_v12_4) = Ref.v (arg0 m c) (arg1 m c) (arg2 m c) (arg3 m c) (arg4 m c) (arg5 m c) (arg6 m c) :=
  ((W4_arr m ρ c 8).trans (v_array (V3 m ρ) c)).trans (v_value m ρ c)

theorem gc_token (n : Fin 12288) (l : Fin 1024) : gcAt (V3 m ρ) c n l = Ref.gc (arg0 m c) (arg1 m c) (arg2 m c) (arg3 m c) (arg4 m c) (arg5 m c) (arg6 m c) (ix2 n l) := by
  rw [Ref.gc_at]
  unfold gcAt
  simp only [tok_eq m ρ c]

theorem gc_value : (fun j : S12288x1024.Idx => gcAt (V3 m ρ) c (j 0) (j 1)) = Ref.gc (arg0 m c) (arg1 m c) (arg2 m c) (arg3 m c) (arg4 m c) (arg5 m c) (arg6 m c) := by
  funext j
  rw [two_axes j]
  exact gc_token m ρ c (j 0) (j 1)

/-- The call's first output gate, left by the last stretch. -/
theorem gc_left : W4 m ρ c (Proc.devRef .tc main_v12_5) = Ref.gc (arg0 m c) (arg1 m c) (arg2 m c) (arg3 m c) (arg4 m c) (arg5 m c) (arg6 m c) :=
  ((W4_arr m ρ c 9).trans (gc_array (V3 m ρ) c)).trans (gc_value m ρ c)

theorem gn_token (n : Fin 12288) (l : Fin 1024) : gnAt (V3 m ρ) c n l = Ref.gn (arg0 m c) (arg1 m c) (arg2 m c) (arg3 m c) (arg4 m c) (arg5 m c) (arg6 m c) (ix2 n l) := by
  rw [Ref.gn_at]
  unfold gnAt
  simp only [tok_eq m ρ c]

theorem gn_value : (fun j : S12288x1024.Idx => gnAt (V3 m ρ) c (j 0) (j 1)) = Ref.gn (arg0 m c) (arg1 m c) (arg2 m c) (arg3 m c) (arg4 m c) (arg5 m c) (arg6 m c) := by
  funext j
  rw [two_axes j]
  exact gn_token m ρ c (j 0) (j 1)

/-- The call's second output gate, left by the last stretch. -/
theorem gn_left : W4 m ρ c (Proc.devRef .tc main_v12_6) = Ref.gn (arg0 m c) (arg1 m c) (arg2 m c) (arg3 m c) (arg4 m c) (arg5 m c) (arg6 m c) :=
  ((W4_arr m ρ c 10).trans (gn_array (V3 m ρ) c)).trans (gn_value m ρ c)

theorem result0 : W5 m ρ c (Proc.devRef .tc main_v12_0) = Ref.h (arg0 m c) (arg1 m c) (arg2 m c) (arg3 m c) (arg4 m c) (arg5 m c) (arg6 m c) :=
  (W5_of m ρ c main_v12_0 (by decide)).trans (h_left m ρ c)

theorem result1 : W5 m ρ c (Proc.devRef .tc main_v12_1) = Ref.b (arg0 m c) (arg1 m c) (arg2 m c) (arg3 m c) (arg4 m c) (arg5 m c) (arg6 m c) :=
  (W5_of m ρ c main_v12_1 (by decide)).trans (b_left m ρ c)

theorem result2 : W5 m ρ c (Proc.devRef .tc main_v12_2) = Ref.q (arg0 m c) (arg1 m c) (arg2 m c) (arg3 m c) (arg4 m c) (arg5 m c) (arg6 m c) :=
  (W5_of m ρ c main_v12_2 (by decide)).trans (q_left m ρ c)

theorem result3 : W5 m ρ c (Proc.devRef .tc main_v12_3) = Ref.k (arg0 m c) (arg1 m c) (arg2 m c) (arg3 m c) (arg4 m c) (arg5 m c) (arg6 m c) :=
  (W5_of m ρ c main_v12_3 (by decide)).trans (k_left m ρ c)

theorem result4 : W5 m ρ c (Proc.devRef .tc main_v12_4) = Ref.v (arg0 m c) (arg1 m c) (arg2 m c) (arg3 m c) (arg4 m c) (arg5 m c) (arg6 m c) :=
  (W5_of m ρ c main_v12_4 (by decide)).trans (v_left m ρ c)

theorem result5 : W5 m ρ c (Proc.devRef .tc main_v12_5) = Ref.gc (arg0 m c) (arg1 m c) (arg2 m c) (arg3 m c) (arg4 m c) (arg5 m c) (arg6 m c) :=
  (W5_of m ρ c main_v12_5 (by decide)).trans (gc_left m ρ c)

theorem result6 : W5 m ρ c (Proc.devRef .tc main_v12_6) = Ref.gn (arg0 m c) (arg1 m c) (arg2 m c) (arg3 m c) (arg4 m c) (arg5 m c) (arg6 m c) :=
  (W5_of m ρ c main_v12_6 (by decide)).trans (gn_left m ρ c)

/-- Two caches agree when the first's tokens and columns are the second's entries. -/
theorem cache_of (u : FVec Ideal S12288x512 .f32) (w : FVec Ideal S16x1x256x8x64 .f32)
    (h : ∀ (s : Fin 16) (z : Fin 1) (p : Fin 256) (a : Fin 8) (e : Fin 64),
      u (ix2 (⟨s.val * 256 + p.val, by omega⟩ : Fin 12288) (⟨a.val * 64 + e.val, by omega⟩ : Fin 512)) = w (ix5 s z p a e)) :
    shapeCast S16x1x256x8x64 (extractStridedSlice S4096x512 ![0, 0] u slices_S12288x512_S4096x512_0_0) shapeCasts_S4096x512_S16x1x256x8x64 = w := by
  funext i
  obtain ⟨s, z, p, a, e, rfl⟩ : ∃ s z p a e, i = (ix5 s z p a e : S16x1x256x8x64.Idx) := ⟨i 0, i 1, i 2, i 3, i 4, funext fun k => by fin_cases k <;> rfl⟩
  rw [← h]
  pointwise

/-- The new cache of keys. -/
theorem result7 : W5 m ρ c (Proc.devRef .tc main_v14) = Ref.cacheK (arg0 m c) (arg3 m c) (arg4 m c) (arg5 m c) (arg6 m c) := by
  have e : W5 m ρ c (Proc.devRef .tc main_v14) = shapeCast S16x1x256x8x64
      (extractStridedSlice S4096x512 ![0, 0] (W4 m ρ c (Proc.devRef .tc main_v12_3)) slices_S12288x512_S4096x512_0_0)
      shapeCasts_S4096x512_S16x1x256x8x64 := by
    show StableHlo.after hostOps2 (W4 m ρ c) _ = _
    simp only [hostOps2, StableHlo.TRef.ternary, StableHlo.TRef.unary, StableHlo.TRef.toBuf, StableHlo.TRef.ofBuf, cast_eq]
    after_results_simp
    rfl
  rw [e, k_left]
  refine cache_of _ _ fun s z p a e => ?_
  exact (Ref.k_at (arg0 m c) (arg1 m c) (arg2 m c) (arg3 m c) (arg4 m c) (arg5 m c) (arg6 m c) _ _).trans (Ref.cacheK_at (arg0 m c) (arg1 m c) (arg2 m c) (arg3 m c) (arg4 m c) (arg5 m c) (arg6 m c) s z p a e).symm

/-- The new cache of values. -/
theorem result8 : W5 m ρ c (Proc.devRef .tc main_v16) = Ref.cacheV (arg0 m c) (arg3 m c) (arg4 m c) (arg5 m c) (arg6 m c) := by
  have e : W5 m ρ c (Proc.devRef .tc main_v16) = shapeCast S16x1x256x8x64
      (extractStridedSlice S4096x512 ![0, 0] (W4 m ρ c (Proc.devRef .tc main_v12_4)) slices_S12288x512_S4096x512_0_0)
      shapeCasts_S4096x512_S16x1x256x8x64 := by
    show StableHlo.after hostOps2 (W4 m ρ c) _ = _
    simp only [hostOps2, StableHlo.TRef.ternary, StableHlo.TRef.unary, StableHlo.TRef.toBuf, StableHlo.TRef.ofBuf, cast_eq]
    after_results_simp
    rfl
  rw [e, v_left]
  refine cache_of _ _ fun s z p a e => ?_
  exact (Ref.v_at (arg0 m c) (arg1 m c) (arg2 m c) (arg3 m c) (arg4 m c) (arg5 m c) (arg6 m c) _ _).trans (Ref.cacheV_at (arg0 m c) (arg1 m c) (arg2 m c) (arg3 m c) (arg4 m c) (arg5 m c) (arg6 m c) s z p a e).symm

end Cert.Proj.Ker

end
-- ==== Proof.Lat.RefTables.lean ====
/- The reference's index tables: which rows and columns of the grid a query's window and band hold, and the gathers
   that read keys, values and relative biases by them. -/
module

public import proofs.«01_k».proof.Proof.Gen.ReferenceIdeal
public import Idealize.ShloMosaic.Lib.Pointwise

@[expose] public section

set_option maxRecDepth 16384

noncomputable section

namespace Cert.Lat.Ref

open Cert.ReferenceIdeal Cert.ReferenceIdeal.Gen Idealize.ShloMosaic

/-- The first of the eight key rows that query row `r` sees. -/
def rowStart (r : ℕ) : ℕ := min (r - 4) 8

/-- The first of the 32 key columns that the block `j` of query columns sees. -/
def bandStart (j : ℕ) : ℕ := min (16 * j - 8) 32

/-- The first of the sixteen key columns that query column `x` sees. -/
def colStart (x : ℕ) : ℕ := min (x - 8) 48

theorem rowStart_lt (r : Fin 16) (i : Fin 8) : rowStart r + i < 16 := by unfold rowStart; omega
theorem bandStart_lt (j : Fin 4) (k : Fin 32) : bandStart j + k < 64 := by unfold bandStart; omega

/-- The table of key rows. -/
abbrev rowT : IVec S16x8x1 32 :=
  broadcastInDim S16x8x1 ![0, 1] bcast_S16x8_S16x8x1_0_1 (select (constantI S16x8 1 0#1)
    (addi (fun i => lit3 (S16x8.rowMajor i)) (broadcastInDim S16x8 ![] bcast_S_S16x8 (constantI S_ 32 16#32)))
    (fun i => lit3 (S16x8.rowMajor i)))

/-- The table of key columns. -/
abbrev colT : IVec S4x32x1 32 :=
  broadcastInDim S4x32x1 ![0, 1] bcast_S4x32_S4x32x1_0_1 (select (constantI S4x32 1 0#1)
    (addi (fun i => lit4 (S4x32.rowMajor i)) (broadcastInDim S4x32 ![] bcast_S_S4x32 (constantI S_ 32 64#32)))
    (fun i => lit4 (S4x32.rowMajor i)))

theorem lit3_eq : ∀ (r : Fin 16) (i : Fin 8), lit3 ⟨r * 8 + i, by omega⟩ = BitVec.ofNat 32 (rowStart r + i) := by
  decide

theorem lit4_eq : ∀ (j : Fin 4) (k : Fin 32), lit4 ⟨j * 32 + k, by omega⟩ = BitVec.ofNat 32 (bandStart j + k) := by
  decide

/-- The table of key rows at query row `r`, place `i`. -/
theorem rowT_at (r : Fin 16) (i : Fin 8) : rowT (ix3 r i (0 : Fin 1)) = BitVec.ofNat 32 (rowStart r + i) := by
  rw [← lit3_eq]
  pointwise [rowT]
  exact congrArg lit3 (Fin.ext (rowMajor_val2 (ix2 r i) 8 rfl))

/-- The table of key columns at block `j`, place `k`. -/
theorem colT_at (j : Fin 4) (k : Fin 32) : colT (ix3 j k (0 : Fin 1)) = BitVec.ofNat 32 (bandStart j + k) := by
  rw [← lit4_eq]
  pointwise [colT]
  exact congrArg lit4 (Fin.ext (rowMajor_val2 (ix2 j k) 32 rfl))

/-- Which row of the table of relative biases: the key row less the query row, shifted by seven. -/
def rowRel (r i : ℕ) : ℕ := rowStart r + i + 7 - r

/-- Which column of the table of relative biases: the key column `y` less the query column `x`, held within fifteen
    either way and shifted by fifteen. -/
def colRel (x y : ℕ) : ℕ := min (y + 15 - x) 30

theorem rowRel_lt (r : Fin 16) (i : Fin 8) : rowRel r i < 15 := by unfold rowRel rowStart; omega
theorem colRel_lt (x y : ℕ) : colRel x y < 31 := by unfold colRel; omega

/-- Whether query column `x` sees key column `y`. -/
abbrev sees (x y : ℕ) : Prop := colStart x ≤ y ∧ y < colStart x + 16

theorem lit0_eq : ∀ (r : Fin 16) (i : Fin 8), lit0 ⟨r * 8 + i, by omega⟩ = BitVec.ofNat 32 (rowRel r i) := by
  decide

theorem lit1_eq : ∀ (j : Fin 4) (q : Fin 16) (k : Fin 32),
    lit1 ⟨j * 512 + q * 32 + k, by omega⟩ = BitVec.ofNat 32 (colRel (16 * j + q) (bandStart j + k)) := by
  decide +kernel

theorem lit2_eq : ∀ (j : Fin 4) (q : Fin 16) (k : Fin 32),
    lit2 ⟨j * 512 + q * 32 + k, by omega⟩ = if sees (16 * j + q) (bandStart j + k) then 1#1 else 0#1 := by
  decide +kernel

/-- The two tables that say which relative bias a query and a key take, side by side. -/
abbrev biasT : IVec S16x4x16x8x32x2 32 :=
  concatenate S16x4x16x8x32x2 5
    [⟨S16x4x16x8x32x1, broadcastInDim S16x4x16x8x32x1 ![0, 1, 2, 3, 4] bcast_S16x4x16x8x32_S16x4x16x8x32x1_0_1_2_3_4
      (broadcastInDim S16x4x16x8x32 ![0, 1, 2, 3, 4] bcast_S16x1x1x8x1_S16x4x16x8x32_0_1_2_3_4
        (select (constantI S16x1x1x8x1 1 0#1) (addi (fun i => lit0 (S16x1x1x8x1.rowMajor i))
          (broadcastInDim S16x1x1x8x1 ![] bcast_S_S16x1x1x8x1 (constantI S_ 32 15#32)))
          (fun i => lit0 (S16x1x1x8x1.rowMajor i))))⟩,
     ⟨S16x4x16x8x32x1, broadcastInDim S16x4x16x8x32x1 ![0, 1, 2, 3, 4] bcast_S16x4x16x8x32_S16x4x16x8x32x1_0_1_2_3_4
      (broadcastInDim S16x4x16x8x32 ![0, 1, 2, 3, 4] bcast_S1x4x16x1x32_S16x4x16x8x32_0_1_2_3_4
        (select (constantI S1x4x16x1x32 1 0#1) (addi (fun i => lit1 (S1x4x16x1x32.rowMajor i))
          (broadcastInDim S1x4x16x1x32 ![] bcast_S_S1x4x16x1x32 (constantI S_ 32 31#32)))
          (fun i => lit1 (S1x4x16x1x32.rowMajor i))))⟩]
    concatenates_S16x4x16x8x32x1_S16x4x16x8x32x1_S16x4x16x8x32x2_d5

/-- The first of the two tables: rows. -/
theorem biasT_row (r : Fin 16) (j : Fin 4) (q : Fin 16) (i : Fin 8) (k : Fin 32) :
    biasT (ix6 r j q i k (0 : Fin 2)) = BitVec.ofNat 32 (rowRel r i) := by
  rw [← lit0_eq]
  pointwise [biasT]
  exact congrArg lit0 (Fin.ext ((rowMajor_val5 (ix5 r (0 : Fin 1) (0 : Fin 1) i (0 : Fin 1)) 8 8 8 1 rfl rfl rfl rfl).trans
    (by show r.val * 8 + 0 * 8 + 0 * 8 + i.val * 1 + 0 = r.val * 8 + i.val; omega)))

/-- The second of the two tables: columns. -/
theorem biasT_col (r : Fin 16) (j : Fin 4) (q : Fin 16) (i : Fin 8) (k : Fin 32) :
    biasT (ix6 r j q i k (1 : Fin 2)) = BitVec.ofNat 32 (colRel (16 * j + q) (bandStart j + k)) := by
  rw [← lit1_eq]
  pointwise [biasT]
  exact congrArg lit1 (Fin.ext ((rowMajor_val5 (ix5 (0 : Fin 1) j q (0 : Fin 1) k) 2048 512 32 32 rfl rfl rfl rfl).trans
    (by show 0 * 2048 + j.val * 512 + q.val * 32 + 0 * 32 + k.val = j.val * 512 + q.val * 32 + k.val; omega)))

/-- A word that holds a small number reads as that number. -/
theorem toInt_small (n : ℕ) (hn : n < 2 ^ 31) : (BitVec.ofNat 32 n).toInt.toNat = n := by
  rw [BitVec.toInt_eq_toNat_of_lt] <;> simp <;> omega

/-- Rows read by a table. -/
theorem gatherRow_at {α : Type} (x : S8x16x64x8x64.Idx → α) (t : IVec S16x8x1 32) (b : Fin 8) (r : Fin 16) (i : Fin 8)
    (c : Fin 64) (h : Fin 8) (d : Fin 64) (n : ℕ) (hn : n < 16) (ht : t (ix3 r i (0 : Fin 1)) = BitVec.ofNat 32 n) :
    Host.gather gather_S8x16x64x8x64_S16x8x1_S8x16x8x64x8x64_0345_1_n_n_1_2_8164864 x t (ix6 b r i c h d)
      = x (ix5 b (⟨n, hn⟩ : Fin 16) c h d) := by
  unfold Host.gather
  refine congrArg x (funext fun a => Fin.ext ?_)
  match a with
  | ⟨0, _⟩ => exact Nat.zero_add b.val
  | ⟨1, _⟩ =>
    show min (t _).toInt.toNat _ + 0 + 0 = n
    have e : ∀ y, y = ix3 r i (0 : Fin 1) → min (t y).toInt.toNat 15 = n := by
      rintro _ rfl; rw [ht, toInt_small n (by omega)]; omega
    refine e _ (funext fun b' => Fin.ext ?_)
    match b' with
    | ⟨0, _⟩ => rfl
    | ⟨1, _⟩ => rfl
    | ⟨2, _⟩ => rfl
  | ⟨2, _⟩ => exact Nat.zero_add c.val
  | ⟨3, _⟩ => exact Nat.zero_add h.val
  | ⟨4, _⟩ => exact Nat.zero_add d.val

/-- Columns read by a table. -/
theorem gatherCol_at {α : Type} (x : S8x16x8x64x8x64.Idx → α) (t : IVec S4x32x1 32) (b : Fin 8) (r : Fin 16) (i : Fin 8)
    (j : Fin 4) (k : Fin 32) (h : Fin 8) (d : Fin 64) (n : ℕ) (hn : n < 64)
    (ht : t (ix3 j k (0 : Fin 1)) = BitVec.ofNat 32 n) :
    Host.gather gather_S8x16x8x64x8x64_S4x32x1_S8x16x8x4x32x8x64_01256_3_n_n_3_2_81681864 x t (ix7 b r i j k h d)
      = x (ix6 b r i (⟨n, hn⟩ : Fin 64) h d) := by
  unfold Host.gather
  refine congrArg x (funext fun a => Fin.ext ?_)
  match a with
  | ⟨0, _⟩ => exact Nat.zero_add b.val
  | ⟨1, _⟩ => exact Nat.zero_add r.val
  | ⟨2, _⟩ => exact Nat.zero_add i.val
  | ⟨3, _⟩ =>
    show min (t _).toInt.toNat _ + 0 + 0 = n
    have e : ∀ y, y = ix3 j k (0 : Fin 1) → min (t y).toInt.toNat 63 = n := by
      rintro _ rfl; rw [ht, toInt_small n (by omega)]; omega
    refine e _ (funext fun b' => Fin.ext ?_)
    match b' with
    | ⟨0, _⟩ => rfl
    | ⟨1, _⟩ => rfl
    | ⟨2, _⟩ => rfl
  | ⟨4, _⟩ => exact Nat.zero_add h.val
  | ⟨5, _⟩ => exact Nat.zero_add d.val

/-- Relative biases read by two tables. -/
theorem gatherBias_at {α : Type} (x : S8x15x31.Idx → α) (t : IVec S16x4x16x8x32x2 32) (h : Fin 8) (r : Fin 16) (j : Fin 4)
    (q : Fin 16) (i : Fin 8) (k : Fin 32) (n n' : ℕ) (hn : n < 15) (hn' : n' < 31)
    (ht : t (ix6 r j q i k (0 : Fin 2)) = BitVec.ofNat 32 n) (ht' : t (ix6 r j q i k (1 : Fin 2)) = BitVec.ofNat 32 n') :
    Host.gather gather_S8x15x31_S16x4x16x8x32x2_S8x16x4x16x8x32_0_12_n_n_12_5_811 x t (ix6 h r j q i k)
      = x (ix3 h (⟨n, hn⟩ : Fin 15) (⟨n', hn'⟩ : Fin 31)) := by
  unfold Host.gather
  refine congrArg x (funext fun a => Fin.ext ?_)
  match a with
  | ⟨0, _⟩ => exact Nat.zero_add h.val
  | ⟨1, _⟩ =>
    show min (t _).toInt.toNat _ + 0 + 0 = n
    have e : ∀ y, y = ix6 r j q i k (0 : Fin 2) → min (t y).toInt.toNat 14 = n := by
      rintro _ rfl; rw [ht, toInt_small n (by omega)]; omega
    refine e _ (funext fun b' => Fin.ext ?_)
    match b' with
    | ⟨0, _⟩ => rfl
    | ⟨1, _⟩ => rfl
    | ⟨2, _⟩ => rfl
    | ⟨3, _⟩ => rfl
    | ⟨4, _⟩ => rfl
    | ⟨5, _⟩ => rfl
  | ⟨2, _⟩ =>
    show min (t _).toInt.toNat _ + 0 + 0 = n'
    have e : ∀ y, y = ix6 r j q i k (1 : Fin 2) → min (t y).toInt.toNat 30 = n' := by
      rintro _ rfl; rw [ht', toInt_small n' (by omega)]; omega
    refine e _ (funext fun b' => Fin.ext ?_)
    match b' with
    | ⟨0, _⟩ => rfl
    | ⟨1, _⟩ => rfl
    | ⟨2, _⟩ => rfl
    | ⟨3, _⟩ => rfl
    | ⟨4, _⟩ => rfl
    | ⟨5, _⟩ => rfl

end Cert.Lat.Ref
-- ==== Proof.Lat.Softmax.lean ====
/- The algebra of a masked softmax over the extended reals: a maximum, exponentials, a sum and a quotient, free of
   any program. A score of ⊥ stands for a masked key: its exponential is zero and it enters no sum. -/
module

public import Idealize.ShloMosaic.PureOps.Ideal
public import Mathlib.Data.EReal.Operations
public import Mathlib.Data.EReal.Inv
public import Mathlib.Algebra.BigOperators.Group.Finset.Basic

@[expose] public section

noncomputable section

namespace Cert.Lat

open Idealize.ShloMosaic

/-- A number that is neither of the infinities. -/
def Fin' (x : EReal) : Prop := x ≠ ⊥ ∧ x ≠ ⊤

/-- A finite extended real is a real number. -/
theorem Fin'.lift {x : EReal} (h : Fin' x) : ∃ r : ℝ, x = (r : EReal) := by
  induction x with
  | bot => exact absurd rfl h.1
  | top => exact absurd rfl h.2
  | coe r => exact ⟨r, rfl⟩

theorem Fin'.coe (r : ℝ) : Fin' (r : EReal) := ⟨EReal.coe_ne_bot r, EReal.coe_ne_top r⟩

theorem Fin'.mul {x y : EReal} (hx : Fin' x) (hy : Fin' y) : Fin' (x * y) := by
  obtain ⟨a, rfl⟩ := hx.lift
  obtain ⟨b, rfl⟩ := hy.lift
  rw [← EReal.coe_mul]; exact Fin'.coe _

theorem Fin'.add {x y : EReal} (hx : Fin' x) (hy : Fin' y) : Fin' (x + y) := by
  obtain ⟨a, rfl⟩ := hx.lift
  obtain ⟨b, rfl⟩ := hy.lift
  rw [← EReal.coe_add]; exact Fin'.coe _

/-- A finite sum of finite numbers is finite. -/
theorem Fin'.sum {ι : Type} (s : Finset ι) {f : ι → EReal} (hf : ∀ i, Fin' (f i)) : Fin' (∑ i ∈ s, f i) := by
  classical
  induction s using Finset.induction_on with
  | empty => rw [Finset.sum_empty]; exact Fin'.coe 0
  | insert a s ha ih => rw [Finset.sum_insert ha]; exact (hf a).add ih

/-- A nonnegative real factor goes into a sum of extended reals, whatever they are. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A finite sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score that is not ⊤, less a real number, has a nonnegative real exponential, and that of ⊥ is zero. -/
theorem exp_sub_real {s : EReal} (hs : s ≠ ⊤) (m : ℝ) : ∃ p : ℝ, 0 ≤ p ∧ Ideal.exp (s - (m : EReal)) = (p : EReal) := by
  induction s with
  | bot => exact ⟨0, le_rfl, by rw [EReal.bot_sub, Ideal.exp_bot, EReal.coe_zero]⟩
  | top => exact absurd rfl hs
  | coe r => exact ⟨Real.exp (r - m), (Real.exp_pos _).le, by rw [← EReal.coe_sub, Ideal.exp_coe]⟩

/-- The exponential of a masked score is zero. -/
theorem exp_bot_sub (m : EReal) : Ideal.exp (⊥ - m) = 0 := by rw [EReal.bot_sub, Ideal.exp_bot]

/-- A maximum over a finite set, from ⊥. -/
def top {ι : Type} [Fintype ι] (f : ι → EReal) : EReal := Finset.univ.fold max ⊥ f

theorem le_top {ι : Type} [Fintype ι] (f : ι → EReal) (i : ι) : f i ≤ top f :=
  (Finset.le_fold_max _).mpr (.inr ⟨i, Finset.mem_univ i, le_rfl⟩)

theorem top_le {ι : Type} [Fintype ι] {f : ι → EReal} {b : EReal} (h : ∀ i, f i ≤ b) : top f ≤ b :=
  (Finset.fold_max_le _).mpr ⟨bot_le, fun i _ => h i⟩

theorem top_ne_top {ι : Type} [Fintype ι] {f : ι → EReal} (h : ∀ i, f i ≠ ⊤) : top f ≠ ⊤ := by
  refine ne_of_lt ((Finset.fold_max_lt _).mpr ⟨bot_lt_top, fun i _ => lt_top_iff_ne_top.mpr (h i)⟩)

/-- Keys of which the maximum sees only those that an injection reaches: the others are masked. -/
theorem top_eq {A B : Type} [Fintype A] [Fintype B] (e : B → A) {s : A → EReal} {r : B → EReal}
    (hs : ∀ b, s (e b) = r b) (h0 : ∀ a, (∀ b, e b ≠ a) → s a = ⊥) : top s = top r := by
  refine le_antisymm (top_le fun a => ?_) (top_le fun b => (hs b).symm.le.trans (le_top s _))
  by_cases h : ∃ b, e b = a
  · obtain ⟨b, rfl⟩ := h
    exact (hs b).le.trans (le_top r b)
  · rw [h0 a fun b hb => h ⟨b, hb⟩]; exact bot_le

/-- A sum over all keys is the sum over those that an injection reaches, the other terms being zero. -/
theorem sum_eq {A B : Type} [Fintype A] [Fintype B] (e : B → A) (he : Function.Injective e) {f : A → EReal} {g : B → EReal}
    (hs : ∀ b, f (e b) = g b) (h0 : ∀ a, (∀ b, e b ≠ a) → f a = 0) : ∑ a, f a = ∑ b, g b := by
  classical
  refine (Finset.sum_of_injOn e he.injOn (fun _ _ => Finset.mem_univ _) (fun a _ ha => h0 a fun b hb => ha ?_)
    fun b _ => (hs b).symm).symm
  exact ⟨b, Finset.mem_coe.mpr (Finset.mem_univ b), hb⟩

/-- A softmax over two families of keys in one row, the quotient taken last: the weighted sum of the values over the
    sum of the weights. -/
def lastDiv {A C : Type} [Fintype A] [Fintype C] (s : A → EReal) (v : A → EReal) (s' v' : C → EReal) : EReal :=
  Ideal.div
    ((∑ a, Ideal.exp (s a - max (top s) (top s')) * v a) + ∑ c, Ideal.exp (s' c - max (top s) (top s')) * v' c)
    ((∑ a, Ideal.exp (s a - max (top s) (top s'))) + ∑ c, Ideal.exp (s' c - max (top s) (top s')))

/-- The same softmax, each weight divided first. -/
def firstDiv {B C : Type} [Fintype B] [Fintype C] (r : B → EReal) (w : B → EReal) (s' v' : C → EReal) : EReal :=
  (∑ b, Ideal.div (Ideal.exp (r b - max (top r) (top s')))
      ((∑ b, Ideal.exp (r b - max (top r) (top s'))) + ∑ c, Ideal.exp (s' c - max (top r) (top s'))) * w b)
    + ∑ c, Ideal.div (Ideal.exp (s' c - max (top r) (top s')))
      ((∑ b, Ideal.exp (r b - max (top r) (top s'))) + ∑ c, Ideal.exp (s' c - max (top r) (top s'))) * v' c

/-- The masked keys of a wider window change nothing: dividing last over all keys is dividing last over those that
    the injection reaches. -/
theorem lastDiv_eq {A B C : Type} [Fintype A] [Fintype B] [Fintype C] (e : B → A) (he : Function.Injective e)
    {s v : A → EReal} {r w : B → EReal} (s' v' : C → EReal) (hs : ∀ b, s (e b) = r b) (hv : ∀ b, v (e b) = w b)
    (h0 : ∀ a, (∀ b, e b ≠ a) → s a = ⊥) : lastDiv s v s' v' = lastDiv r w s' v' := by
  have hM : top s = top r := top_eq e hs h0
  unfold lastDiv
  rw [hM, sum_eq e he (g := fun b => Ideal.exp (r b - max (top r) (top s')) * w b) (fun b => by rw [hs, hv])
      (fun a ha => by rw [h0 a ha, exp_bot_sub, zero_mul]),
    sum_eq e he (g := fun b => Ideal.exp (r b - max (top r) (top s'))) (fun b => by rw [hs])
      (fun a ha => by rw [h0 a ha, exp_bot_sub])]

/-- Dividing last is dividing first, when no score is ⊤ and some score is finite: the sum of the weights is then a
    positive real number. The values are any extended reals. -/
theorem lastDiv_eq_firstDiv {B C : Type} [Fintype B] [Fintype C] (r w : B → EReal) (s' v' : C → EReal)
    (hr : ∀ b, r b ≠ ⊤) (hs' : ∀ c, Fin' (s' c)) (c₀ : C) : lastDiv r w s' v' = firstDiv r w s' v' := by
  have hm : Fin' (max (top r) (top s')) := by
    refine ⟨?_, ?_⟩
    · intro h
      have := (le_top s' c₀).trans (le_max_right (top r) (top s'))
      rw [h, le_bot_iff] at this
      exact (hs' c₀).1 this
    · rcases max_choice (top r) (top s') with h | h <;> rw [h]
      · exact top_ne_top hr
      · exact top_ne_top fun c => (hs' c).2
  obtain ⟨m, hm⟩ := hm.lift
  unfold lastDiv firstDiv
  rw [hm]
  choose p hp0 hp using fun b => exp_sub_real (hr b) m
  choose q hq0 hq using fun c => exp_sub_real (hs' c).2 m
  have hqp : 0 < q c₀ := by
    obtain ⟨x, hx⟩ := (hs' c₀).lift
    have h := hq c₀
    rw [hx, ← EReal.coe_sub, Ideal.exp_coe, EReal.coe_eq_coe_iff] at h
    rw [← h]; exact Real.exp_pos _
  have hd : ((∑ b, Ideal.exp (r b - (m : EReal))) + ∑ c, Ideal.exp (s' c - (m : EReal)))
      = (((∑ b, p b) + ∑ c, q c : ℝ) : EReal) := by
    rw [EReal.coe_add, coe_sum, coe_sum]
    exact congrArg₂ _ (Finset.sum_congr rfl fun b _ => hp b) (Finset.sum_congr rfl fun c _ => hq c)
  have hpos : 0 < (∑ b, p b) + ∑ c, q c :=
    add_pos_of_nonneg_of_pos (Finset.sum_nonneg fun b _ => hp0 b)
      (Finset.sum_pos' (fun c _ => hq0 c) ⟨c₀, Finset.mem_univ _, hqp⟩)
  rw [hd, Ideal.div_coe hpos.ne']
  have hk : 0 ≤ 1 / ((∑ b, p b) + ∑ c, q c) := by positivity
  rw [EReal.right_distrib_of_nonneg_of_ne_top (EReal.coe_nonneg.mpr hk) (EReal.coe_ne_top _), sum_mul_coe _ _ hk,
    sum_mul_coe _ _ hk]
  simp only [Ideal.div_coe hpos.ne']
  exact congrArg₂ _ (Finset.sum_congr rfl fun b _ => by rw [mul_assoc, mul_assoc, mul_comm (w b)])
    (Finset.sum_congr rfl fun c _ => by rw [mul_assoc, mul_assoc, mul_comm (v' c)])

end Cert.Lat

end
-- ==== Proof.Lat.Pair.lean ====
/- What the kernel's body computes for one pair of heads, and its entry at one query and one lane: a softmax, divided
   last, over the 768 keys of the window and the 512 keys of the context. -/
module

public import proofs.«01_k».proof.Proof.Gen.KernelIdeal.Skeleton
public import Idealize.ShloMosaic.Lib.Pointwise
public import proofs.«01_k».proof.Proof.Lat.Softmax

@[expose] public section

set_option maxRecDepth 16384

noncomputable section

namespace Cert.Lat.Ker

open Cert.KernelIdeal Cert.KernelIdeal.Gen Idealize.ShloMosaic

variable {F : FTy → Type} [FloatOps F]

/-- The number of each lane. -/
abbrev lanes : IVec S256x128 32 := iota .tc S256x128 32 [1] iota_S256x128_d1_w32

/-- The queries with the other head's lanes set to zero: lanes `lo` to `hi` stay. -/
def keep (lo hi : BitVec 32) (q : FVec F S256x128 .bf16) : FVec F S256x128 .bf16 :=
  select (andi (cmpi .sge lanes (broadcast S256x128 lo)) (cmpi .slt lanes (broadcast S256x128 hi))) q
    (broadcast S256x128 (Scalar.ofBits .bf16 0x0000#16))

/-- The window's scores. -/
def winS (qh : FVec F S256x128 .bf16) (kw : FVec F S768x128 .bf16) (b : FVec F S1x256x768 .f32) : FVec F S256x768 .f32 :=
  addf (matmul dot_S256x128_S768x128_S256x768_1_1_0_0_n_n none qh kw (constant S256x768 .f32 0x00000000#32))
    (shapeCast S256x768 b shapeCasts_S1x256x768_S256x768)

/-- The context's scores. -/
def ctxS (qh : FVec F S256x128 .bf16) (kc : FVec F S512x128 .bf16) : FVec F S256x512 .f32 :=
  matmul dot_S256x128_S512x128_S256x512_1_1_0_0_n_n none qh kc (constant S256x512 .f32 0x00000000#32)

/-- The greatest score of each query. -/
def topS (s : FVec F S256x768 .f32) (s' : FVec F S256x512 .f32) : FVec F S256x1 .f32 :=
  maximumf (shapeCast S256x1 (multiReduction .maximumf [1] S256 s 0xFF800000#32 reduces_S256x768_S256 (.inl rfl) rfl) shapeCasts_S256_S256x1)
    (shapeCast S256x1 (multiReduction .maximumf [1] S256 s' 0xFF800000#32 reduces_S256x512_S256 (.inl rfl) rfl) shapeCasts_S256_S256x1)

/-- The exponentials of the window's scores, and of the context's. -/
def winE (s : FVec F S256x768 .f32) (g : FVec F S256x1 .f32) : FVec F S256x768 .f32 :=
  exp (subf s (broadcastTo S256x768 g broadcasts_S256x1_S256x768))
def ctxE (s : FVec F S256x512 .f32) (g : FVec F S256x1 .f32) : FVec F S256x512 .f32 :=
  exp (subf s (broadcastTo S256x512 g broadcasts_S256x1_S256x512))

/-- The weighted sums over the sums of the weights. -/
def ratio (e : FVec F S256x768 .f32) (e' : FVec F S256x512 .f32) (vw : FVec F S768x128 .bf16) (vc : FVec F S512x128 .bf16) :
    FVec F S256x128 .f32 :=
  divf
    (addf (matmul dot_S256x768_S768x128_S256x128_1_0_0_1_n_n none (truncf .bf16 e bitsLt_bf16_f32) vw (constant S256x128 .f32 0x00000000#32))
      (matmul dot_S256x512_S512x128_S256x128_1_0_0_1_n_n none (truncf .bf16 e' bitsLt_bf16_f32) vc (constant S256x128 .f32 0x00000000#32)))
    (broadcastTo S256x128
      (addf (shapeCast S256x1 (multiReduction .add [1] S256 e 0x00000000#32 reduces_S256x768_S256 (.inl rfl) rfl) shapeCasts_S256_S256x1)
        (shapeCast S256x1 (multiReduction .add [1] S256 e' 0x00000000#32 reduces_S256x512_S256 (.inl rfl) rfl) shapeCasts_S256_S256x1))
      broadcasts_S256x1_S256x128)

/-- One head's attention, at all lanes of the pair. -/
def half (qh : FVec F S256x128 .bf16) (kw vw : FVec F S768x128 .bf16) (kc vc : FVec F S512x128 .bf16)
    (b : FVec F S1x256x768 .f32) : FVec F S256x128 .f32 :=
  ratio (winE (winS qh kw b) (topS (winS qh kw b) (ctxS qh kc))) (ctxE (ctxS qh kc) (topS (winS qh kw b) (ctxS qh kc))) vw vc

/-- The pair's result: the lower lanes of the first head's attention and the upper lanes of the second's. -/
def pairOut (q : FVec F S256x128 .bf16) (kw vw : FVec F S768x128 .f32) (kc vc : FVec F S1x512x128 .f32)
    (b b' : FVec F S1x256x768 .f32) : FVec F S256x128 .bf16 :=
  have q' := shapeCast S256x128 q shapeCasts_S256x128_S256x128
  have kc' := truncf .bf16 (shapeCast S512x128 kc shapeCasts_S1x512x128_S512x128) bitsLt_bf16_f32
  have vc' := truncf .bf16 (shapeCast S512x128 vc shapeCasts_S1x512x128_S512x128) bitsLt_bf16_f32
  truncf .bf16 (select (cmpi .slt lanes (broadcast S256x128 64#32))
    (half (keep 0#32 64#32 q') (truncf .bf16 kw bitsLt_bf16_f32) (truncf .bf16 vw bitsLt_bf16_f32) kc' vc' b)
    (half (keep 64#32 128#32 q') (truncf .bf16 kw bitsLt_bf16_f32) (truncf .bf16 vw bitsLt_bf16_f32) kc' vc' b')) bitsLt_bf16_f32

theorem negInf : Ideal.ofBits .f32 0xFF800000#32 = (⊥ : EReal) := by
  simp [Ideal.ofBits, Ideal.ieee]

theorem winS_at (qh : FVec Ideal S256x128 .bf16) (kw : FVec Ideal S768x128 .bf16) (b : FVec Ideal S1x256x768 .f32)
    (x : Fin 256) (a : Fin 768) : winS qh kw b (ix2 x a) = (∑ l, qh (ix2 x l) * kw (ix2 a l)) + b (ix3 (0 : Fin 1) x a) := by
  pointwise [winS]

theorem ctxS_at (qh : FVec Ideal S256x128 .bf16) (kc : FVec Ideal S512x128 .bf16)
    (x : Fin 256) (a : Fin 512) : ctxS qh kc (ix2 x a) = ∑ l, qh (ix2 x l) * kc (ix2 a l) := by
  pointwise [ctxS]

theorem topS_at (s : FVec Ideal S256x768 .f32) (s' : FVec Ideal S256x512 .f32) (x : Fin 256) :
    topS s s' (ix2 x (0 : Fin 1)) = max (top fun a => s (ix2 x a)) (top fun c => s' (ix2 x c)) := by
  pointwise [topS]
  rw [negInf]
  rfl

theorem winE_at (s : FVec Ideal S256x768 .f32) (g : FVec Ideal S256x1 .f32) (x : Fin 256) (a : Fin 768) :
    winE s g (ix2 x a) = Ideal.exp (s (ix2 x a) - g (ix2 x (0 : Fin 1))) := by
  pointwise [winE]

theorem ctxE_at (s : FVec Ideal S256x512 .f32) (g : FVec Ideal S256x1 .f32) (x : Fin 256) (a : Fin 512) :
    ctxE s g (ix2 x a) = Ideal.exp (s (ix2 x a) - g (ix2 x (0 : Fin 1))) := by
  pointwise [ctxE]

theorem ratio_at (e : FVec Ideal S256x768 .f32) (e' : FVec Ideal S256x512 .f32) (vw : FVec Ideal S768x128 .bf16)
    (vc : FVec Ideal S512x128 .bf16) (x : Fin 256) (l : Fin 128) :
    ratio e e' vw vc (ix2 x l) = Ideal.div ((∑ a, e (ix2 x a) * vw (ix2 a l)) + ∑ c, e' (ix2 x c) * vc (ix2 c l))
      ((∑ a, e (ix2 x a)) + ∑ c, e' (ix2 x c)) := by
  pointwise [ratio]

theorem lane_lo : ∀ l : Fin 128, IntOp.andi (IntOp.cmpi .sge (BitVec.ofNat 32 l) 0#32) (IntOp.cmpi .slt (BitVec.ofNat 32 l) 64#32)
    = if l.val < 64 then 1#1 else 0#1 := by decide

theorem lane_hi : ∀ l : Fin 128, IntOp.andi (IntOp.cmpi .sge (BitVec.ofNat 32 l) 64#32) (IntOp.cmpi .slt (BitVec.ofNat 32 l) 128#32)
    = if l.val < 64 then 0#1 else 1#1 := by decide

theorem lane_lt : ∀ l : Fin 128, IntOp.cmpi .slt (BitVec.ofNat 32 l) 64#32 = if l.val < 64 then 1#1 else 0#1 := by decide

theorem keep_lo (q : FVec Ideal S256x128 .bf16) (x : Fin 256) (l : Fin 128) :
    keep 0#32 64#32 q (ix2 x l) = if l.val < 64 then q (ix2 x l) else (0 : EReal) := by
  pointwise [keep]
  rw [lane_lo]
  by_cases h : l.val < 64
  · rw [if_pos h, if_pos h]; rfl
  · rw [if_neg h, if_neg h]; rfl

theorem keep_hi (q : FVec Ideal S256x128 .bf16) (x : Fin 256) (l : Fin 128) :
    keep 64#32 128#32 q (ix2 x l) = if l.val < 64 then (0 : EReal) else q (ix2 x l) := by
  pointwise [keep]
  rw [lane_hi]
  by_cases h : l.val < 64
  · rw [if_pos h, if_pos h]; rfl
  · rw [if_neg h, if_neg h]; rfl

/-- The lane of the pair's first head that holds component `d`, and of its second head. -/
def lo (d : Fin 64) : Fin 128 := ⟨d, by omega⟩
def hi (d : Fin 64) : Fin 128 := ⟨64 + d, by omega⟩

theorem sum_halves (f : Fin 128 → EReal) : ∑ l, f l = (∑ d, f (lo d)) + ∑ d, f (hi d) :=
  Fin.sum_univ_add (a := 64) (b := 64) f

theorem sum_lo (f g : Fin 128 → EReal) :
    ∑ l : Fin 128, (if l.val < 64 then f l else 0) * g l = ∑ d, f (lo d) * g (lo d) := by
  rw [sum_halves, Finset.sum_congr rfl fun d _ => by rw [if_pos (show (lo d).val < 64 from d.isLt)],
    Finset.sum_eq_zero (s := (Finset.univ : Finset (Fin 64)))
      (f := fun d => (if (hi d).val < 64 then f (hi d) else 0) * g (hi d))
      (fun d _ => by rw [if_neg (show ¬ (hi d).val < 64 by simp only [hi]; omega), zero_mul]), add_zero]

theorem sum_hi (f g : Fin 128 → EReal) :
    ∑ l : Fin 128, (if l.val < 64 then 0 else f l) * g l = ∑ d, f (hi d) * g (hi d) := by
  rw [sum_halves, Finset.sum_eq_zero (s := (Finset.univ : Finset (Fin 64)))
      (f := fun d => (if (lo d).val < 64 then 0 else f (lo d)) * g (lo d))
      (fun d _ => by rw [if_pos (show (lo d).val < 64 from d.isLt), zero_mul]), zero_add]
  exact Finset.sum_congr rfl fun d _ => by rw [if_neg (show ¬ (hi d).val < 64 by simp only [hi]; omega)]

theorem half_at (qh : FVec Ideal S256x128 .bf16) (kw vw : FVec Ideal S768x128 .bf16) (kc vc : FVec Ideal S512x128 .bf16)
    (b : FVec Ideal S1x256x768 .f32) (x : Fin 256) (l : Fin 128) :
    half qh kw vw kc vc b (ix2 x l)
      = lastDiv (fun a => (∑ l, qh (ix2 x l) * kw (ix2 a l)) + b (ix3 (0 : Fin 1) x a)) (fun a => vw (ix2 a l))
          (fun c => ∑ l, qh (ix2 x l) * kc (ix2 c l)) (fun c => vc (ix2 c l)) := by
  unfold half
  rw [ratio_at]
  simp only [winE_at, ctxE_at, topS_at, winS_at, ctxS_at]
  rfl

/-- The pair's result at a lane of its first head. -/
theorem pairOut_lo (q : FVec Ideal S256x128 .bf16) (kw vw : FVec Ideal S768x128 .f32) (kc vc : FVec Ideal S1x512x128 .f32)
    (b b' : FVec Ideal S1x256x768 .f32) (x : Fin 256) (d : Fin 64) : pairOut q kw vw kc vc b b' (ix2 x (lo d))
      = lastDiv (fun a => (∑ e, q (ix2 x (lo e)) * kw (ix2 a (lo e))) + b (ix3 (0 : Fin 1) x a)) (fun a => vw (ix2 a (lo d)))
          (fun c => ∑ e, q (ix2 x (lo e)) * kc (ix3 (0 : Fin 1) c (lo e))) (fun c => vc (ix3 (0 : Fin 1) c (lo d))) := by
  unfold pairOut
  pointwise []
  rw [lane_lt, if_pos (show (lo d).val < 64 from d.isLt)]
  refine (if_pos rfl).trans ?_
  rw [half_at]
  pointwise []
  simp only [keep_lo, sum_lo]

/-- The pair's result at a lane of its second head. -/
theorem pairOut_hi (q : FVec Ideal S256x128 .bf16) (kw vw : FVec Ideal S768x128 .f32) (kc vc : FVec Ideal S1x512x128 .f32)
    (b b' : FVec Ideal S1x256x768 .f32) (x : Fin 256) (d : Fin 64) : pairOut q kw vw kc vc b b' (ix2 x (hi d))
      = lastDiv (fun a => (∑ e, q (ix2 x (hi e)) * kw (ix2 a (hi e))) + b' (ix3 (0 : Fin 1) x a)) (fun a => vw (ix2 a (hi d)))
          (fun c => ∑ e, q (ix2 x (hi e)) * kc (ix3 (0 : Fin 1) c (hi e))) (fun c => vc (ix3 (0 : Fin 1) c (hi d))) := by
  unfold pairOut
  pointwise []
  rw [lane_lt, if_neg (show ¬ (hi d).val < 64 by simp only [hi]; omega)]
  refine (if_neg (by decide)).trans ?_
  rw [half_at]
  pointwise []
  simp only [keep_hi, sum_hi]

end Cert.Lat.Ker

end
-- ==== Proof.Lat.Entry.lean ====
/- The arrays that the host prepares for the call, read at an index: the queries scaled by one eighth, the context's
   keys and values laid out as rows, and the table of biases between the columns of two rows of the grid. -/
module

public import proofs.«01_k».proof.Proof.Gen.KernelIdeal.Frame.Runs
public import proofs.«01_k».proof.Proof.Gen.KernelIdeal.Launch
public import proofs.«01_k».proof.Proof.Lat.RefTables
public import proofs.«01_k».proof.Proof.Lat.Pair
public import Idealize.ShloMosaic.Lib.StableHlo.RunRead
public import Idealize.ShloMosaic.Lib.Claim
public import Idealize.ShloMosaic.Lib.Pointwise

@[expose] public section

set_option maxRecDepth 16384

noncomputable section

namespace Cert.Lat.Ker

open Cert.KernelIdeal Cert.KernelIdeal.Gen Idealize.ShloMosaic Idealize.ShloMosaic.TcCoe

/-- The first key column that a query column sees, as the host computes it. -/
abbrev startW : IVec S64x64 32 :=
  minsi (broadcastInDim S64x64 ![] bcast_S_S64x64 (constantI S_ 32 48#32))
    (maxsi (broadcastInDim S64x64 ![] bcast_S_S64x64 (constantI S_ 32 0#32))
      (subi (iotaInDim S64x64 32 0) (broadcastInDim S64x64 ![] bcast_S_S64x64 (constantI S_ 32 8#32))))

/-- Whether a query column sees a key column, as the host computes it. -/
def seesW : IVec S64x64 1 :=
  andi (cmpi .sge (iotaInDim S64x64 32 1) startW)
    (cmpi .slt (iotaInDim S64x64 32 1) (addi startW (broadcastInDim S64x64 ![] bcast_S_S64x64 (constantI S_ 32 16#32))))

/-- The column of the table of relative biases, as the host computes it. -/
def relW : IVec S64x64 32 :=
  addi (minsi (broadcastInDim S64x64 ![] bcast_S_S64x64 (constantI S_ 32 15#32))
    (maxsi (broadcastInDim S64x64 ![] bcast_S_S64x64 (constantI S_ 32 4294967281#32))
      (subi (iotaInDim S64x64 32 1) (iotaInDim S64x64 32 0))))
    (broadcastInDim S64x64 ![] bcast_S_S64x64 (constantI S_ 32 15#32))

/-- One where a column of the table of relative biases is the one taken, zero elsewhere. -/
def hotW : FVec Ideal S31x64x64 .f32 :=
  uitofp .f32 (cmpi .eq (iotaInDim S31x64x64 32 0)
    (broadcastInDim S31x64x64 ![0, 1, 2] bcast_S1x64x64_S31x64x64_0_1_2
      (broadcastInDim S1x64x64 ![1, 2] bcast_S64x64_S1x64x64_1_2 relW)))

/-- The table of biases between the columns of two rows, as the host computes it. -/
def tableW (rpb : FVec Ideal S1x8x15x31 .f32) : FVec Ideal S8x15x64x64 .f32 :=
  select (broadcastInDim S8x15x64x64 ![0, 1, 2, 3] bcast_S1x1x64x64_S8x15x64x64_0_1_2_3
      (broadcastInDim S1x1x64x64 ![2, 3] bcast_S64x64_S1x1x64x64_2_3 seesW))
    (Host.dotGeneral dot_S8x15x31_S31x64x64_S8x15x64x64_2_0_01_12_n_n (some ContractPrecision.fp32)
      (shapeCast S8x15x31 rpb shapeCasts_S1x8x15x31_S8x15x31) hotW)
    (broadcastInDim S8x15x64x64 ![] bcast_S_S8x15x64x64 (constant S_ .f32 0xFF800000#32))

theorem seesW_at (x y : Fin 64) : seesW (ix2 x y) = if Ref.sees x y then 1#1 else 0#1 := by
  pointwise [seesW, startW]
  revert x y
  decide +kernel

theorem relW_at (x y : Fin 64) : relW (ix2 x y) = BitVec.ofNat 32 (Ref.colRel x y) := by
  pointwise [relW]
  revert x y
  decide +kernel

theorem hotW_at (d : Fin 31) (x y : Fin 64) : hotW (ix3 d x y) = if d.val = Ref.colRel x y then (1 : EReal) else 0 := by
  pointwise [hotW]
  rw [relW_at]
  have e : IntOp.cmpi CmpIPredicate.eq (BitVec.ofNat 32 d.val) (BitVec.ofNat 32 (Ref.colRel x y))
      = if d.val = Ref.colRel x y then 1#1 else 0#1 := by
    have := Ref.colRel_lt x y
    generalize Ref.colRel x y = n at this
    obtain ⟨d, hd⟩ := d
    revert d n
    decide
  rw [e]
  by_cases hd : d.val = Ref.colRel x y
  · rw [if_pos hd, if_pos hd]
    show ((((1#1 : BitVec 1).toNat : ℝ)) : EReal) = 1
    simp
  · rw [if_neg hd, if_neg hd]
    show ((((0#1 : BitVec 1).toNat : ℝ)) : EReal) = 0
    simp

theorem tableW_at (rpb : FVec Ideal S1x8x15x31 .f32) (h : Fin 8) (r : Fin 15) (x y : Fin 64) :
    tableW rpb (ix4 h r x y)
      = if Ref.sees x y then rpb (ix4 (0 : Fin 1) h r ⟨Ref.colRel x y, Ref.colRel_lt _ _⟩) else ⊥ := by
  have e1 : tableW rpb (ix4 h r x y) = Scalar.select (seesW (ix2 x y))
      (∑ d : Fin 31, rpb (ix4 (0 : Fin 1) h r d) * hotW (ix3 d x y)) ⊥ := by
    rw [← negInf]
    pointwise [tableW]
  have e2 : ∑ d : Fin 31, rpb (ix4 (0 : Fin 1) h r d) * hotW (ix3 d x y)
      = rpb (ix4 (0 : Fin 1) h r ⟨Ref.colRel x y, Ref.colRel_lt _ _⟩) := by
    rw [Finset.sum_eq_single ⟨Ref.colRel x y, Ref.colRel_lt _ _⟩]
    · rw [hotW_at, if_pos rfl, mul_one]
    · intro d _ hd
      rw [hotW_at, if_neg fun h => hd (Fin.ext h), mul_zero]
    · exact fun h => absurd (Finset.mem_univ _) h
  rw [e1, e2, seesW_at]
  by_cases hs : Ref.sees x y
  · rw [if_pos hs, if_pos hs]; rfl
  · rw [if_neg hs, if_neg hs]; rfl

variable (m : (ℓ : Loc nD τ sig) → Buf (Elt Ideal) ℓ)

/-- The queries. -/
def arg0 (c : Dev nD) : FVec Ideal S12288x512 .f32 := m (c, Proc.tc.devRef main_arg0)
/-- The keys. -/
def arg1 (c : Dev nD) : FVec Ideal S12288x512 .f32 := m (c, Proc.tc.devRef main_arg1)
/-- The values. -/
def arg2 (c : Dev nD) : FVec Ideal S12288x512 .f32 := m (c, Proc.tc.devRef main_arg2)
/-- The context's keys. -/
def arg3 (c : Dev nD) : FVec Ideal S8x1x512x8x64 .f32 := m (c, Proc.tc.devRef main_arg3)
/-- The context's values. -/
def arg4 (c : Dev nD) : FVec Ideal S8x1x512x8x64 .f32 := m (c, Proc.tc.devRef main_arg4)
/-- The relative biases. -/
def arg5 (c : Dev nD) : FVec Ideal S1x8x15x31 .f32 := m (c, Proc.tc.devRef main_arg5)

theorem heads_at (x : FVec Ideal S8x1x512x8x64 .f32) (b : Fin 8) (n l : Fin 512) :
    shapeCast S8x512x512 (shapeCast S8x512x8x64 x shapeCasts_S8x1x512x8x64_S8x512x8x64) shapeCasts_S8x512x8x64_S8x512x512
        (ix3 b n l)
      = x (ix5 b (0 : Fin 1) n (⟨l / 64, by omega⟩ : Fin 8) (⟨l % 64, by omega⟩ : Fin 64)) := by
  pointwise

/-- The staged queries are the queries scaled by one eighth. -/
theorem entry_query (c : Dev nD) (n : Fin 12288) (l : Fin 512) :
    V m c main_v2 (ix2 n l) = arg0 m c (ix2 n l) * Ideal.ofBits .f32 0x3E000000#32 := by
  entry_read
  simp only [hostOps0, hostOps0_1, hostOps0_2, hostOps0_3, hostOps0_4, hostOps0_5, List.flatten_cons, List.flatten_nil,
    List.cons_append, List.nil_append, List.append_nil, StableHlo.TRef.ternary, StableHlo.TRef.unary, StableHlo.TRef.toBuf, StableHlo.TRef.ofBuf, cast_eq]
  after_results_simp
  rfl

/-- The context's keys, one row a token. -/
theorem entry_ctxKey (c : Dev nD) (b : Fin 8) (n : Fin 512) (l : Fin 512) :
    V m c main_v4 (ix3 b n l) = arg3 m c (ix5 b (0 : Fin 1) n (⟨l / 64, by omega⟩ : Fin 8) (⟨l % 64, by omega⟩ : Fin 64)) := by
  entry_read
  simp only [hostOps0, hostOps0_1, hostOps0_2, hostOps0_3, hostOps0_4, hostOps0_5, List.flatten_cons, List.flatten_nil,
    List.cons_append, List.nil_append, List.append_nil, StableHlo.TRef.ternary, StableHlo.TRef.unary, StableHlo.TRef.toBuf, StableHlo.TRef.ofBuf, cast_eq]
  after_results_simp
  exact heads_at (arg3 m c) b n l

/-- The context's values, one row a token. -/
theorem entry_ctxValue (c : Dev nD) (b : Fin 8) (n : Fin 512) (l : Fin 512) :
    V m c main_v6 (ix3 b n l) = arg4 m c (ix5 b (0 : Fin 1) n (⟨l / 64, by omega⟩ : Fin 8) (⟨l % 64, by omega⟩ : Fin 64)) := by
  entry_read
  simp only [hostOps0, hostOps0_1, hostOps0_2, hostOps0_3, hostOps0_4, hostOps0_5, List.flatten_cons, List.flatten_nil,
    List.cons_append, List.nil_append, List.append_nil, StableHlo.TRef.ternary, StableHlo.TRef.unary, StableHlo.TRef.toBuf, StableHlo.TRef.ofBuf, cast_eq]
  after_results_simp
  exact heads_at (arg4 m c) b n l

/-- The staged table of biases. -/
theorem entry_table (c : Dev nD) (h : Fin 8) (r : Fin 15) (x y : Fin 64) :
    V m c main_v29 (ix4 h r x y) = if Ref.sees x y
      then arg5 m c (ix4 (0 : Fin 1) h r (⟨Ref.colRel x y, Ref.colRel_lt _ _⟩ : Fin 31)) else ⊥ := by
  rw [← tableW_at]
  entry_read
  simp only [hostOps0, hostOps0_1, hostOps0_2, hostOps0_3, hostOps0_4, hostOps0_5, List.flatten_cons, List.flatten_nil,
    List.cons_append, List.nil_append, List.append_nil, StableHlo.TRef.ternary, StableHlo.TRef.unary, StableHlo.TRef.toBuf, StableHlo.TRef.ofBuf, cast_eq]
  after_results_simp
  rfl

end Cert.Lat.Ker

end
-- ==== Proof.Lat.Pieces.lean ====
module
public import proofs.«01_k».proof.Proof.Gen.KernelIdeal.Frame
public import proofs.«01_k».proof.Proof.Lat.Pair

@[expose] public section

set_option maxRecDepth 16384

noncomputable section

namespace Cert.Lat.Ker

open Cert.KernelIdeal Cert.KernelIdeal.Gen Idealize.ShloMosaic

variable {F : FTy → Type} [FloatOps F] [Named F]

/-- What a grid point with a later batch entry stores into its output block: the four head pairs, last first, each
    computed from its lanes of the queries, the window's keys and values, the context and the kept bias of its two heads. -/
theorem pieces_B (c : Dev nD) (i : grid0.Coords) (arg2 : Memref sig .tc .vmem S256x512 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x15x64x64 .f32) (harg7 : arg7.IsWhole) (arg8 : Memref sig .tc .vmem S256x512 .bf16) (harg8 : arg8.IsWhole) (arg9 : Memref sig .tc .vmem S8x256x768 .f32) (harg9 : arg9.IsWhole) hc0
    (x0 : Vec F S256x512 .bf16) (x1 : Vec F S1024x512 .f32) (x2 : Vec F S1024x512 .f32) (x3 : Vec F S1x512x512 .f32) (x4 : Vec F S1x512x512 .f32) (x5 : Vec F S8x15x64x64 .f32) (xs0 : Vec F S8x256x768 .f32) :
   (kernelRun0_B c i arg2 harg2 arg3 harg3 arg4 harg4 arg5 harg5 arg6 harg6 arg7 harg7 arg8 harg8 arg9 harg9 hc0 x0 x1 x2 x3 x4 x5 xs0).1
    = [⟨Rect.unit ![0, 384] ![256, 128] inb_S256x512_S256x128_0_384,
        pairOut (View.readAt (Elt F) arg2.view (Rect.unit (s := S256x512) ![0, 384] S256x128.size inb_S256x512_S256x128_0_384).toLoadRect (harg2.unread x0))
          (View.readAt (Elt F) arg3.view (Rect.unit (s := S1024x512) (k0_off12 i) S768x128.size (k0_off12_inb i)).toLoadRect (harg3.unread x1))
          (View.readAt (Elt F) arg4.view (Rect.unit (s := S1024x512) (k0_off12 i) S768x128.size (k0_off12_inb i)).toLoadRect (harg4.unread x2))
          (View.readAt (Elt F) arg5.view (Rect.unit (s := S1x512x512) ![0, 0, 384] S1x512x128.size inb_S1x512x512_S1x512x128_0_0_384).toLoadRect (harg5.unread x3))
          (View.readAt (Elt F) arg6.view (Rect.unit (s := S1x512x512) ![0, 0, 384] S1x512x128.size inb_S1x512x512_S1x512x128_0_0_384).toLoadRect (harg6.unread x4))
          (View.readAt (Elt F) arg9.view (Rect.unit (s := S8x256x768) ![6, 0, 0] ![1, 256, 768] inb_S8x256x768_S1x256x768_6_0_0).toLoadRect (harg9.unread xs0))
          (View.readAt (Elt F) arg9.view (Rect.unit (s := S8x256x768) ![7, 0, 0] ![1, 256, 768] inb_S8x256x768_S1x256x768_7_0_0).toLoadRect (harg9.unread xs0))⟩,
       ⟨Rect.unit ![0, 256] ![256, 128] inb_S256x512_S256x128_0_256,
        pairOut (View.readAt (Elt F) arg2.view (Rect.unit (s := S256x512) ![0, 256] S256x128.size inb_S256x512_S256x128_0_256).toLoadRect (harg2.unread x0))
          (View.readAt (Elt F) arg3.view (Rect.unit (s := S1024x512) (k0_off11 i) S768x128.size (k0_off11_inb i)).toLoadRect (harg3.unread x1))
          (View.readAt (Elt F) arg4.view (Rect.unit (s := S1024x512) (k0_off11 i) S768x128.size (k0_off11_inb i)).toLoadRect (harg4.unread x2))
          (View.readAt (Elt F) arg5.view (Rect.unit (s := S1x512x512) ![0, 0, 256] S1x512x128.size inb_S1x512x512_S1x512x128_0_0_256).toLoadRect (harg5.unread x3))
          (View.readAt (Elt F) arg6.view (Rect.unit (s := S1x512x512) ![0, 0, 256] S1x512x128.size inb_S1x512x512_S1x512x128_0_0_256).toLoadRect (harg6.unread x4))
          (View.readAt (Elt F) arg9.view (Rect.unit (s := S8x256x768) ![4, 0, 0] ![1, 256, 768] inb_S8x256x768_S1x256x768_4_0_0).toLoadRect (harg9.unread xs0))
          (View.readAt (Elt F) arg9.view (Rect.unit (s := S8x256x768) ![5, 0, 0] ![1, 256, 768] inb_S8x256x768_S1x256x768_5_0_0).toLoadRect (harg9.unread xs0))⟩,
       ⟨Rect.unit ![0, 128] ![256, 128] inb_S256x512_S256x128_0_128,
        pairOut (View.readAt (Elt F) arg2.view (Rect.unit (s := S256x512) ![0, 128] S256x128.size inb_S256x512_S256x128_0_128).toLoadRect (harg2.unread x0))
          (View.readAt (Elt F) arg3.view (Rect.unit (s := S1024x512) (k0_off10 i) S768x128.size (k0_off10_inb i)).toLoadRect (harg3.unread x1))
          (View.readAt (Elt F) arg4.view (Rect.unit (s := S1024x512) (k0_off10 i) S768x128.size (k0_off10_inb i)).toLoadRect (harg4.unread x2))
          (View.readAt (Elt F) arg5.view (Rect.unit (s := S1x512x512) ![0, 0, 128] S1x512x128.size inb_S1x512x512_S1x512x128_0_0_128).toLoadRect (harg5.unread x3))
          (View.readAt (Elt F) arg6.view (Rect.unit (s := S1x512x512) ![0, 0, 128] S1x512x128.size inb_S1x512x512_S1x512x128_0_0_128).toLoadRect (harg6.unread x4))
          (View.readAt (Elt F) arg9.view (Rect.unit (s := S8x256x768) ![2, 0, 0] ![1, 256, 768] inb_S8x256x768_S1x256x768_2_0_0).toLoadRect (harg9.unread xs0))
          (View.readAt (Elt F) arg9.view (Rect.unit (s := S8x256x768) ![3, 0, 0] ![1, 256, 768] inb_S8x256x768_S1x256x768_3_0_0).toLoadRect (harg9.unread xs0))⟩,
       ⟨Rect.unit ![0, 0] ![256, 128] inb_S256x512_S256x128_0_0,
        pairOut (View.readAt (Elt F) arg2.view (Rect.unit (s := S256x512) ![0, 0] S256x128.size inb_S256x512_S256x128_0_0).toLoadRect (harg2.unread x0))
          (View.readAt (Elt F) arg3.view (Rect.unit (s := S1024x512) (k0_off9 i) S768x128.size (k0_off9_inb i)).toLoadRect (harg3.unread x1))
          (View.readAt (Elt F) arg4.view (Rect.unit (s := S1024x512) (k0_off9 i) S768x128.size (k0_off9_inb i)).toLoadRect (harg4.unread x2))
          (View.readAt (Elt F) arg5.view (Rect.unit (s := S1x512x512) ![0, 0, 0] S1x512x128.size inb_S1x512x512_S1x512x128_0_0_0).toLoadRect (harg5.unread x3))
          (View.readAt (Elt F) arg6.view (Rect.unit (s := S1x512x512) ![0, 0, 0] S1x512x128.size inb_S1x512x512_S1x512x128_0_0_0).toLoadRect (harg6.unread x4))
          (View.readAt (Elt F) arg9.view (Rect.unit (s := S8x256x768) ![0, 0, 0] ![1, 256, 768] inb_S8x256x768_S1x256x768_0_0_0).toLoadRect (harg9.unread xs0))
          (View.readAt (Elt F) arg9.view (Rect.unit (s := S8x256x768) ![1, 0, 0] ![1, 256, 768] inb_S8x256x768_S1x256x768_1_0_0).toLoadRect (harg9.unread xs0))⟩] := by
  unfold kernelRun0_B
  rfl
/-- What a grid point with the first batch entry stores: the same four head pairs, reading the bias just stored. -/
theorem pieces_A (c : Dev nD) (i : grid0.Coords) (arg2 : Memref sig .tc .vmem S256x512 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S8x15x64x64 .f32) (harg7 : arg7.IsWhole) (arg8 : Memref sig .tc .vmem S256x512 .bf16) (harg8 : arg8.IsWhole) (arg9 : Memref sig .tc .vmem S8x256x768 .f32) (harg9 : arg9.IsWhole) hc0
    (x0 : Vec F S256x512 .bf16) (x1 : Vec F S1024x512 .f32) (x2 : Vec F S1024x512 .f32) (x3 : Vec F S1x512x512 .f32) (x4 : Vec F S1x512x512 .f32) (x5 : Vec F S8x15x64x64 .f32) :
   (kernelRun0_A c i arg2 harg2 arg3 harg3 arg4 harg4 arg5 harg5 arg6 harg6 arg7 harg7 arg8 harg8 arg9 harg9 hc0 x0 x1 x2 x3 x4 x5).1
    = [⟨Rect.unit ![0, 384] ![256, 128] inb_S256x512_S256x128_0_384,
        pairOut (View.readAt (Elt F) arg2.view (Rect.unit (s := S256x512) ![0, 384] S256x128.size inb_S256x512_S256x128_0_384).toLoadRect (harg2.unread x0))
          (View.readAt (Elt F) arg3.view (Rect.unit (s := S1024x512) (k0_off12 i) S768x128.size (k0_off12_inb i)).toLoadRect (harg3.unread x1))
          (View.readAt (Elt F) arg4.view (Rect.unit (s := S1024x512) (k0_off12 i) S768x128.size (k0_off12_inb i)).toLoadRect (harg4.unread x2))
          (View.readAt (Elt F) arg5.view (Rect.unit (s := S1x512x512) ![0, 0, 384] S1x512x128.size inb_S1x512x512_S1x512x128_0_0_384).toLoadRect (harg5.unread x3))
          (View.readAt (Elt F) arg6.view (Rect.unit (s := S1x512x512) ![0, 0, 384] S1x512x128.size inb_S1x512x512_S1x512x128_0_0_384).toLoadRect (harg6.unread x4))
          (View.readAt (Elt F) arg9.view (Rect.unit (s := S8x256x768) ![6, 0, 0] ![1, 256, 768] inb_S8x256x768_S1x256x768_6_0_0).toLoadRect (arg9.view.writes (Elt F) arg9.view.junk (kernelRun0_A.sl.HS0_384 c i arg7 harg7 hc0 x5)))
          (View.readAt (Elt F) arg9.view (Rect.unit (s := S8x256x768) ![7, 0, 0] ![1, 256, 768] inb_S8x256x768_S1x256x768_7_0_0).toLoadRect (arg9.view.writes (Elt F) arg9.view.junk (kernelRun0_A.sl.HS0_384 c i arg7 harg7 hc0 x5)))⟩,
       ⟨Rect.unit ![0, 256] ![256, 128] inb_S256x512_S256x128_0_256,
        pairOut (View.readAt (Elt F) arg2.view (Rect.unit (s := S256x512) ![0, 256] S256x128.size inb_S256x512_S256x128_0_256).toLoadRect (harg2.unread x0))
          (View.readAt (Elt F) arg3.view (Rect.unit (s := S1024x512) (k0_off11 i) S768x128.size (k0_off11_inb i)).toLoadRect (harg3.unread x1))
          (View.readAt (Elt F) arg4.view (Rect.unit (s := S1024x512) (k0_off11 i) S768x128.size (k0_off11_inb i)).toLoadRect (harg4.unread x2))
          (View.readAt (Elt F) arg5.view (Rect.unit (s := S1x512x512) ![0, 0, 256] S1x512x128.size inb_S1x512x512_S1x512x128_0_0_256).toLoadRect (harg5.unread x3))
          (View.readAt (Elt F) arg6.view (Rect.unit (s := S1x512x512) ![0, 0, 256] S1x512x128.size inb_S1x512x512_S1x512x128_0_0_256).toLoadRect (harg6.unread x4))
          (View.readAt (Elt F) arg9.view (Rect.unit (s := S8x256x768) ![4, 0, 0] ![1, 256, 768] inb_S8x256x768_S1x256x768_4_0_0).toLoadRect (arg9.view.writes (Elt F) arg9.view.junk (kernelRun0_A.sl.HS0_384 c i arg7 harg7 hc0 x5)))
          (View.readAt (Elt F) arg9.view (Rect.unit (s := S8x256x768) ![5, 0, 0] ![1, 256, 768] inb_S8x256x768_S1x256x768_5_0_0).toLoadRect (arg9.view.writes (Elt F) arg9.view.junk (kernelRun0_A.sl.HS0_384 c i arg7 harg7 hc0 x5)))⟩,
       ⟨Rect.unit ![0, 128] ![256, 128] inb_S256x512_S256x128_0_128,
        pairOut (View.readAt (Elt F) arg2.view (Rect.unit (s := S256x512) ![0, 128] S256x128.size inb_S256x512_S256x128_0_128).toLoadRect (harg2.unread x0))
          (View.readAt (Elt F) arg3.view (Rect.unit (s := S1024x512) (k0_off10 i) S768x128.size (k0_off10_inb i)).toLoadRect (harg3.unread x1))
          (View.readAt (Elt F) arg4.view (Rect.unit (s := S1024x512) (k0_off10 i) S768x128.size (k0_off10_inb i)).toLoadRect (harg4.unread x2))
          (View.readAt (Elt F) arg5.view (Rect.unit (s := S1x512x512) ![0, 0, 128] S1x512x128.size inb_S1x512x512_S1x512x128_0_0_128).toLoadRect (harg5.unread x3))
          (View.readAt (Elt F) arg6.view (Rect.unit (s := S1x512x512) ![0, 0, 128] S1x512x128.size inb_S1x512x512_S1x512x128_0_0_128).toLoadRect (harg6.unread x4))
          (View.readAt (Elt F) arg9.view (Rect.unit (s := S8x256x768) ![2, 0, 0] ![1, 256, 768] inb_S8x256x768_S1x256x768_2_0_0).toLoadRect (arg9.view.writes (Elt F) arg9.view.junk (kernelRun0_A.sl.HS0_384 c i arg7 harg7 hc0 x5)))
          (View.readAt (Elt F) arg9.view (Rect.unit (s := S8x256x768) ![3, 0, 0] ![1, 256, 768] inb_S8x256x768_S1x256x768_3_0_0).toLoadRect (arg9.view.writes (Elt F) arg9.view.junk (kernelRun0_A.sl.HS0_384 c i arg7 harg7 hc0 x5)))⟩,
       ⟨Rect.unit ![0, 0] ![256, 128] inb_S256x512_S256x128_0_0,
        pairOut (View.readAt (Elt F) arg2.view (Rect.unit (s := S256x512) ![0, 0] S256x128.size inb_S256x512_S256x128_0_0).toLoadRect (harg2.unread x0))
          (View.readAt (Elt F) arg3.view (Rect.unit (s := S1024x512) (k0_off9 i) S768x128.size (k0_off9_inb i)).toLoadRect (harg3.unread x1))
          (View.readAt (Elt F) arg4.view (Rect.unit (s := S1024x512) (k0_off9 i) S768x128.size (k0_off9_inb i)).toLoadRect (harg4.unread x2))
          (View.readAt (Elt F) arg5.view (Rect.unit (s := S1x512x512) ![0, 0, 0] S1x512x128.size inb_S1x512x512_S1x512x128_0_0_0).toLoadRect (harg5.unread x3))
          (View.readAt (Elt F) arg6.view (Rect.unit (s := S1x512x512) ![0, 0, 0] S1x512x128.size inb_S1x512x512_S1x512x128_0_0_0).toLoadRect (harg6.unread x4))
          (View.readAt (Elt F) arg9.view (Rect.unit (s := S8x256x768) ![0, 0, 0] ![1, 256, 768] inb_S8x256x768_S1x256x768_0_0_0).toLoadRect (arg9.view.writes (Elt F) arg9.view.junk (kernelRun0_A.sl.HS0_384 c i arg7 harg7 hc0 x5)))
          (View.readAt (Elt F) arg9.view (Rect.unit (s := S8x256x768) ![1, 0, 0] ![1, 256, 768] inb_S8x256x768_S1x256x768_1_0_0).toLoadRect (arg9.view.writes (Elt F) arg9.view.junk (kernelRun0_A.sl.HS0_384 c i arg7 harg7 hc0 x5)))⟩] := by
  unfold kernelRun0_A
  rfl
end Cert.Lat.Ker

end
-- ==== Proof.Lat.Tiles.lean ====
module
public import proofs.«01_k».proof.Proof.Gen.KernelIdeal.Frame
public import Idealize.ShloMosaic.Lib.Pointwise
public import Idealize.ShloMosaic.Lib.WholeRead

@[expose] public section

set_option maxRecDepth 16384

/-! The row-masked bias that the first batch entry of every row block keeps for the others. -/

noncomputable section

namespace Cert.Lat.Ker

open Cert.KernelIdeal Cert.KernelIdeal.Gen Idealize.ShloMosaic

variable {F : FTy → Type} [FloatOps F] [Named F]

/-- The first row of row block `a`'s window, as the kernel's words compute it. -/
def winWord (a : BitVec 32) : BitVec 32 := Scalar.minsi 4#32 (Scalar.maxsi 0#32 (Scalar.subi (Scalar.muli a 4#32) 4#32))

/-- The first row the block's query row `lr` sees. -/
def lowWord (a lr : BitVec 32) : BitVec 32 :=
  Scalar.minsi 8#32 (Scalar.maxsi 0#32 (Scalar.subi (Scalar.addi (Scalar.muli a 4#32) lr) 4#32))

/-- The relative row of window row `kl` from query row `lr`, clipped into the table. -/
def relWord (a kl lr : BitVec 32) : BitVec 32 :=
  Scalar.minsi 14#32 (Scalar.maxsi 0#32
    (Scalar.addi (Scalar.subi (Scalar.addi (winWord a) kl) (Scalar.addi (Scalar.muli a 4#32) lr)) 7#32))

/-- Whether query row `lr` sees window row `kl`. -/
def inRows (a kl lr : BitVec 32) : BitVec 1 :=
  Scalar.andi (Scalar.cmpi .sge (Scalar.addi (winWord a) kl) (lowWord a lr))
    (Scalar.cmpi .slt (Scalar.addi (winWord a) kl) (Scalar.addi (lowWord a lr) 8#32))

def winRow (a : ℕ) : ℕ := min (4 * a - 4) 4

def lowRow (a lr : ℕ) : ℕ := min (4 * a + lr - 4) 8

def relRow (a kl lr : ℕ) : ℕ := min (winRow a + kl + 7 - (4 * a + lr)) 14

theorem relWord_eq : ∀ (a lr : Fin 4) (kl : Fin 12),
    (Scalar.indexCast (relWord (BitVec.ofNat 32 a) (BitVec.ofNat 32 kl) (BitVec.ofNat 32 lr)) : Index).toNat = relRow a kl lr := by
  decide +kernel

theorem inRows_eq : ∀ (a lr : Fin 4) (kl : Fin 12), inRows (BitVec.ofNat 32 a) (BitVec.ofNat 32 kl) (BitVec.ofNat 32 lr)
    = if lowRow a lr ≤ winRow a + kl ∧ winRow a + kl < lowRow a lr + 8 then 1#1 else 0#1 := by
  decide +kernel

theorem winWord_eq : ∀ a : Fin 4, (Scalar.indexCast (Scalar.muli (winWord (BitVec.ofNat 32 a)) 64#32) : Index).toNat = 64 * winRow a := by
  decide +kernel

/-- Where the bias of head `h` for these rows lies in the host's table. -/
def tileOff (h : Fin 8) (i : grid0.Coords) (kl lr : ℕ) : Fin 4 → ℕ :=
  ![h, (Scalar.indexCast (relWord (BitVec.ofNat 32 (i 0).val) (BitVec.ofNat 32 kl) (BitVec.ofNat 32 lr)) : Index).toNat, 0, 0]

theorem relRow_lt (a kl lr : ℕ) : relRow a kl lr < 15 := by unfold relRow; omega

theorem tileOff_inb (h : Fin 8) (i : grid0.Coords) (kl : Fin 12) (lr : Fin 4) :
    ∀ a, tileOff h i kl lr a + S1x1x64x64.size a ≤ S8x15x64x64.size a := by
  have h1 := relWord_eq (i 0) lr kl
  have h2 := relRow_lt (i 0).val kl lr
  intro a
  fin_cases a
  · show h.val + 1 ≤ 8; omega
  · show (Scalar.indexCast (relWord _ _ _) : Index).toNat + 1 ≤ 15; omega
  · show 0 + 64 ≤ 64; omega
  · show 0 + 64 ≤ 64; omega

theorem store_inb (h : Fin 8) (lr : Fin 4) (kl : Fin 12) :
    ∀ a, ![h.val, 64 * lr.val, 64 * kl.val] a + S1x64x64.size a ≤ S8x256x768.size a := by
  intro a
  fin_cases a
  · show h.val + 1 ≤ 8; omega
  · show 64 * lr.val + 64 ≤ 256; omega
  · show 64 * kl.val + 64 ≤ 768; omega

/-- One tile: the table's columns where the rows see each other, the mask elsewhere. -/
def maskTile (m : BitVec 1) (t : Vec F S1x1x64x64 .f32) : FVec F S1x64x64 .f32 :=
  shapeCast S1x64x64 (Scalar.select m (shapeCast S64x64 t shapeCasts_S1x1x64x64_S64x64 : FVec F S64x64 .f32)
    (broadcast S64x64 (Named.named κ "mask" (0xF149F2CA#32 : BitVec (FTy.bits .f32))))) shapeCasts_S64x64_S1x64x64

/-- The store of one tile. -/
def tile (i : grid0.Coords) (arg7 : Memref sig .tc .vmem S8x15x64x64 .f32) (harg7 : arg7.IsWhole) (x5 : Vec F S8x15x64x64 .f32)
    (h : Fin 8) (lr : Fin 4) (kl : Fin 12) : View.Piece (Elt F) S8x256x768 .f32 :=
  ⟨Rect.unit (s := S8x256x768) ![h.val, 64 * lr.val, 64 * kl.val] S1x64x64.size (store_inb h lr kl),
    maskTile (inRows (BitVec.ofNat 32 (i 0).val) (BitVec.ofNat 32 kl.val) (BitVec.ofNat 32 lr.val))
      (View.readAt (Elt F) arg7.view (Rect.unit (s := S8x15x64x64) (tileOff h i kl.val lr.val) S1x1x64x64.size (tileOff_inb h i kl lr)).toLoadRect
        (harg7.unread x5))⟩

/-- The order of the stores, last first. -/
def rowsDown : List (Fin 4) := [3, 2, 1, 0]
def colsDown : List (Fin 12) := [11, 10, 9, 8, 7, 6, 5, 4, 3, 2, 1, 0]
def headsDown : List (Fin 8) := [7, 6, 5, 4, 3, 2, 1, 0]

def tiles (i : grid0.Coords) (arg7 : Memref sig .tc .vmem S8x15x64x64 .f32) (harg7 : arg7.IsWhole) (x5 : Vec F S8x15x64x64 .f32) :
    List (View.Piece (Elt F) S8x256x768 .f32) :=
  rowsDown.flatMap fun lr => colsDown.flatMap fun kl => headsDown.map fun h => tile i arg7 harg7 x5 h lr kl

set_option maxHeartbeats 1000000 in
/-- The stores of the bias are these tiles. -/
theorem stores_eq (c : Dev nD) (i : grid0.Coords) (arg7 : Memref sig .tc .vmem S8x15x64x64 .f32) (harg7 : arg7.IsWhole) (hc0 : cond0_0 i)
    (x5 : Vec F S8x15x64x64 .f32) : kernelRun0_A.sl.HS0_384 c i arg7 harg7 hc0 x5 = tiles i arg7 harg7 x5 := by
  unfold kernelRun0_A.sl.HS0_384
  rfl

/-- What the tiles leave at head `h`, query token `q` of the block and key token `k` of the window. -/
def kept (i : grid0.Coords) (x5 : Vec F S8x15x64x64 .f32) : S8x256x768.Idx → F .f32 := fun y =>
  Scalar.select (inRows (BitVec.ofNat 32 (i 0).val) (BitVec.ofNat 32 ((y 2).val / 64)) (BitVec.ofNat 32 ((y 1).val / 64)))
    (x5 (ix4 (y 0) ⟨relRow (i 0).val ((y 2).val / 64) ((y 1).val / 64), relRow_lt _ _ _⟩
      ⟨(y 1).val % 64, Nat.mod_lt _ (by decide)⟩ ⟨(y 2).val % 64, Nat.mod_lt _ (by decide)⟩))
    (Named.named κ "mask" (0xF149F2CA#32 : BitVec (FTy.bits .f32)))

theorem kept_at (i : grid0.Coords) (x5 : Vec F S8x15x64x64 .f32) (y : S8x256x768.Idx) (h : Fin 8) (lr : Fin 4) (kl : Fin 12) (q k : Fin 64)
    (e0 : (y 0).val = h) (e1 : (y 1).val = 64 * lr + q) (e2 : (y 2).val = 64 * kl + k) :
    kept i x5 y = Scalar.select (inRows (BitVec.ofNat 32 (i 0).val) (BitVec.ofNat 32 kl.val) (BitVec.ofNat 32 lr.val))
      (x5 (ix4 h ⟨relRow (i 0).val kl lr, relRow_lt _ _ _⟩ q k)) (Named.named κ "mask" (0xF149F2CA#32 : BitVec (FTy.bits .f32))) := by
  have a1 : (y 1).val / 64 = lr := by omega
  have a2 : (y 2).val / 64 = kl := by omega
  have b0 : y 0 = h := Fin.ext e0
  have b1 : (⟨(y 1).val % 64, Nat.mod_lt _ (by decide)⟩ : Fin 64) = q := Fin.ext (by show (y 1).val % 64 = q.val; omega)
  have b2 : (⟨(y 2).val % 64, Nat.mod_lt _ (by decide)⟩ : Fin 64) = k := Fin.ext (by show (y 2).val % 64 = k.val; omega)
  unfold kept
  rw [b0, b1, b2]
  simp only [a1, a2]

theorem tile_agrees (i : grid0.Coords) (arg7 : Memref sig .tc .vmem S8x15x64x64 .f32) (harg7 : arg7.IsWhole) (x5 : Vec F S8x15x64x64 .f32)
    (h : Fin 8) (lr : Fin 4) (kl : Fin 12) (x : S1x64x64.Idx) :
    (tile i arg7 harg7 x5 h lr kl).2 x = kept i x5 ((tile i arg7 harg7 x5 h lr kl).1.emb x) := by
  have h0 : (x 0).val = 0 := by have : (x 0).val < 1 := (x 0).isLt; omega
  have h1 := relWord_eq (i 0) lr kl
  rw [kept_at i x5 _ h lr kl (x 1) (x 2) (by show h.val + 1 * (x 0).val = h.val; omega)
    (by show 64 * lr.val + 1 * (x 1).val = 64 * lr.val + (x 1).val; omega)
    (by show 64 * kl.val + 1 * (x 2).val = 64 * kl.val + (x 2).val; omega)]
  unfold tile maskTile
  dsimp only
  pointwise []
  rw [harg7.readAt_unread]
  refine congrArg (fun t => Scalar.select _ (x5 t) _) ?_
  funext a
  apply Fin.ext
  fin_cases a
  · show h.val + 0 * 1 = h.val
    omega
  · show (Scalar.indexCast (relWord _ _ _) : Index).toNat + 0 * 1 = relRow _ _ _
    rw [h1]
    omega
  · show 0 + 1 * (x 1).val = (x 1).val
    omega
  · show 0 + 1 * (x 2).val = (x 2).val
    omega

theorem tiles_agree (i : grid0.Coords) (arg7 : Memref sig .tc .vmem S8x15x64x64 .f32) (harg7 : arg7.IsWhole) (x5 : Vec F S8x15x64x64 .f32) :
    ∀ p ∈ tiles i arg7 harg7 x5, ∀ x, p.2 x = kept i x5 (p.1.emb x) := by
  intro p hp
  simp only [tiles, List.mem_flatMap, List.mem_map] at hp
  obtain ⟨lr, _, kl, _, h, _, rfl⟩ := hp
  exact tile_agrees i arg7 harg7 x5 h lr kl

theorem mem_rowsDown : ∀ lr : Fin 4, lr ∈ rowsDown := by decide
theorem mem_colsDown : ∀ kl : Fin 12, kl ∈ colsDown := by decide
theorem mem_headsDown : ∀ h : Fin 8, h ∈ headsDown := by decide

theorem tiles_cover (i : grid0.Coords) (arg7 : Memref sig .tc .vmem S8x15x64x64 .f32) (harg7 : arg7.IsWhole) (x5 : Vec F S8x15x64x64 .f32)
    (y : S8x256x768.Idx) : ∃ p ∈ tiles i arg7 harg7 x5, y ∈ p.1.set := by
  have h0 : (y 0).val < 8 := (y 0).isLt
  have h1 : (y 1).val < 256 := (y 1).isLt
  have h2 : (y 2).val < 768 := (y 2).isLt
  have h3 : (y 1).val / 64 < 4 := by omega
  have h4 : (y 2).val / 64 < 12 := by omega
  refine ⟨tile i arg7 harg7 x5 ⟨(y 0).val, h0⟩ ⟨(y 1).val / 64, h3⟩ ⟨(y 2).val / 64, h4⟩, ?_, ?_⟩
  · simp only [tiles, List.mem_flatMap, List.mem_map]
    exact ⟨_, mem_rowsDown _, _, mem_colsDown _, _, mem_headsDown _, rfl⟩
  · refine (Rect.mem_set_unit (inb := store_inb ⟨(y 0).val, h0⟩ ⟨(y 1).val / 64, h3⟩ ⟨(y 2).val / 64, h4⟩)).mpr ?_
    intro a
    fin_cases a
    · show (y 0).val ≤ (y 0).val ∧ (y 0).val < (y 0).val + 1
      omega
    · show 64 * ((y 1).val / 64) ≤ (y 1).val ∧ (y 1).val < 64 * ((y 1).val / 64) + 64
      omega
    · show 64 * ((y 2).val / 64) ≤ (y 2).val ∧ (y 2).val < 64 * ((y 2).val / 64) + 64
      omega

/-- A buffer holding the stored tiles, read at an index. -/
theorem tiles_read (i : grid0.Coords) (arg7 : Memref sig .tc .vmem S8x15x64x64 .f32) (harg7 : arg7.IsWhole) (x5 : Vec F S8x15x64x64 .f32)
    {κ' : Kind} {sp : Space} (v : View sig κ' sp S8x256x768 .f32) (f : v.ty.Contents (Elt F)) (y : S8x256x768.Idx) :
    v.read (Elt F) (v.writes (Elt F) f (tiles i arg7 harg7 x5)) y = kept i x5 y :=
  View.read_writes_apply_of_pieces v f (kept i x5) _ (tiles_agree i arg7 harg7 x5) y (tiles_cover i arg7 harg7 x5 y)

end Cert.Lat.Ker

end
-- ==== Proof.Lat.Out.lean ====
module
public import proofs.«01_k».proof.Proof.Lat.Pieces
public import proofs.«01_k».proof.Proof.Lat.Tiles

@[expose] public section

set_option maxRecDepth 16384

/-! The output block of a grid point, read at an index. -/

noncomputable section

namespace Cert.Lat.Ker

open Cert.KernelIdeal Cert.KernelIdeal.Gen Idealize.ShloMosaic Cert.Lat

/-- Row `a` of the window of row block `i`, in the batch entry's 1024 tokens. -/
def winTok (i : grid0.Coords) (a : Fin 768) : Fin 1024 :=
  ⟨64 * winRow (i 0).val + a.val, by have := a.isLt; unfold winRow; omega⟩

/-- Component `e` of the head whose lane is `l`. -/
def sameHead (l : Fin 512) (e : Fin 64) : Fin 512 := ⟨64 * (l.val / 64) + e.val, by have := l.isLt; have := e.isLt; omega⟩

def headOf (l : Fin 512) : Fin 8 := ⟨l.val / 64, by have := l.isLt; omega⟩

/-- The output block at an index, from the blocks a grid point reads and the bias `S` it keeps. -/
def blockAt (i : grid0.Coords) (x0 : FVec Ideal S256x512 .bf16) (x1 x2 : FVec Ideal S1024x512 .f32) (x3 x4 : FVec Ideal S1x512x512 .f32)
    (S : S8x256x768.Idx → EReal) : S256x512.Idx → EReal := fun y =>
  lastDiv (fun a => (∑ e, x0 (ix2 (y 0) (sameHead (y 1) e)) * x1 (ix2 (winTok i a) (sameHead (y 1) e))) + S (ix3 (headOf (y 1)) (y 0) a))
    (fun a => x2 (ix2 (winTok i a) (y 1)))
    (fun c : Fin 512 => ∑ e, x0 (ix2 (y 0) (sameHead (y 1) e)) * x3 (ix3 (0 : Fin 1) c (sameHead (y 1) e)))
    (fun c => x4 (ix3 (0 : Fin 1) c (y 1)))

/-- Lane `l` of head pair `p`. -/
def pairLane (p : ℕ) (hp : p < 4) (l : Fin 128) : Fin 512 := ⟨128 * p + l.val, by have := l.isLt; omega⟩

theorem pair_at (i : grid0.Coords) (x0 : FVec Ideal S256x512 .bf16) (x1 x2 : FVec Ideal S1024x512 .f32) (x3 x4 : FVec Ideal S1x512x512 .f32)
    (S : S8x256x768.Idx → EReal) (p : ℕ) (hp : p < 4) (q : FVec Ideal S256x128 .bf16) (kw vw : FVec Ideal S768x128 .f32)
    (kc vc : FVec Ideal S1x512x128 .f32) (b b' : FVec Ideal S1x256x768 .f32)
    (hq : ∀ x l, q (ix2 x l) = x0 (ix2 x (pairLane p hp l)))
    (hkw : ∀ a l, kw (ix2 a l) = x1 (ix2 (winTok i a) (pairLane p hp l)))
    (hvw : ∀ a l, vw (ix2 a l) = x2 (ix2 (winTok i a) (pairLane p hp l)))
    (hkc : ∀ a l, kc (ix3 (0 : Fin 1) a l) = x3 (ix3 (0 : Fin 1) a (pairLane p hp l)))
    (hvc : ∀ a l, vc (ix3 (0 : Fin 1) a l) = x4 (ix3 (0 : Fin 1) a (pairLane p hp l)))
    (hb : ∀ x a, b (ix3 (0 : Fin 1) x a) = S (ix3 (⟨2 * p, by omega⟩ : Fin 8) x a))
    (hb' : ∀ x a, b' (ix3 (0 : Fin 1) x a) = S (ix3 (⟨2 * p + 1, by omega⟩ : Fin 8) x a))
    (r : Fin 256) (l : Fin 128) :
    pairOut q kw vw kc vc b b' (ix2 r l) = blockAt i x0 x1 x2 x3 x4 S (ix2 r (pairLane p hp l)) := by
  have hlt : l.val < 128 := l.isLt
  by_cases h : l.val < 64
  · obtain ⟨d, hd⟩ : ∃ d : Fin 64, l = lo d := ⟨⟨l.val, h⟩, Fin.ext rfl⟩
    have e1 : headOf (pairLane p hp (lo d)) = ⟨2 * p, by omega⟩ := Fin.ext (by show (128 * p + d.val) / 64 = 2 * p; omega)
    have e2 : ∀ e, sameHead (pairLane p hp (lo d)) e = pairLane p hp (lo e) := fun e =>
      Fin.ext (by show 64 * ((128 * p + d.val) / 64) + e.val = 128 * p + e.val; omega)
    rw [hd, pairOut_lo]
    simp only [hq, hkw, hvw, hkc, hvc, hb]
    show _ = lastDiv (fun a => (∑ e, x0 (ix2 r (sameHead (pairLane p hp (lo d)) e)) * x1 (ix2 (winTok i a) (sameHead (pairLane p hp (lo d)) e)))
        + S (ix3 (headOf (pairLane p hp (lo d))) r a)) (fun a => x2 (ix2 (winTok i a) (pairLane p hp (lo d))))
      (fun c : Fin 512 => ∑ e, x0 (ix2 r (sameHead (pairLane p hp (lo d)) e)) * x3 (ix3 (0 : Fin 1) c (sameHead (pairLane p hp (lo d)) e)))
      (fun c => x4 (ix3 (0 : Fin 1) c (pairLane p hp (lo d))))
    simp only [e1, e2]
  · obtain ⟨d, hd⟩ : ∃ d : Fin 64, l = hi d := ⟨⟨l.val - 64, by omega⟩, Fin.ext (by show l.val = 64 + (l.val - 64); omega)⟩
    have e1 : headOf (pairLane p hp (hi d)) = ⟨2 * p + 1, by omega⟩ := Fin.ext (by show (128 * p + (64 + d.val)) / 64 = 2 * p + 1; omega)
    have e2 : ∀ e, sameHead (pairLane p hp (hi d)) e = pairLane p hp (hi e) := fun e =>
      Fin.ext (by show 64 * ((128 * p + (64 + d.val)) / 64) + e.val = 128 * p + (64 + e.val); omega)
    rw [hd, pairOut_hi]
    simp only [hq, hkw, hvw, hkc, hvc, hb']
    show _ = lastDiv (fun a => (∑ e, x0 (ix2 r (sameHead (pairLane p hp (hi d)) e)) * x1 (ix2 (winTok i a) (sameHead (pairLane p hp (hi d)) e)))
        + S (ix3 (headOf (pairLane p hp (hi d))) r a)) (fun a => x2 (ix2 (winTok i a) (pairLane p hp (hi d))))
      (fun c : Fin 512 => ∑ e, x0 (ix2 r (sameHead (pairLane p hp (hi d)) e)) * x3 (ix3 (0 : Fin 1) c (sameHead (pairLane p hp (hi d)) e)))
      (fun c => x4 (ix3 (0 : Fin 1) c (pairLane p hp (hi d))))
    simp only [e1, e2]

theorem piece_at (i : grid0.Coords) (x0 : FVec Ideal S256x512 .bf16) (x1 x2 : FVec Ideal S1024x512 .f32) (x3 x4 : FVec Ideal S1x512x512 .f32)
    (S : S8x256x768.Idx → EReal) (p : ℕ) (hp : p < 4) (w : FVec Ideal S256x128 .bf16)
    (hw : ∀ (r : Fin 256) (l : Fin 128), w (ix2 r l) = blockAt i x0 x1 x2 x3 x4 S (ix2 r (pairLane p hp l)))
    (inb : ∀ a, ![0, 128 * p] a + S256x128.size a ≤ S256x512.size a) (x : S256x128.Idx) :
    w x = blockAt i x0 x1 x2 x3 x4 S ((Rect.unit (s := S256x512) ![0, 128 * p] S256x128.size inb).emb x) := by
  have hx : x = ix2 (x 0) (x 1) := by funext a; fin_cases a <;> rfl
  have hy : (Rect.unit (s := S256x512) ![0, 128 * p] S256x128.size inb).emb x = ix2 (x 0) (pairLane p hp (x 1)) := by
    funext a
    apply Fin.ext
    fin_cases a
    · show 0 + 1 * (x 0).val = (x 0).val
      omega
    · show 128 * p + 1 * (x 1).val = 128 * p + (x 1).val
      omega
  exact (congrArg w hx).trans ((hw (x 0) (x 1)).trans (congrArg (blockAt i x0 x1 x2 x3 x4 S) hy.symm))

/-! ### The loads -/

theorem query_load (m : Memref sig .tc .vmem S256x512 .bf16) (hm : m.IsWhole) (X : Vec Ideal S256x512 .bf16) (p : ℕ) (hp : p < 4)
    (inb : ∀ a, ![0, 128 * p] a + S256x128.size a ≤ S256x512.size a) (x : Fin 256) (l : Fin 128) :
    View.readAt (Elt Ideal) m.view (Rect.unit (s := S256x512) ![0, 128 * p] S256x128.size inb).toLoadRect (hm.unread X) (ix2 x l)
      = X (ix2 x (pairLane p hp l)) := by
  rw [hm.readAt_unread]
  congr 1
  funext a
  apply Fin.ext
  fin_cases a
  · show 0 + 1 * x.val = x.val
    omega
  · show 128 * p + 1 * l.val = 128 * p + l.val
    omega

theorem win_load (i : grid0.Coords) (m : Memref sig .tc .vmem S1024x512 .f32) (hm : m.IsWhole) (X : Vec Ideal S1024x512 .f32) (p : ℕ) (hp : p < 4)
    {off : Fin 2 → ℕ} (ho : off = ![64 * winRow (i 0).val, 128 * p])
    (inb : ∀ a, off a + S768x128.size a ≤ S1024x512.size a) (x : Fin 768) (l : Fin 128) :
    View.readAt (Elt Ideal) m.view (Rect.unit (s := S1024x512) off S768x128.size inb).toLoadRect (hm.unread X) (ix2 x l)
      = X (ix2 (winTok i x) (pairLane p hp l)) := by
  subst ho
  rw [hm.readAt_unread]
  congr 1
  funext a
  apply Fin.ext
  fin_cases a
  · show 64 * winRow (i 0).val + 1 * x.val = 64 * winRow (i 0).val + x.val
    omega
  · show 128 * p + 1 * l.val = 128 * p + l.val
    omega

theorem ctx_load (m : Memref sig .tc .vmem S1x512x512 .f32) (hm : m.IsWhole) (X : Vec Ideal S1x512x512 .f32) (p : ℕ) (hp : p < 4)
    (inb : ∀ a, ![0, 0, 128 * p] a + S1x512x128.size a ≤ S1x512x512.size a) (x : Fin 512) (l : Fin 128) :
    View.readAt (Elt Ideal) m.view (Rect.unit (s := S1x512x512) ![0, 0, 128 * p] S1x512x128.size inb).toLoadRect (hm.unread X) (ix3 (0 : Fin 1) x l)
      = X (ix3 (0 : Fin 1) x (pairLane p hp l)) := by
  rw [hm.readAt_unread]
  congr 1
  funext a
  apply Fin.ext
  fin_cases a
  · rfl
  · show 0 + 1 * x.val = x.val
    omega
  · show 128 * p + 1 * l.val = 128 * p + l.val
    omega

theorem bias_idx (h : ℕ) (hh : h < 8) (inb : ∀ a, ![h, 0, 0] a + S1x256x768.size a ≤ S8x256x768.size a) (x : Fin 256) (k : Fin 768) :
    (Rect.unit (s := S8x256x768) ![h, 0, 0] S1x256x768.size inb).toLoadRect.idx (ix3 (0 : Fin 1) x k) = ix3 (⟨h, hh⟩ : Fin 8) x k := by
  funext a
  apply Fin.ext
  fin_cases a
  · show h + 1 * 0 = h
    omega
  · show 0 + 1 * x.val = x.val
    omega
  · show 0 + 1 * k.val = k.val
    omega

theorem bias_load (m : Memref sig .tc .vmem S8x256x768 .f32) (hm : m.IsWhole) (X : Vec Ideal S8x256x768 .f32) (h : ℕ) (hh : h < 8)
    (inb : ∀ a, ![h, 0, 0] a + S1x256x768.size a ≤ S8x256x768.size a) (x : Fin 256) (k : Fin 768) :
    View.readAt (Elt Ideal) m.view (Rect.unit (s := S8x256x768) ![h, 0, 0] S1x256x768.size inb).toLoadRect (hm.unread X) (ix3 (0 : Fin 1) x k)
      = X (ix3 (⟨h, hh⟩ : Fin 8) x k) := by
  rw [hm.readAt_unread]
  exact congrArg X (bias_idx h hh inb x k)

theorem kept_load (i : grid0.Coords) (arg7 : Memref sig .tc .vmem S8x15x64x64 .f32) (harg7 : arg7.IsWhole) (x5 : Vec Ideal S8x15x64x64 .f32)
    (m : Memref sig .tc .vmem S8x256x768 .f32) (h : ℕ) (hh : h < 8)
    (inb : ∀ a, ![h, 0, 0] a + S1x256x768.size a ≤ S8x256x768.size a) (x : Fin 256) (k : Fin 768) :
    View.readAt (Elt Ideal) m.view (Rect.unit (s := S8x256x768) ![h, 0, 0] S1x256x768.size inb).toLoadRect
      (m.view.writes (Elt Ideal) m.view.junk (tiles i arg7 harg7 x5)) (ix3 (0 : Fin 1) x k) = kept i x5 (ix3 (⟨h, hh⟩ : Fin 8) x k) :=
  (tiles_read i arg7 harg7 x5 m.view _ _).trans (congrArg (kept i x5) (bias_idx h hh inb x k))

theorem off9_eq (i : grid0.Coords) : k0_off9 i = ![64 * winRow (i 0).val, 128 * 0] := by
  have h := winWord_eq (i 0)
  funext a
  fin_cases a
  · exact h
  · rfl

theorem off10_eq (i : grid0.Coords) : k0_off10 i = ![64 * winRow (i 0).val, 128 * 1] := by
  have h := winWord_eq (i 0)
  funext a
  fin_cases a
  · exact h
  · rfl

theorem off11_eq (i : grid0.Coords) : k0_off11 i = ![64 * winRow (i 0).val, 128 * 2] := by
  have h := winWord_eq (i 0)
  funext a
  fin_cases a
  · exact h
  · rfl

theorem off12_eq (i : grid0.Coords) : k0_off12 i = ![64 * winRow (i 0).val, 128 * 3] := by
  have h := winWord_eq (i 0)
  funext a
  fin_cases a
  · exact h
  · rfl

/-- The block of a point with a later batch entry. -/
theorem out_B_at (c : Dev nD) (i : grid0.Coords) (arg2 : Memref sig .tc .vmem S256x512 .bf16) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1x512x512 .f32) (harg5 : arg5.IsWhole) (arg6 : Memref sig .tc .vmem S1x512x512 .f32) (harg6 : arg6.IsWhole)
    (arg7 : Memref sig .tc .vmem S8x15x64x64 .f32) (harg7 : arg7.IsWhole) (arg8 : Memref sig .tc .vmem S256x512 .bf16) (harg8 : arg8.IsWhole) (arg9 : Memref sig .tc .vmem S8x256x768 .f32) (harg9 : arg9.IsWhole)
    (hc0 : ¬cond0_0 i) (x0 : Vec Ideal S256x512 .bf16) (x1 x2 : Vec Ideal S1024x512 .f32) (x3 x4 : Vec Ideal S1x512x512 .f32) (x5 : Vec Ideal S8x15x64x64 .f32) (xs0 : Vec Ideal S8x256x768 .f32) (y : S256x512.Idx) :
    out0_B_6 c i arg2 harg2 arg3 harg3 arg4 harg4 arg5 harg5 arg6 harg6 arg7 harg7 arg8 harg8 arg9 harg9 hc0 x0 x1 x2 x3 x4 x5 xs0 y = blockAt i x0 x1 x2 x3 x4 xs0 y := by
  unfold out0_B_6
  refine View.read_writes_apply_of_pieces (Val := Elt Ideal) VO0_6 _ (blockAt i x0 x1 x2 x3 x4 xs0) _ ?_ y
    (cover0_B_6 c i arg2 harg2 arg3 harg3 arg4 harg4 arg5 harg5 arg6 harg6 arg7 harg7 arg8 harg8 arg9 harg9 hc0 x0 x1 x2 x3 x4 x5 xs0 y)
  rw [pieces_B]
  intro p hp
  simp only [List.mem_cons, List.not_mem_nil, or_false] at hp
  rcases hp with rfl | rfl | rfl | rfl
  · exact piece_at i x0 x1 x2 x3 x4 xs0 3 (by omega) _ (pair_at i x0 x1 x2 x3 x4 xs0 3 (by omega) _ _ _ _ _ _ _ (fun x l => query_load arg2 harg2 x0 3 (by omega) inb_S256x512_S256x128_0_384 x l)
      (fun a l => win_load i arg3 harg3 x1 3 (by omega) (off12_eq i) (k0_off12_inb i) a l) (fun a l => win_load i arg4 harg4 x2 3 (by omega) (off12_eq i) (k0_off12_inb i) a l)
      (fun a l => ctx_load arg5 harg5 x3 3 (by omega) inb_S1x512x512_S1x512x128_0_0_384 a l) (fun a l => ctx_load arg6 harg6 x4 3 (by omega) inb_S1x512x512_S1x512x128_0_0_384 a l)
      (fun x a => bias_load arg9 harg9 xs0 6 (by omega) inb_S8x256x768_S1x256x768_6_0_0 x a) (fun x a => bias_load arg9 harg9 xs0 7 (by omega) inb_S8x256x768_S1x256x768_7_0_0 x a)) inb_S256x512_S256x128_0_384
  · exact piece_at i x0 x1 x2 x3 x4 xs0 2 (by omega) _ (pair_at i x0 x1 x2 x3 x4 xs0 2 (by omega) _ _ _ _ _ _ _ (fun x l => query_load arg2 harg2 x0 2 (by omega) inb_S256x512_S256x128_0_256 x l)
      (fun a l => win_load i arg3 harg3 x1 2 (by omega) (off11_eq i) (k0_off11_inb i) a l) (fun a l => win_load i arg4 harg4 x2 2 (by omega) (off11_eq i) (k0_off11_inb i) a l)
      (fun a l => ctx_load arg5 harg5 x3 2 (by omega) inb_S1x512x512_S1x512x128_0_0_256 a l) (fun a l => ctx_load arg6 harg6 x4 2 (by omega) inb_S1x512x512_S1x512x128_0_0_256 a l)
      (fun x a => bias_load arg9 harg9 xs0 4 (by omega) inb_S8x256x768_S1x256x768_4_0_0 x a) (fun x a => bias_load arg9 harg9 xs0 5 (by omega) inb_S8x256x768_S1x256x768_5_0_0 x a)) inb_S256x512_S256x128_0_256
  · exact piece_at i x0 x1 x2 x3 x4 xs0 1 (by omega) _ (pair_at i x0 x1 x2 x3 x4 xs0 1 (by omega) _ _ _ _ _ _ _ (fun x l => query_load arg2 harg2 x0 1 (by omega) inb_S256x512_S256x128_0_128 x l)
      (fun a l => win_load i arg3 harg3 x1 1 (by omega) (off10_eq i) (k0_off10_inb i) a l) (fun a l => win_load i arg4 harg4 x2 1 (by omega) (off10_eq i) (k0_off10_inb i) a l)
      (fun a l => ctx_load arg5 harg5 x3 1 (by omega) inb_S1x512x512_S1x512x128_0_0_128 a l) (fun a l => ctx_load arg6 harg6 x4 1 (by omega) inb_S1x512x512_S1x512x128_0_0_128 a l)
      (fun x a => bias_load arg9 harg9 xs0 2 (by omega) inb_S8x256x768_S1x256x768_2_0_0 x a) (fun x a => bias_load arg9 harg9 xs0 3 (by omega) inb_S8x256x768_S1x256x768_3_0_0 x a)) inb_S256x512_S256x128_0_128
  · exact piece_at i x0 x1 x2 x3 x4 xs0 0 (by omega) _ (pair_at i x0 x1 x2 x3 x4 xs0 0 (by omega) _ _ _ _ _ _ _ (fun x l => query_load arg2 harg2 x0 0 (by omega) inb_S256x512_S256x128_0_0 x l)
      (fun a l => win_load i arg3 harg3 x1 0 (by omega) (off9_eq i) (k0_off9_inb i) a l) (fun a l => win_load i arg4 harg4 x2 0 (by omega) (off9_eq i) (k0_off9_inb i) a l)
      (fun a l => ctx_load arg5 harg5 x3 0 (by omega) inb_S1x512x512_S1x512x128_0_0_0 a l) (fun a l => ctx_load arg6 harg6 x4 0 (by omega) inb_S1x512x512_S1x512x128_0_0_0 a l)
      (fun x a => bias_load arg9 harg9 xs0 0 (by omega) inb_S8x256x768_S1x256x768_0_0_0 x a) (fun x a => bias_load arg9 harg9 xs0 1 (by omega) inb_S8x256x768_S1x256x768_1_0_0 x a)) inb_S256x512_S256x128_0_0

/-- The block of a point with the first batch entry. -/
theorem out_A_at (c : Dev nD) (i : grid0.Coords) (arg2 : Memref sig .tc .vmem S256x512 .bf16) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1x512x512 .f32) (harg5 : arg5.IsWhole) (arg6 : Memref sig .tc .vmem S1x512x512 .f32) (harg6 : arg6.IsWhole)
    (arg7 : Memref sig .tc .vmem S8x15x64x64 .f32) (harg7 : arg7.IsWhole) (arg8 : Memref sig .tc .vmem S256x512 .bf16) (harg8 : arg8.IsWhole) (arg9 : Memref sig .tc .vmem S8x256x768 .f32) (harg9 : arg9.IsWhole)
    (hc0 : cond0_0 i) (x0 : Vec Ideal S256x512 .bf16) (x1 x2 : Vec Ideal S1024x512 .f32) (x3 x4 : Vec Ideal S1x512x512 .f32) (x5 : Vec Ideal S8x15x64x64 .f32) (y : S256x512.Idx) :
    out0_A_6 c i arg2 harg2 arg3 harg3 arg4 harg4 arg5 harg5 arg6 harg6 arg7 harg7 arg8 harg8 arg9 harg9 hc0 x0 x1 x2 x3 x4 x5 y = blockAt i x0 x1 x2 x3 x4 (kept i x5) y := by
  unfold out0_A_6
  refine View.read_writes_apply_of_pieces (Val := Elt Ideal) VO0_6 _ (blockAt i x0 x1 x2 x3 x4 (kept i x5)) _ ?_ y
    (cover0_A_6 c i arg2 harg2 arg3 harg3 arg4 harg4 arg5 harg5 arg6 harg6 arg7 harg7 arg8 harg8 arg9 harg9 hc0 x0 x1 x2 x3 x4 x5 y)
  rw [pieces_A]
  rw [stores_eq]
  intro p hp
  simp only [List.mem_cons, List.not_mem_nil, or_false] at hp
  rcases hp with rfl | rfl | rfl | rfl
  · exact piece_at i x0 x1 x2 x3 x4 (kept i x5) 3 (by omega) _ (pair_at i x0 x1 x2 x3 x4 (kept i x5) 3 (by omega) _ _ _ _ _ _ _ (fun x l => query_load arg2 harg2 x0 3 (by omega) inb_S256x512_S256x128_0_384 x l)
      (fun a l => win_load i arg3 harg3 x1 3 (by omega) (off12_eq i) (k0_off12_inb i) a l) (fun a l => win_load i arg4 harg4 x2 3 (by omega) (off12_eq i) (k0_off12_inb i) a l)
      (fun a l => ctx_load arg5 harg5 x3 3 (by omega) inb_S1x512x512_S1x512x128_0_0_384 a l) (fun a l => ctx_load arg6 harg6 x4 3 (by omega) inb_S1x512x512_S1x512x128_0_0_384 a l)
      (fun x a => kept_load i arg7 harg7 x5 arg9 6 (by omega) inb_S8x256x768_S1x256x768_6_0_0 x a) (fun x a => kept_load i arg7 harg7 x5 arg9 7 (by omega) inb_S8x256x768_S1x256x768_7_0_0 x a)) inb_S256x512_S256x128_0_384
  · exact piece_at i x0 x1 x2 x3 x4 (kept i x5) 2 (by omega) _ (pair_at i x0 x1 x2 x3 x4 (kept i x5) 2 (by omega) _ _ _ _ _ _ _ (fun x l => query_load arg2 harg2 x0 2 (by omega) inb_S256x512_S256x128_0_256 x l)
      (fun a l => win_load i arg3 harg3 x1 2 (by omega) (off11_eq i) (k0_off11_inb i) a l) (fun a l => win_load i arg4 harg4 x2 2 (by omega) (off11_eq i) (k0_off11_inb i) a l)
      (fun a l => ctx_load arg5 harg5 x3 2 (by omega) inb_S1x512x512_S1x512x128_0_0_256 a l) (fun a l => ctx_load arg6 harg6 x4 2 (by omega) inb_S1x512x512_S1x512x128_0_0_256 a l)
      (fun x a => kept_load i arg7 harg7 x5 arg9 4 (by omega) inb_S8x256x768_S1x256x768_4_0_0 x a) (fun x a => kept_load i arg7 harg7 x5 arg9 5 (by omega) inb_S8x256x768_S1x256x768_5_0_0 x a)) inb_S256x512_S256x128_0_256
  · exact piece_at i x0 x1 x2 x3 x4 (kept i x5) 1 (by omega) _ (pair_at i x0 x1 x2 x3 x4 (kept i x5) 1 (by omega) _ _ _ _ _ _ _ (fun x l => query_load arg2 harg2 x0 1 (by omega) inb_S256x512_S256x128_0_128 x l)
      (fun a l => win_load i arg3 harg3 x1 1 (by omega) (off10_eq i) (k0_off10_inb i) a l) (fun a l => win_load i arg4 harg4 x2 1 (by omega) (off10_eq i) (k0_off10_inb i) a l)
      (fun a l => ctx_load arg5 harg5 x3 1 (by omega) inb_S1x512x512_S1x512x128_0_0_128 a l) (fun a l => ctx_load arg6 harg6 x4 1 (by omega) inb_S1x512x512_S1x512x128_0_0_128 a l)
      (fun x a => kept_load i arg7 harg7 x5 arg9 2 (by omega) inb_S8x256x768_S1x256x768_2_0_0 x a) (fun x a => kept_load i arg7 harg7 x5 arg9 3 (by omega) inb_S8x256x768_S1x256x768_3_0_0 x a)) inb_S256x512_S256x128_0_128
  · exact piece_at i x0 x1 x2 x3 x4 (kept i x5) 0 (by omega) _ (pair_at i x0 x1 x2 x3 x4 (kept i x5) 0 (by omega) _ _ _ _ _ _ _ (fun x l => query_load arg2 harg2 x0 0 (by omega) inb_S256x512_S256x128_0_0 x l)
      (fun a l => win_load i arg3 harg3 x1 0 (by omega) (off9_eq i) (k0_off9_inb i) a l) (fun a l => win_load i arg4 harg4 x2 0 (by omega) (off9_eq i) (k0_off9_inb i) a l)
      (fun a l => ctx_load arg5 harg5 x3 0 (by omega) inb_S1x512x512_S1x512x128_0_0_0 a l) (fun a l => ctx_load arg6 harg6 x4 0 (by omega) inb_S1x512x512_S1x512x128_0_0_0 a l)
      (fun x a => kept_load i arg7 harg7 x5 arg9 0 (by omega) inb_S8x256x768_S1x256x768_0_0_0 x a) (fun x a => kept_load i arg7 harg7 x5 arg9 1 (by omega) inb_S8x256x768_S1x256x768_1_0_0 x a)) inb_S256x512_S256x128_0_0

end Cert.Lat.Ker

end
-- ==== Proof.Lat.Region.lean ====
module
public import proofs.«01_k».proof.Proof.Gen.KernelIdeal.Value
public import Idealize.ShloMosaic.Lib.Pipeline.ValueKit
public import proofs.«01_k».proof.Proof.Lat.Out

@[expose] public section

set_option maxRecDepth 16384

/-! The array the call leaves, from the arrays it stages. -/

noncomputable section

namespace Cert.Lat.Ker

open Cert.KernelIdeal Cert.KernelIdeal.Gen Idealize.ShloMosaic Cert.Lat

variable (m : (ℓ : Loc nD τ sig) → Buf (Elt Ideal) ℓ)

theorem coords_eq : ∀ t : Fin grid0.N, (grid0.coords t 0).val = t.val / 8 ∧ (grid0.coords t 1).val = t.val % 8 := by decide +kernel

theorem index_0 : ∀ t : Fin grid0.N, win0_0.index t = ![16 + 4 * (t.val % 8) + t.val / 8, 0] := by decide +kernel
theorem index_1 : ∀ t : Fin grid0.N, win0_1.index t = ![4 + t.val % 8, 0] := by decide +kernel
theorem index_2 : ∀ t : Fin grid0.N, win0_2.index t = ![4 + t.val % 8, 0] := by decide +kernel
theorem index_3 : ∀ t : Fin grid0.N, win0_3.index t = ![t.val % 8, 0, 0] := by decide +kernel
theorem index_4 : ∀ t : Fin grid0.N, win0_4.index t = ![t.val % 8, 0, 0] := by decide +kernel
theorem index_5 : ∀ t : Fin grid0.N, win0_5.index t = ![0, 0, 0, 0] := by decide +kernel
theorem index_6 : ∀ t : Fin grid0.N, win0_6.index t = ![4 * (t.val % 8) + t.val / 8, 0] := by decide +kernel

theorem kept_congr (i i' : grid0.Coords) (h : (i 0).val = (i' 0).val) (x5 : Vec Ideal S8x15x64x64 .f32) : kept i x5 = kept i' x5 := by
  unfold kept
  simp only [h]

/-- The bias block is the whole table at every point. -/
theorem table_block (c : Dev nD) (t t' : Fin cfg0.N) : iblk m c 5 t = iblk m c 5 t' := by
  funext y
  blk_ext [iblk, index_5 t, index_5 t']

theorem first_bias (c : Dev nD) (t : Fin cfg0.N) (h0 : t.val % 8 = 0) :
    (outsAt0 m c t.val t.isLt).2 = kept (grid0.coords t) (iblk m c 5 t) := by
  rw [outsAt0_A m c t h0]
  unfold sout0_A_0
  funext y
  show View.read (Elt Ideal) VS0_0 (VS0_0.writes (Elt Ideal) VS0_0.junk (kernelRun0_A.sl.HS0_384 c (grid0.coords t) (ms0_5 t) (hs0_5 t) _ (iblk m c 5 t))) y = _
  rw [stores_eq]
  exact tiles_read (grid0.coords t) (ms0_5 t) (hs0_5 t) (iblk m c 5 t) VS0_0 _ y

/-- What the kept bias holds after a point. -/
theorem scratch_eq (c : Dev nD) : ∀ (n : ℕ) (hn : n < cfg0.N), (outsAt0 m c n hn).2 = kept (grid0.coords ⟨n, hn⟩) (iblk m c 5 ⟨n, hn⟩) := by
  intro n
  induction n with
  | zero =>
    intro hn
    exact first_bias m c ⟨0, hn⟩ rfl
  | succ n ih =>
    intro hn
    by_cases h0 : (n + 1) % 8 = 0
    · exact first_bias m c ⟨n + 1, hn⟩ h0
    · refine (congrArg Prod.snd (outsAt0_B m c ⟨n + 1, hn⟩ h0)).trans ?_
      refine (ih (Nat.lt_of_succ_lt hn)).trans ?_
      rw [table_block m c ⟨n, Nat.lt_of_succ_lt hn⟩ ⟨n + 1, hn⟩]
      refine kept_congr _ _ ?_ _
      rw [(coords_eq ⟨n, Nat.lt_of_succ_lt hn⟩).1, (coords_eq ⟨n + 1, hn⟩).1]
      show n / 8 = (n + 1) / 8
      omega

/-- The block a point leaves in its output's staging buffer. -/
theorem block_eq (c : Dev nD) (t : Fin cfg0.N) (y : S256x512.Idx) : (outsAt0 m c t.val t.isLt).1 y
    = blockAt (grid0.coords t) (iblk m c 0 t) (iblk m c 1 t) (iblk m c 2 t) (iblk m c 3 t) (iblk m c 4 t)
        (kept (grid0.coords t) (iblk m c 5 t)) y := by
  by_cases h0 : t.val % 8 = 0
  · rw [outsAt0_A m c t h0]
    exact out_A_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t)
      (iblk m c 4 t) (iblk m c 5 t) y
  · rw [outsAt0_B m c t h0]
    refine (out_B_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t)
      (iblk m c 2 t) (iblk m c 3 t) (iblk m c 4 t) (iblk m c 5 t) _ y).trans ?_
    rw [scratch_eq m c (t.val - 1) (Nat.lt_of_le_of_lt (Nat.sub_le _ _) t.isLt),
      table_block m c ⟨t.val - 1, Nat.lt_of_le_of_lt (Nat.sub_le _ _) t.isLt⟩ t]
    refine congrArg (fun S => blockAt (grid0.coords t) _ _ _ _ _ S y) (kept_congr _ _ ?_ _)
    rw [(coords_eq ⟨t.val - 1, Nat.lt_of_le_of_lt (Nat.sub_le _ _) t.isLt⟩).1, (coords_eq t).1]
    show (t.val - 1) / 8 = t.val / 8
    omega

/-- The grid point that writes row `j` of the result. -/
def pointOf (j : Fin 8192) : Fin cfg0.N :=
  ⟨8 * (j.val % 1024 / 256) + j.val / 1024, by have := j.isLt; show _ < 32; omega⟩

/-- The block of point `t` at an index, from the arrays. -/
def pointAt (c : Dev nD) (t : Fin cfg0.N) (y : S256x512.Idx) : EReal :=
  blockAt (grid0.coords t) (iblk m c 0 t) (iblk m c 1 t) (iblk m c 2 t) (iblk m c 3 t) (iblk m c 4 t)
    (kept (grid0.coords t) (iblk m c 5 t)) y

/-- The call's result. -/
theorem array_eq (c : Dev nD) : (dats m 0 c).arrAt 6 cfg0.N = fun j : S8192x512.Idx =>
    pointAt m c (pointOf (j 0)) (ix2 (⟨(j 0).val % 256, Nat.mod_lt _ (by decide)⟩ : Fin 256) (j 1)) := by
  refine (dats m 0 c).arrAt_eq_of_covers 6 _ (by decide +kernel) fun t hf y => ?_
  have e0 : (((cfg0.win 6).blk t).view.emb y 0).val = (4 * (t.val % 8) + t.val / 8) * 256 + (y 0).val := by
    blk_simp [index_6 t]
  have e1 : (((cfg0.win 6).blk t).view.emb y 1).val = (y 1).val := by
    blk_simp [index_6 t]
  have ht : t.val < 32 := t.isLt
  have hy : (y 0).val < 256 := (y 0).isLt
  have hp : pointOf (((cfg0.win 6).blk t).view.emb y 0) = t := Fin.ext (by
    show 8 * ((((cfg0.win 6).blk t).view.emb y 0).val % 1024 / 256) + (((cfg0.win 6).blk t).view.emb y 0).val / 1024 = t.val
    rw [e0]
    omega)
  have hi : (ix2 (⟨(((cfg0.win 6).blk t).view.emb y 0).val % 256, Nat.mod_lt _ (by decide)⟩ : Fin 256)
      (((cfg0.win 6).blk t).view.emb y 1) : S256x512.Idx) = y := by
    funext a
    apply Fin.ext
    fin_cases a
    · show (((cfg0.win 6).blk t).view.emb y 0).val % 256 = (y 0).val
      rw [e0]
      omega
    · exact e1
  show _ = pointAt m c (pointOf (((cfg0.win 6).blk t).view.emb y 0)) (ix2 (⟨(((cfg0.win 6).blk t).view.emb y 0).val % 256, _⟩ : Fin 256)
    (((cfg0.win 6).blk t).view.emb y 1))
  rw [hp]
  refine Eq.trans ?_ (congrArg (pointAt m c t) hi).symm
  blk_simp
  rw [after0_6]
  exact block_eq m c t y

/-! ### The staged blocks, read in the arrays -/

theorem query_block (c : Dev nD) (t : Fin cfg0.N) (x : Fin 256) (l : Fin 512) (n : Fin 12288)
    (hn : n.val = (16 + 4 * (t.val % 8) + t.val / 8) * 256 + x.val) :
    iblk m c 0 t (ix2 x l) = V m c main_v2 (ix2 n l) := by
  blk_ext [iblk, index_0 t, hn]

theorem key_block (c : Dev nD) (t : Fin cfg0.N) (x : Fin 1024) (l : Fin 512) (n : Fin 12288)
    (hn : n.val = (4 + t.val % 8) * 1024 + x.val) :
    iblk m c 1 t (ix2 x l) = V m c main_arg1 (ix2 n l) := by
  blk_ext [iblk, index_1 t, hn]

theorem value_block (c : Dev nD) (t : Fin cfg0.N) (x : Fin 1024) (l : Fin 512) (n : Fin 12288)
    (hn : n.val = (4 + t.val % 8) * 1024 + x.val) :
    iblk m c 2 t (ix2 x l) = V m c main_arg2 (ix2 n l) := by
  blk_ext [iblk, index_2 t, hn]

theorem ctxKey_block (c : Dev nD) (t : Fin cfg0.N) (x : Fin 512) (l : Fin 512) (b : Fin 8) (hb : b.val = t.val % 8) :
    iblk m c 3 t (ix3 (0 : Fin 1) x l) = V m c main_v4 (ix3 b x l) := by
  blk_ext [iblk, index_3 t, hb]

theorem ctxValue_block (c : Dev nD) (t : Fin cfg0.N) (x : Fin 512) (l : Fin 512) (b : Fin 8) (hb : b.val = t.val % 8) :
    iblk m c 4 t (ix3 (0 : Fin 1) x l) = V m c main_v6 (ix3 b x l) := by
  blk_ext [iblk, index_4 t, hb]

theorem table_at (c : Dev nD) (t : Fin cfg0.N) (h : Fin 8) (r : Fin 15) (x y : Fin 64) :
    iblk m c 5 t (ix4 h r x y) = V m c main_v29 (ix4 h r x y) := by
  blk_ext [iblk, index_5 t]

end Cert.Lat.Ker

end
-- ==== Proof.Lat.RefStages.lean ====
/- The reference's result in stages: its scores, its softmax and its two weighted sums. -/
module

public import proofs.«01_k».proof.Proof.Gen.ReferenceIdeal.Run
public import proofs.«01_k».proof.Proof.Lat.RefTables
public import proofs.«01_k».proof.Proof.Lat.Softmax

@[expose] public section

set_option maxRecDepth 16384

noncomputable section

namespace Cert.Lat.Ref

open Cert.ReferenceIdeal Cert.ReferenceIdeal.Gen Idealize.ShloMosaic

/-- Keys or values of a query's band, gathered. -/
def band (x : FVec Ideal S12288x512 .f32) : FVec Ideal S8x16x8x4x32x8x64 .f32 :=
  Host.gather gather_S8x16x8x64x8x64_S4x32x1_S8x16x8x4x32x8x64_01256_3_n_n_3_2_81681864
    (Host.gather gather_S8x16x64x8x64_S16x8x1_S8x16x8x64x8x64_0345_1_n_n_1_2_8164864
      (shapeCast _ (shapeCast _ (extractStridedSlice S8192x512 ![4096, 0] x slices_S12288x512_S8192x512_4096_0)
        shapeCasts_S8192x512_S8x1024x8x64) shapeCasts_S8x1024x8x64_S8x16x64x8x64) rowT) colT

/-- Queries, by grid row and block of columns. -/
def queries (x : FVec Ideal S12288x512 .f32) : FVec Ideal S8x16x4x16x8x64 .f32 :=
  shapeCast _ (shapeCast _ (extractStridedSlice S8192x512 ![4096, 0] x slices_S12288x512_S8192x512_4096_0)
    shapeCasts_S8192x512_S8x1024x8x64) shapeCasts_S8x1024x8x64_S8x16x4x16x8x64

/-- The biases of the band's keys, −∞ where the query does not see the key. -/
def bias (rpb : FVec Ideal S1x8x15x31 .f32) : FVec Ideal S8x16x4x16x8x32 .f32 :=
  select (broadcastInDim S8x16x4x16x8x32 ![0, 1, 2, 3, 4, 5] bcast_S1x1x4x16x1x32_S8x16x4x16x8x32_0_1_2_3_4_5
      (broadcastInDim S1x1x4x16x1x32 ![2, 3, 5] bcast_S4x16x32_S1x1x4x16x1x32_2_3_5 (fun i => lit2 (S4x16x32.rowMajor i))))
    (Host.gather gather_S8x15x31_S16x4x16x8x32x2_S8x16x4x16x8x32_0_12_n_n_12_5_811
      (shapeCast _ rpb shapeCasts_S1x8x15x31_S8x15x31) biasT)
    (broadcastInDim S8x16x4x16x8x32 ![] bcast_S_S8x16x4x16x8x32 (id (constant S_ .f32 0xFF800000#32)))

/-- The scores of the band's keys. -/
def bandScores (q k : FVec Ideal S12288x512 .f32) (rpb : FVec Ideal S1x8x15x31 .f32) : FVec Ideal S8x8x16x4x16x8x32 .f32 :=
  addf (mulf (Host.dotGeneral dot_S8x16x4x16x8x64_S8x16x8x4x32x8x64_S8x8x16x4x16x8x32_5_6_3_24_0412_0513 none (queries q) (band k))
      (broadcastInDim S8x8x16x4x16x8x32 ![] bcast_S_S8x8x16x4x16x8x32 (constant S_ .f32 0x3E000000#32)))
    (broadcastInDim S8x8x16x4x16x8x32 ![0, 1, 2, 3, 4, 5, 6] bcast_S1x8x16x4x16x8x32_S8x8x16x4x16x8x32_0_1_2_3_4_5_6
      (broadcastInDim S1x8x16x4x16x8x32 ![1, 2, 3, 4, 5, 6] bcast_S8x16x4x16x8x32_S1x8x16x4x16x8x32_1_2_3_4_5_6 (bias rpb)))

/-- The scores of the context's keys. -/
def ctxScores (q : FVec Ideal S12288x512 .f32) (ck : FVec Ideal S8x1x512x8x64 .f32) : FVec Ideal S8x8x16x4x16x512 .f32 :=
  mulf (Host.dotGeneral dot_S8x16x4x16x8x64_S8x512x8x64_S8x8x16x4x16x512_5_3_123_1_04_02 none (queries q)
      (shapeCast _ ck shapeCasts_S8x1x512x8x64_S8x512x8x64))
    (broadcastInDim S8x8x16x4x16x512 ![] bcast_S_S8x8x16x4x16x512 (constant S_ .f32 0x3E000000#32))

/-- All scores of a query in one row. -/
def scores (s : FVec Ideal S8x8x16x4x16x8x32 .f32) (s' : FVec Ideal S8x8x16x4x16x512 .f32) : FVec Ideal S8x8x16x4x16x768 .f32 :=
  concatenate S8x8x16x4x16x768 5
    [⟨S8x8x16x4x16x256, shapeCast _ s shapeCasts_S8x8x16x4x16x8x32_S8x8x16x4x16x256⟩, ⟨S8x8x16x4x16x512, s'⟩]
    concatenates_S8x8x16x4x16x256_S8x8x16x4x16x512_S8x8x16x4x16x768_d5

/-- The greatest score of each row. -/
def greatest (s : FVec Ideal S8x8x16x4x16x768 .f32) : FVec Ideal S8x8x16x4x16 .f32 :=
  maximumf (broadcastInDim S8x8x16x4x16 ![] bcast_S_S8x8x16x4x16 (constant S_ .f32 0xFF800000#32))
    (Host.reduce FloatOps.maximumf s (constant S_ .f32 0xFF800000#32) reducesTo_S8x8x16x4x16x768_S8x8x16x4x16_d5 h_S_)

/-- The exponentials of the scores less the greatest. -/
def expo (s : FVec Ideal S8x8x16x4x16x768 .f32) (g : FVec Ideal S8x8x16x4x16 .f32) : FVec Ideal S8x8x16x4x16x768 .f32 :=
  Host.exp (subf s (broadcastInDim S8x8x16x4x16x768 ![0, 1, 2, 3, 4, 5] bcast_S8x8x16x4x16x1_S8x8x16x4x16x768_0_1_2_3_4_5
    (broadcastInDim S8x8x16x4x16x1 ![0, 1, 2, 3, 4] bcast_S8x8x16x4x16_S8x8x16x4x16x1_0_1_2_3_4 g)))

/-- The weights: each exponential over the sum of its row. -/
def weights (e : FVec Ideal S8x8x16x4x16x768 .f32) : FVec Ideal S8x8x16x4x16x768 .f32 :=
  Host.divf e (broadcastInDim S8x8x16x4x16x768 ![0, 1, 2, 3, 4, 5] bcast_S8x8x16x4x16x1_S8x8x16x4x16x768_0_1_2_3_4_5
    (broadcastInDim S8x8x16x4x16x1 ![0, 1, 2, 3, 4] bcast_S8x8x16x4x16_S8x8x16x4x16x1_0_1_2_3_4
      (Host.reduceAdd e (constant S_ .f32 0x00000000#32) reducesTo_S8x8x16x4x16x768_S8x8x16x4x16_d5 h_S_)))

/-- The two weighted sums, added, as tokens by lanes. -/
def mix (p : FVec Ideal S8x8x16x4x16x768 .f32) (vb : FVec Ideal S8x16x8x4x32x8x64 .f32) (cv : FVec Ideal S8x1x512x8x64 .f32) :
    FVec Ideal S8192x512 .bf16 :=
  truncf .bf16 (shapeCast _ (shapeCast _ (addf
    (transpose S8x16x4x16x8x64 [0, 1, 2, 5, 3, 4]
      (Host.dotGeneral dot_S8x16x8x4x32x8x64_S8x8x16x4x16x8x32_S8x16x4x8x64x16_24_56_6_4_0135_0231 none vb
        (shapeCast _ (extractStridedSlice S8x8x16x4x16x256 ![0, 0, 0, 0, 0, 0] p
          slices_S8x8x16x4x16x768_S8x8x16x4x16x256_0_0_0_0_0_0) shapeCasts_S8x8x16x4x16x256_S8x8x16x4x16x8x32))
      transposes_S8x16x4x8x64x16_S8x16x4x16x8x64_0_1_2_5_3_4)
    (transpose S8x16x4x16x8x64 [0, 3, 4, 5, 1, 2]
      (Host.dotGeneral dot_S8x512x8x64_S8x8x16x4x16x512_S8x8x64x16x4x16_1_5_3_234_02_01 none
        (shapeCast _ cv shapeCasts_S8x1x512x8x64_S8x512x8x64)
        (extractStridedSlice S8x8x16x4x16x512 ![0, 0, 0, 0, 0, 256] p slices_S8x8x16x4x16x768_S8x8x16x4x16x512_0_0_0_0_0_256))
      transposes_S8x8x64x16x4x16_S8x16x4x16x8x64_0_3_4_5_1_2)) shapeCasts_S8x16x4x16x8x64_S8x1024x8x64)
    shapeCasts_S8x1024x8x64_S8192x512) bitsLt_bf16_f32

/-- The reference's result, composed of its stages. -/
def result (q k v : FVec Ideal S12288x512 .f32) (ck cv : FVec Ideal S8x1x512x8x64 .f32) (rpb : FVec Ideal S1x8x15x31 .f32) :
    FVec Ideal S8192x512 .bf16 :=
  mix (weights (expo (scores (bandScores q k rpb) (ctxScores q ck)) (greatest (scores (bandScores q k rpb) (ctxScores q ck)))))
    (band v) cv

/-- What the reference's run leaves is that composition of its arguments. -/
theorem out_eq (m : (ℓ : Loc nD τ sig) → Buf (Elt Ideal) ℓ) (c : Dev nD) :
    Value.res_main_v78 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  rfl

end Cert.Lat.Ref

end
-- ==== Proof.Lat.Ref.lean ====
/- The reference read at an index: its scores, its softmax and its two weighted sums, as a softmax that divides first
   over the 8 × 32 keys of a query's band and the 512 context keys. -/
module

public import proofs.«01_k».proof.Proof.Lat.RefStages
public import proofs.«01_k».proof.Proof.Lat.Softmax

@[expose] public section

set_option maxRecDepth 16384

noncomputable section

namespace Cert.Lat.Ref

open Cert.ReferenceIdeal Cert.ReferenceIdeal.Gen Idealize.ShloMosaic

/-- The row of the arguments that holds the token at grid row `r`, column `x` of sample `b`. -/
def tok (b r x : ℕ) (hb : b < 8) (hr : r < 16) (hx : x < 64) : Fin 12288 := ⟨4096 + b * 1024 + r * 64 + x, by omega⟩

/-- The lane of head `h` that holds component `d`. -/
def lane (h : Fin 8) (d : Fin 64) : Fin 512 := ⟨h * 64 + d, by omega⟩

/-- The row of the band that query row `r` reads at place `i`, and the column that block `j` reads at place `k`. -/
def bandTok (b : Fin 8) (r : Fin 16) (i : Fin 8) (j : Fin 4) (k : Fin 32) : Fin 12288 :=
  tok b (rowStart r + i) (bandStart j + k) b.isLt (rowStart_lt r i) (bandStart_lt j k)

/-- The row of the query at grid row `r`, column `16 j + x`. -/
def qTok (b : Fin 8) (r : Fin 16) (j : Fin 4) (x : Fin 16) : Fin 12288 := tok b r (16 * j + x) b.isLt r.isLt (by omega)

theorem band_at (x : FVec Ideal S12288x512 .f32) (b : Fin 8) (r : Fin 16) (i : Fin 8) (j : Fin 4) (k : Fin 32) (h : Fin 8)
    (d : Fin 64) : band x (ix7 b r i j k h d) = x (ix2 (bandTok b r i j k) (lane h d)) := by
  unfold band
  rw [gatherCol_at _ _ _ _ _ _ _ _ _ _ (bandStart_lt j k) (colT_at j k),
    gatherRow_at _ _ _ _ _ _ _ _ _ (rowStart_lt r i) (rowT_at r i)]
  pointwise []
  exact congrArg (fun n => x (ix2 n (lane h d))) (Fin.ext (by simp only [bandTok, tok]; omega))

theorem queries_at (x : FVec Ideal S12288x512 .f32) (b : Fin 8) (r : Fin 16) (j : Fin 4) (q : Fin 16) (h : Fin 8)
    (d : Fin 64) : queries x (ix6 b r j q h d) = x (ix2 (qTok b r j q) (lane h d)) := by
  pointwise [queries]
  exact congrArg (fun n => x (ix2 n (lane h d))) (Fin.ext (by simp only [qTok, tok]; omega))

/-- The bias of a key of the band, ⊥ where the query does not see it. -/
def biasAt (rpb : FVec Ideal S1x8x15x31 .f32) (h : Fin 8) (r : Fin 16) (i : Fin 8) (x y : ℕ) : EReal :=
  if sees x y then rpb (ix4 (0 : Fin 1) h (⟨rowRel r i, rowRel_lt r i⟩ : Fin 15) (⟨colRel x y, colRel_lt x y⟩ : Fin 31))
  else ⊥

theorem negInf : Ideal.ofBits .f32 0xFF800000#32 = (⊥ : EReal) := by
  simp [Ideal.ofBits, Ideal.ieee]

theorem bias_at (rpb : FVec Ideal S1x8x15x31 .f32) (h : Fin 8) (r : Fin 16) (j : Fin 4) (q : Fin 16) (i : Fin 8) (k : Fin 32) :
    bias rpb (ix6 h r j q i k) = biasAt rpb h r i (16 * j + q) (bandStart j + k) := by
  pointwise [bias]
  rw [gatherBias_at _ _ _ _ _ _ _ _ _ _ (rowRel_lt r i) (colRel_lt _ _) (biasT_row r j q i k) (biasT_col r j q i k),
    show lit2 (S4x16x32.rowMajor (ix3 j q k)) = _ from
      (congrArg lit2 (Fin.ext (rowMajor_val3 (ix3 j q k) 512 32 rfl rfl))).trans (lit2_eq j q k)]
  unfold biasAt Scalar.select
  by_cases hs : sees (16 * j + q) (bandStart j + k)
  · rw [if_pos hs, if_pos hs]
    pointwise []
    exact if_pos rfl
  · rw [if_neg hs, if_neg hs]
    exact negInf

/-- One key's score in the band. -/
def winScore (q k : FVec Ideal S12288x512 .f32) (rpb : FVec Ideal S1x8x15x31 .f32) (b h : Fin 8) (r : Fin 16) (j : Fin 4)
    (x : Fin 16) (i : Fin 8) (y : Fin 32) : EReal :=
  (∑ d, q (ix2 (qTok b r j x) (lane h d)) * k (ix2 (bandTok b r i j y) (lane h d))) * Ideal.ofBits .f32 0x3E000000#32
    + biasAt rpb h r i (16 * j + x) (bandStart j + y)

/-- One context key's score. -/
def ctxScore (q : FVec Ideal S12288x512 .f32) (ck : FVec Ideal S8x1x512x8x64 .f32) (b h : Fin 8) (r : Fin 16) (j : Fin 4)
    (x : Fin 16) (c : Fin 512) : EReal :=
  (∑ d, q (ix2 (qTok b r j x) (lane h d)) * ck (ix5 b (0 : Fin 1) c h d)) * Ideal.ofBits .f32 0x3E000000#32

theorem bandScores_at (q k : FVec Ideal S12288x512 .f32) (rpb : FVec Ideal S1x8x15x31 .f32)
    (b h : Fin 8) (r : Fin 16) (j : Fin 4) (x : Fin 16) (i : Fin 8) (y : Fin 32) :
    bandScores q k rpb (ix7 b h r j x i y) = winScore q k rpb b h r j x i y := by
  pointwise [bandScores]
  simp only [queries_at, band_at, bias_at]
  rfl

theorem ctxScores_at (q : FVec Ideal S12288x512 .f32) (ck : FVec Ideal S8x1x512x8x64 .f32)
    (b h : Fin 8) (r : Fin 16) (j : Fin 4) (x : Fin 16) (c : Fin 512) :
    ctxScores q ck (ix6 b h r j x c) = ctxScore q ck b h r j x c := by
  pointwise [ctxScores]
  simp only [queries_at]
  rfl

/-- The entries that a reduction along the last of six axes gathers. -/
theorem fiber {n0 n1 n2 n3 n4 n5 : ℕ} (h : (⟨6, ![n0, n1, n2, n3, n4, n5]⟩ : Shape).ReducesTo [5] ⟨5, ![n0, n1, n2, n3, n4]⟩)
    (a0 : Fin n0) (a1 : Fin n1) (a2 : Fin n2) (a3 : Fin n3) (a4 : Fin n4) (i : (⟨6, ![n0, n1, n2, n3, n4, n5]⟩ : Shape).Idx) :
    h.drop i = ix5 a0 a1 a2 a3 a4 ↔ ∃ k : Fin n5, ix6 a0 a1 a2 a3 a4 k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem reduceMax_at {n0 n1 n2 n3 n4 n5 : ℕ}
    (h : (⟨6, ![n0, n1, n2, n3, n4, n5]⟩ : Shape).ReducesTo [5] ⟨5, ![n0, n1, n2, n3, n4]⟩)
    (s : (⟨6, ![n0, n1, n2, n3, n4, n5]⟩ : Shape).Idx → Ideal .f32) (z : S_.Idx → Ideal .f32)
    (hz : z (Shape.Idx.first h_S_) = (⊥ : EReal))
    (a0 : Fin n0) (a1 : Fin n1) (a2 : Fin n2) (a3 : Fin n3) (a4 : Fin n4) :
    Host.reduce (FloatOps.maximumf : Ideal .f32 → Ideal .f32 → Ideal .f32) s z h h_S_ (ix5 a0 a1 a2 a3 a4)
      = top fun k => s (ix6 a0 a1 a2 a3 a4 k) := by
  show Host.reduce (max : EReal → EReal → EReal) s z h h_S_ (ix5 a0 a1 a2 a3 a4) = _
  rw [Host.reduce_eq_fold, hz]
  exact Finset.fold_filter_eq_fold_of_fiber max _ (fun k : Fin n5 => ix6 a0 a1 a2 a3 a4 k) (fun _ _ e => congrFun e 5)
    (fiber h a0 a1 a2 a3 a4) ⊥ s

theorem reduceSum_at {n0 n1 n2 n3 n4 n5 : ℕ}
    (h : (⟨6, ![n0, n1, n2, n3, n4, n5]⟩ : Shape).ReducesTo [5] ⟨5, ![n0, n1, n2, n3, n4]⟩)
    (s : (⟨6, ![n0, n1, n2, n3, n4, n5]⟩ : Shape).Idx → EReal)
    (a0 : Fin n0) (a1 : Fin n1) (a2 : Fin n2) (a3 : Fin n3) (a4 : Fin n4) :
    Ideal.hostReduceAdd h s 0 (ix5 a0 a1 a2 a3 a4) = ∑ k, s (ix6 a0 a1 a2 a3 a4 k) :=
  (zero_add _).trans (Finset.sum_filter_eq_sum_of_fiber _ (fun k : Fin n5 => ix6 a0 a1 a2 a3 a4 k)
    (fun _ _ e => congrFun e 5) (fiber h a0 a1 a2 a3 a4) s)

theorem max_bot_at (y : FVec Ideal S8x8x16x4x16 .f32) (i : S8x8x16x4x16.Idx) :
    maximumf (broadcastInDim S8x8x16x4x16 ![] bcast_S_S8x8x16x4x16 (constant S_ .f32 0xFF800000#32)) y i = y i := by
  show max (Ideal.ofBits .f32 0xFF800000#32) (y i) = y i
  rw [negInf]
  exact max_eq_right bot_le

theorem greatest_at (s : FVec Ideal S8x8x16x4x16x768 .f32) (b h : Fin 8) (r : Fin 16) (j : Fin 4) (x : Fin 16) :
    greatest s (ix5 b h r j x) = top fun a => s (ix6 b h r j x a) := by
  unfold greatest
  rw [max_bot_at]
  exact reduceMax_at reducesTo_S8x8x16x4x16x768_S8x8x16x4x16_d5 s (constant (F := Ideal) S_ .f32 0xFF800000#32) negInf b h r j x

theorem expo_at (s : FVec Ideal S8x8x16x4x16x768 .f32) (g : FVec Ideal S8x8x16x4x16 .f32) (b h : Fin 8) (r : Fin 16) (j : Fin 4) (x : Fin 16) (a : Fin 768) :
    expo s g (ix6 b h r j x a) = Ideal.exp (s (ix6 b h r j x a) - g (ix5 b h r j x)) := by
  pointwise [expo]

theorem weights_at (e : FVec Ideal S8x8x16x4x16x768 .f32) (b h : Fin 8) (r : Fin 16) (j : Fin 4) (x : Fin 16) (a : Fin 768) :
    weights e (ix6 b h r j x a) = Ideal.div (e (ix6 b h r j x a)) (∑ a, e (ix6 b h r j x a)) := by
  pointwise [weights]
  exact congrArg _ (reduceSum_at reducesTo_S8x8x16x4x16x768_S8x8x16x4x16_d5 e b h r j x)

/-- The place of a band key, and of a context key, in the row of scores. -/
def atBand (p : Fin 8 × Fin 32) : Fin 768 := ⟨p.1 * 32 + p.2, by omega⟩
def atCtx (c : Fin 512) : Fin 768 := ⟨256 + c, by omega⟩

/-- A row of scores is its band and its context. -/
def row : (Fin 8 × Fin 32) ⊕ Fin 512 ≃ Fin 768 where
  toFun := Sum.elim atBand atCtx
  invFun a := if h : a.val < 256 then .inl (⟨a / 32, by omega⟩, ⟨a % 32, by omega⟩) else .inr ⟨a - 256, by omega⟩
  left_inv := by
    rintro (⟨i, k⟩ | c)
    · show (if h : i.val * 32 + k.val < 256 then _ else _) = _
      rw [dif_pos (by omega)]
      exact congrArg Sum.inl (Prod.ext (Fin.ext (show (i.val * 32 + k.val) / 32 = i.val by omega))
        (Fin.ext (show (i.val * 32 + k.val) % 32 = k.val by omega)))
    · show (if h : 256 + c.val < 256 then _ else _) = _
      rw [dif_neg (by omega)]
      exact congrArg Sum.inr (Fin.ext (show 256 + c.val - 256 = c.val by omega))
  right_inv := by
    intro a
    by_cases h : a.val < 256
    · simp only [dif_pos h, Sum.elim_inl]; exact Fin.ext (show a.val / 32 * 32 + a.val % 32 = a.val by omega)
    · simp only [dif_neg h, Sum.elim_inr]; exact Fin.ext (show 256 + (a.val - 256) = a.val by omega)

theorem row_sum (f : Fin 768 → EReal) : ∑ a, f a = (∑ p, f (atBand p)) + ∑ c, f (atCtx c) := by
  rw [← row.sum_comp, Fintype.sum_sum_type]; rfl

theorem row_top (f : Fin 768 → EReal) : top f = max (top fun p => f (atBand p)) (top fun c => f (atCtx c)) := by
  refine le_antisymm (top_le fun a => ?_) (max_le (top_le fun p => le_top f _) (top_le fun c => le_top f _))
  obtain ⟨p | c, rfl⟩ := row.surjective a
  · exact (le_top (fun p => f (atBand p)) p).trans (le_max_left _ _)
  · exact (le_top (fun c => f (atCtx c)) c).trans (le_max_right _ _)

theorem scores_band (s : FVec Ideal S8x8x16x4x16x8x32 .f32) (s' : FVec Ideal S8x8x16x4x16x512 .f32)
    (b h : Fin 8) (r : Fin 16) (j : Fin 4) (x : Fin 16) (p : Fin 8 × Fin 32) :
    scores s s' (ix6 b h r j x (atBand p)) = s (ix7 b h r j x p.1 p.2) := by
  obtain ⟨i, k⟩ := p
  unfold atBand
  pointwise [scores]
  rw [dif_pos (by omega)]

theorem scores_ctx (s : FVec Ideal S8x8x16x4x16x8x32 .f32) (s' : FVec Ideal S8x8x16x4x16x512 .f32)
    (b h : Fin 8) (r : Fin 16) (j : Fin 4) (x : Fin 16) (c : Fin 512) :
    scores s s' (ix6 b h r j x (atCtx c)) = s' (ix6 b h r j x c) := by
  unfold atCtx
  pointwise [scores]

/-- The row of the result that holds the token at grid row `r`, column `16 j + x` of sample `b`. -/
def outTok (b : Fin 8) (r : Fin 16) (j : Fin 4) (x : Fin 16) : Fin 8192 := ⟨b * 1024 + r * 64 + 16 * j + x, by omega⟩

theorem mix_at (p : FVec Ideal S8x8x16x4x16x768 .f32) (vb : FVec Ideal S8x16x8x4x32x8x64 .f32) (cv : FVec Ideal S8x1x512x8x64 .f32)
    (b h : Fin 8) (r : Fin 16) (j : Fin 4) (x : Fin 16) (d : Fin 64) :
    mix p vb cv (ix2 (outTok b r j x) (lane h d))
      = (∑ a : Fin 8 × Fin 32, p (ix6 b h r j x (atBand a)) * vb (ix7 b r a.1 j a.2 h d))
        + ∑ c, p (ix6 b h r j x (atCtx c)) * cv (ix5 b (0 : Fin 1) c h d) := by
  rw [Fintype.sum_prod_type]
  unfold outTok lane
  pointwise [mix]
  exact congrArg₂ _ (Finset.sum_congr rfl fun _ _ => Finset.sum_congr rfl fun _ _ => mul_comm _ _)
    (Finset.sum_congr rfl fun _ _ => mul_comm _ _)

/-- The reference's result at one lane of one token. -/
theorem result_at (q k v : FVec Ideal S12288x512 .f32) (ck cv : FVec Ideal S8x1x512x8x64 .f32) (rpb : FVec Ideal S1x8x15x31 .f32)
    (b h : Fin 8) (r : Fin 16) (j : Fin 4) (x : Fin 16) (d : Fin 64) :
    result q k v ck cv rpb (ix2 (outTok b r j x) (lane h d))
      = firstDiv (fun p : Fin 8 × Fin 32 => winScore q k rpb b h r j x p.1 p.2)
          (fun p => v (ix2 (bandTok b r p.1 j p.2) (lane h d)))
          (ctxScore q ck b h r j x) (fun c => cv (ix5 b (0 : Fin 1) c h d)) := by
  unfold result
  rw [mix_at]
  simp only [weights_at, row_sum, expo_at, greatest_at, row_top, scores_band, scores_ctx, bandScores_at, ctxScores_at, band_at]
  rfl

end Cert.Lat.Ref

end
-- ==== Proof.Lat.Equation.lean ====
/- The kernel's result at one lane of one token, and that it is the reference's.

   A query token is named by its sample `b`, its grid row `r` and its grid column `16 j + x`, a lane by its head `h` and
   its component `d`. -/
module

public import proofs.«01_k».proof.Proof.Lat.Entry
public import proofs.«01_k».proof.Proof.Lat.Region
public import proofs.«01_k».proof.Proof.Lat.Ref

@[expose] public section

set_option maxRecDepth 16384

noncomputable section

namespace Cert.Lat.Ker

open Cert.KernelIdeal Cert.KernelIdeal.Gen Idealize.ShloMosaic Idealize.ShloMosaic.TcCoe Cert.Lat
open Cert.Lat.Ref (tok lane qTok bandTok outTok rowStart bandStart colStart rowRel colRel sees winScore ctxScore biasAt)

variable (m : (ℓ : Loc nD τ sig) → Buf (Elt Ideal) ℓ)

/-- The scale is a nonnegative real number. -/
theorem eighth : ∃ s : ℝ, 0 ≤ s ∧ Ideal.ofBits .f32 0x3E000000#32 = (s : EReal) := by
  refine ⟨1 / 8, by norm_num, ?_⟩
  simp [Ideal.ofBits, Ideal.ieee]
  rw [← EReal.coe_mul]
  norm_num

/-- The grid point that computes row `r` of sample `b`. -/
def ptOf (b : Fin 8) (r : Fin 16) : Fin cfg0.N := ⟨8 * (r.val / 4) + b.val, by show _ < 32; omega⟩

theorem ptOf_0 (b : Fin 8) (r : Fin 16) : (grid0.coords (ptOf b r) 0).val = r.val / 4 :=
  (coords_eq (ptOf b r)).1.trans (by show (8 * (r.val / 4) + b.val) / 8 = _; omega)

/-- The token's row in the block of its grid point. -/
def rowOf (r : Fin 16) (j : Fin 4) (x : Fin 16) : Fin 256 := ⟨64 * (r.val % 4) + (16 * j.val + x.val), by omega⟩

theorem lane_div (h : Fin 8) (d : Fin 64) : (lane h d).val / 64 = h.val := by
  show (h.val * 64 + d.val) / 64 = h.val; omega

theorem sameHead_lane (h : Fin 8) (d e : Fin 64) : sameHead (lane h d) e = lane h e :=
  Fin.ext (by show 64 * ((lane h d).val / 64) + e.val = h.val * 64 + e.val; rw [lane_div]; omega)

theorem headOf_lane (h : Fin 8) (d : Fin 64) : headOf (lane h d) = h := Fin.ext (lane_div h d)

/-- The first row of the window of row `r`'s block. -/
def win (r : Fin 16) : ℕ := winRow (r.val / 4)

theorem win_lt (r : Fin 16) (kl : Fin 12) : win r + kl.val < 16 := by unfold win winRow; omega

/-- Key `64 kl + y` of the window. -/
def keyOf (kl : Fin 12) (y : Fin 64) : Fin 768 := ⟨64 * kl.val + y.val, by omega⟩

theorem query_at (c : Dev nD) (b h : Fin 8) (r : Fin 16) (j : Fin 4) (x : Fin 16) (e : Fin 64) :
    iblk m c 0 (ptOf b r) (ix2 (rowOf r j x) (lane h e))
      = arg0 m c (ix2 (qTok b r j x) (lane h e)) * Ideal.ofBits .f32 0x3E000000#32 :=
  (query_block m c (ptOf b r) _ _ (qTok b r j x) (by
    show 4096 + b.val * 1024 + r.val * 64 + (16 * j.val + x.val)
      = (16 + 4 * ((8 * (r.val / 4) + b.val) % 8) + (8 * (r.val / 4) + b.val) / 8) * 256 + (64 * (r.val % 4) + (16 * j.val + x.val))
    omega)).trans (entry_query m c _ _)

theorem tok_eq (c : Dev nD) (b : Fin 8) (r : Fin 16) (kl : Fin 12) (y : Fin 64) :
    (tok b (win r + kl) y b.isLt (win_lt r kl) y.isLt).val
      = (4 + (ptOf b r).val % 8) * 1024 + (winTok (grid0.coords (ptOf b r)) (keyOf kl y)).val := by
  show 4096 + b.val * 1024 + (win r + kl.val) * 64 + y.val
    = (4 + (8 * (r.val / 4) + b.val) % 8) * 1024 + (64 * winRow (grid0.coords (ptOf b r) 0).val + (64 * kl.val + y.val))
  rw [ptOf_0]
  unfold win
  omega

theorem key_at (c : Dev nD) (b : Fin 8) (r : Fin 16) (kl : Fin 12) (y : Fin 64) (l : Fin 512) :
    iblk m c 1 (ptOf b r) (ix2 (winTok (grid0.coords (ptOf b r)) (keyOf kl y)) l)
      = arg1 m c (ix2 (tok b (win r + kl) y b.isLt (win_lt r kl) y.isLt) l) :=
  (key_block m c (ptOf b r) _ _ _ (tok_eq c b r kl y)).trans (congrFun (V_main_arg1 m c) _)

theorem value_at (c : Dev nD) (b : Fin 8) (r : Fin 16) (kl : Fin 12) (y : Fin 64) (l : Fin 512) :
    iblk m c 2 (ptOf b r) (ix2 (winTok (grid0.coords (ptOf b r)) (keyOf kl y)) l)
      = arg2 m c (ix2 (tok b (win r + kl) y b.isLt (win_lt r kl) y.isLt) l) :=
  (value_block m c (ptOf b r) _ _ _ (tok_eq c b r kl y)).trans (congrFun (V_main_arg2 m c) _)

theorem lane_ix (x : FVec Ideal S8x1x512x8x64 .f32) (b : Fin 8) (n : Fin 512) (h : Fin 8) (e : Fin 64) :
    x (ix5 b (0 : Fin 1) n (⟨(lane h e).val / 64, by omega⟩ : Fin 8) (⟨(lane h e).val % 64, by omega⟩ : Fin 64))
      = x (ix5 b (0 : Fin 1) n h e) := by
  have e1 : (⟨(lane h e).val / 64, by omega⟩ : Fin 8) = h := Fin.ext (lane_div h e)
  have e2 : (⟨(lane h e).val % 64, by omega⟩ : Fin 64) = e := Fin.ext (by show (h.val * 64 + e.val) % 64 = e.val; omega)
  rw [e1, e2]

theorem ctxKey_at (c : Dev nD) (b h : Fin 8) (r : Fin 16) (n : Fin 512) (e : Fin 64) :
    iblk m c 3 (ptOf b r) (ix3 (0 : Fin 1) n (lane h e)) = arg3 m c (ix5 b (0 : Fin 1) n h e) :=
  (ctxKey_block m c (ptOf b r) n _ b (by show b.val = (8 * (r.val / 4) + b.val) % 8; omega)).trans
    ((entry_ctxKey m c b n _).trans (lane_ix _ b n h e))

theorem ctxValue_at (c : Dev nD) (b h : Fin 8) (r : Fin 16) (n : Fin 512) (e : Fin 64) :
    iblk m c 4 (ptOf b r) (ix3 (0 : Fin 1) n (lane h e)) = arg4 m c (ix5 b (0 : Fin 1) n h e) :=
  (ctxValue_block m c (ptOf b r) n _ b (by show b.val = (8 * (r.val / 4) + b.val) % 8; omega)).trans
    ((entry_ctxValue m c b n _).trans (lane_ix _ b n h e))

/-- The bias that the kernel keeps for a query and a key of its window: the relative bias where the query's rows and
    columns hold the key, ⊥ elsewhere. -/
def keptAt (rpb : FVec Ideal S1x8x15x31 .f32) (h : Fin 8) (r : Fin 16) (kl : Fin 12) (x y : Fin 64) : EReal :=
  if rowStart r ≤ win r + kl ∧ win r + kl < rowStart r + 8 then
    if sees x y then
      rpb (ix4 (0 : Fin 1) h (⟨relRow (r.val / 4) kl (r.val % 4), relRow_lt _ _ _⟩ : Fin 15) (⟨colRel x y, Ref.colRel_lt x y⟩ : Fin 31))
    else ⊥
  else ⊥

theorem bias_at (c : Dev nD) (b h : Fin 8) (r : Fin 16) (j : Fin 4) (x : Fin 16) (kl : Fin 12) (y : Fin 64) :
    kept (grid0.coords (ptOf b r)) (iblk m c 5 (ptOf b r)) (ix3 h (rowOf r j x) (keyOf kl y))
      = keptAt (arg5 m c) h r kl ⟨16 * j.val + x.val, by omega⟩ y := by
  rw [kept_at _ _ _ h ⟨r.val % 4, by omega⟩ kl ⟨16 * j.val + x.val, by omega⟩ y rfl rfl rfl]
  simp only [ptOf_0]
  rw [inRows_eq ⟨r.val / 4, by omega⟩ ⟨r.val % 4, by omega⟩ kl, table_at, entry_table,
    IdealRules.named_const.ideal_named_scalar _ _ _ _ rfl]
  have el : lowRow (r.val / 4) (r.val % 4) = rowStart r := by
    unfold lowRow rowStart; omega
  show Scalar.select (if lowRow (r.val / 4) (r.val % 4) ≤ win r + kl ∧ win r + kl < lowRow (r.val / 4) (r.val % 4) + 8 then 1#1 else 0#1) _ _ = _
  rw [el]
  unfold keptAt
  by_cases hr : rowStart r ≤ win r + kl ∧ win r + kl < rowStart r + 8
  · rw [if_pos hr, if_pos hr]; rfl
  · rw [if_neg hr, if_neg hr]; rfl

/-- The score of a key of the window. -/
def keyScore (q k : FVec Ideal S12288x512 .f32) (rpb : FVec Ideal S1x8x15x31 .f32) (b h : Fin 8) (r : Fin 16) (j : Fin 4)
    (x : Fin 16) (kl : Fin 12) (y : Fin 64) : EReal :=
  (∑ d, q (ix2 (qTok b r j x) (lane h d)) * k (ix2 (tok b (win r + kl) y b.isLt (win_lt r kl) y.isLt) (lane h d)))
      * Ideal.ofBits .f32 0x3E000000#32
    + keptAt rpb h r kl ⟨16 * j.val + x.val, by omega⟩ y

/-- The window's row and column of a key. -/
def klOf (a : Fin 768) : Fin 12 := ⟨a.val / 64, by omega⟩
def colOf (a : Fin 768) : Fin 64 := ⟨a.val % 64, by omega⟩

theorem keyOf_of (a : Fin 768) : keyOf (klOf a) (colOf a) = a :=
  Fin.ext (by show 64 * (a.val / 64) + a.val % 64 = a.val; omega)

/-- A block at a lane named by its head and its component. -/
theorem block_lane (i : grid0.Coords) (x0 : FVec Ideal S256x512 .bf16) (x1 x2 : FVec Ideal S1024x512 .f32)
    (x3 x4 : FVec Ideal S1x512x512 .f32) (S : S8x256x768.Idx → EReal) (n : Fin 256) (h : Fin 8) (d : Fin 64) :
    blockAt i x0 x1 x2 x3 x4 S (ix2 n (lane h d))
      = lastDiv (fun a => (∑ e, x0 (ix2 n (lane h e)) * x1 (ix2 (winTok i a) (lane h e))) + S (ix3 h n a))
          (fun a => x2 (ix2 (winTok i a) (lane h d)))
          (fun c : Fin 512 => ∑ e, x0 (ix2 n (lane h e)) * x3 (ix3 (0 : Fin 1) c (lane h e)))
          (fun c => x4 (ix3 (0 : Fin 1) c (lane h d))) := by
  show lastDiv (fun a => (∑ e, x0 (ix2 n (sameHead (lane h d) e)) * x1 (ix2 (winTok i a) (sameHead (lane h d) e)))
          + S (ix3 (headOf (lane h d)) n a))
      (fun a => x2 (ix2 (winTok i a) (lane h d)))
      (fun c : Fin 512 => ∑ e, x0 (ix2 n (sameHead (lane h d) e)) * x3 (ix3 (0 : Fin 1) c (sameHead (lane h d) e)))
      (fun c => x4 (ix3 (0 : Fin 1) c (lane h d))) = _
  simp only [sameHead_lane, headOf_lane]

theorem lastDiv_congr {A C : Type} [Fintype A] [Fintype C] {s t v w : A → EReal} {s' t' v' w' : C → EReal}
    (hs : ∀ a, s a = t a) (hv : ∀ a, v a = w a) (hs' : ∀ c, s' c = t' c) (hv' : ∀ c, v' c = w' c) :
    lastDiv s v s' v' = lastDiv t w t' w' := by
  rw [funext hs, funext hv, funext hs', funext hv']

/-- A grid point's block at a lane of a token. -/
theorem point_at (c : Dev nD) (b h : Fin 8) (r : Fin 16) (j : Fin 4) (x : Fin 16) (d : Fin 64) :
    pointAt m c (ptOf b r) (ix2 (rowOf r j x) (lane h d))
      = lastDiv (fun a : Fin 768 => keyScore (arg0 m c) (arg1 m c) (arg5 m c) b h r j x (klOf a) (colOf a))
          (fun a => arg2 m c (ix2 (tok b (win r + klOf a) (colOf a) b.isLt (win_lt r _) (colOf a).isLt) (lane h d)))
          (ctxScore (arg0 m c) (arg3 m c) b h r j x) (fun n => arg4 m c (ix5 b (0 : Fin 1) n h d)) := by
  obtain ⟨s, hs, hs'⟩ := eighth
  unfold pointAt
  rw [block_lane]
  refine lastDiv_congr (fun a => ?_) (fun a => ?_) (fun n => ?_) (fun n => ctxValue_at m c b h r n d)
  · rw [← keyOf_of a, bias_at]
    simp only [query_at, key_at, hs']
    unfold keyScore
    rw [hs', sum_mul_coe _ _ hs, keyOf_of a]
    refine congrArg₂ _ (Finset.sum_congr rfl fun e _ => ?_) rfl
    exact mul_right_comm _ _ _
  · rw [← keyOf_of a, value_at, keyOf_of a]
  · unfold ctxScore
    simp only [query_at, ctxKey_at, hs']
    rw [sum_mul_coe _ _ hs]
    exact Finset.sum_congr rfl fun e _ => mul_right_comm _ _ _

/-- The window's key that is place `(i, k)` of the token's band. -/
def bandKey (r : Fin 16) (j : Fin 4) (p : Fin 8 × Fin 32) : Fin 768 :=
  keyOf ⟨rowStart r + p.1.val - win r, by unfold rowStart win winRow; omega⟩ ⟨bandStart j + p.2.val, Ref.bandStart_lt j p.2⟩

theorem win_le (r : Fin 16) : win r ≤ rowStart r := by unfold rowStart win winRow; omega

theorem klOf_band (r : Fin 16) (j : Fin 4) (p : Fin 8 × Fin 32) : win r + (klOf (bandKey r j p)).val = rowStart r + p.1.val := by
  have := win_le r
  have h2 := Ref.bandStart_lt j p.2
  show win r + (64 * (rowStart r + p.1.val - win r) + (bandStart j + p.2.val)) / 64 = _
  omega

theorem colOf_band (r : Fin 16) (j : Fin 4) (p : Fin 8 × Fin 32) : (colOf (bandKey r j p)).val = bandStart j + p.2.val := by
  have h2 := Ref.bandStart_lt j p.2
  show (64 * (rowStart r + p.1.val - win r) + (bandStart j + p.2.val)) % 64 = _
  omega

theorem bandKey_injective (r : Fin 16) (j : Fin 4) : Function.Injective (bandKey r j) := by
  intro p p' h
  have h1 := klOf_band r j p
  have h2 := colOf_band r j p
  rw [h] at h1 h2
  rw [klOf_band] at h1
  rw [colOf_band] at h2
  exact Prod.ext (Fin.ext (by omega)) (Fin.ext (by omega))

theorem bandTok_eq (b : Fin 8) (r : Fin 16) (j : Fin 4) (p : Fin 8 × Fin 32) :
    tok b (win r + klOf (bandKey r j p)) (colOf (bandKey r j p)) b.isLt (win_lt r _) (colOf _).isLt = bandTok b r p.1 j p.2 :=
  Fin.ext (by
    show 4096 + b.val * 1024 + (win r + (klOf (bandKey r j p)).val) * 64 + (colOf (bandKey r j p)).val
      = 4096 + b.val * 1024 + (rowStart r + p.1.val) * 64 + (bandStart j + p.2.val)
    rw [klOf_band, colOf_band])

theorem keptAt_band (rpb : FVec Ideal S1x8x15x31 .f32) (h : Fin 8) (r : Fin 16) (j : Fin 4) (x : Fin 16) (p : Fin 8 × Fin 32) :
    keptAt rpb h r (klOf (bandKey r j p)) ⟨16 * j.val + x.val, by omega⟩ (colOf (bandKey r j p))
      = biasAt rpb h r p.1 (16 * j + x) (bandStart j + p.2) := by
  have h1 := klOf_band r j p
  unfold keptAt biasAt
  rw [if_pos (by rw [h1]; omega)]
  have e : relRow (r.val / 4) (klOf (bandKey r j p)) (r.val % 4) = rowRel r p.1 := by
    unfold relRow rowRel
    have h3 : winRow (r.val / 4) + (klOf (bandKey r j p)).val = rowStart r + p.1.val := h1
    have h4 : rowStart r ≤ r.val ∧ rowStart r + p.1.val + 7 - r.val ≤ 14 := by unfold rowStart; omega
    omega
  simp only [colOf_band, e]

/-- A key of the window that is in no place of the token's band is masked. -/
theorem keptAt_off (rpb : FVec Ideal S1x8x15x31 .f32) (h : Fin 8) (r : Fin 16) (j : Fin 4) (x : Fin 16) (a : Fin 768)
    (ha : ∀ p, bandKey r j p ≠ a) : keptAt rpb h r (klOf a) ⟨16 * j.val + x.val, by omega⟩ (colOf a) = ⊥ := by
  unfold keptAt
  by_cases hr : rowStart r ≤ win r + klOf a ∧ win r + klOf a < rowStart r + 8
  · rw [if_pos hr]
    by_cases hc : sees (16 * j.val + x.val) (colOf a)
    · exfalso
      have hb : bandStart j ≤ (colOf a).val ∧ (colOf a).val < bandStart j + 32 := by
        unfold sees colStart at hc; unfold bandStart; omega
      refine ha (⟨win r + (klOf a).val - rowStart r, by omega⟩, ⟨(colOf a).val - bandStart j, by omega⟩) ?_
      have := win_le r
      refine Eq.trans (Fin.ext ?_) (keyOf_of a)
      show 64 * (rowStart r + (win r + (klOf a).val - rowStart r) - win r) + (bandStart j + ((colOf a).val - bandStart j))
        = 64 * (klOf a).val + (colOf a).val
      omega
    · exact if_neg hc
  · exact if_neg hr

/-- What the precondition says of the arrays. -/
structure Finite (q k : FVec Ideal S12288x512 .f32) (ck : FVec Ideal S8x1x512x8x64 .f32) (rpb : FVec Ideal S1x8x15x31 .f32) : Prop where
  q : ∀ i, Fin' (q i)
  k : ∀ i, Fin' (k i)
  ck : ∀ i, Fin' (ck i)
  rpb : ∀ i, Fin' (rpb i)

/-- The kernel's result at a lane of a token is the reference's. -/
theorem point_eq (c : Dev nD) (hf : Finite (arg0 m c) (arg1 m c) (arg3 m c) (arg5 m c))
    (b h : Fin 8) (r : Fin 16) (j : Fin 4) (x : Fin 16) (d : Fin 64) :
    pointAt m c (ptOf b r) (ix2 (rowOf r j x) (lane h d))
      = Ref.result (arg0 m c) (arg1 m c) (arg2 m c) (arg3 m c) (arg4 m c) (arg5 m c) (ix2 (outTok b r j x) (lane h d)) := by
  obtain ⟨s, hs, hs'⟩ := eighth
  rw [point_at, Ref.result_at, lastDiv_eq (bandKey r j) (bandKey_injective r j)
    (r := fun p : Fin 8 × Fin 32 => winScore (arg0 m c) (arg1 m c) (arg5 m c) b h r j x p.1 p.2)
    (w := fun p => arg2 m c (ix2 (bandTok b r p.1 j p.2) (lane h d)))]
  · refine lastDiv_eq_firstDiv _ _ _ _ (fun p => ?_) (fun n => ?_) (0 : Fin 512)
    · unfold winScore biasAt
      split_ifs
      · exact ((((Fin'.sum _ fun e => (hf.q _).mul (hf.k _)).mul (hs' ▸ Fin'.coe s))).add (hf.rpb _)).2
      · rw [EReal.add_bot]; exact bot_ne_top
    · exact (Fin'.sum _ fun e => (hf.q _).mul (hf.ck _)).mul (hs' ▸ Fin'.coe s)
  · intro p
    unfold keyScore winScore
    rw [keptAt_band]
    simp only [bandTok_eq]
  · intro p
    simp only [bandTok_eq]
  · intro a ha
    unfold keyScore
    rw [keptAt_off _ h r j x a ha, EReal.add_bot]

/-- The call's result is the reference's function of the arguments. -/
theorem array_result (c : Dev nD) (hf : Finite (arg0 m c) (arg1 m c) (arg3 m c) (arg5 m c)) :
    (dats m 0 c).arrAt 6 cfg0.N
      = Ref.result (arg0 m c) (arg1 m c) (arg2 m c) (arg3 m c) (arg4 m c) (arg5 m c) := by
  rw [array_eq]
  funext n
  have h0 : (n 0).val < 8192 := (n 0).isLt
  have h1 : (n 1).val < 512 := (n 1).isLt
  have e := point_eq m c hf ⟨(n 0).val / 1024, by omega⟩ ⟨(n 1).val / 64, by omega⟩ ⟨(n 0).val % 1024 / 64, by omega⟩
    ⟨(n 0).val % 64 / 16, by omega⟩ ⟨(n 0).val % 16, by omega⟩ ⟨(n 1).val % 64, by omega⟩
  have e0 : lane ⟨(n 1).val / 64, by omega⟩ ⟨(n 1).val % 64, by omega⟩ = n 1 :=
    Fin.ext (by show (n 1).val / 64 * 64 + (n 1).val % 64 = (n 1).val; omega)
  have e1 : outTok ⟨(n 0).val / 1024, by omega⟩ ⟨(n 0).val % 1024 / 64, by omega⟩ ⟨(n 0).val % 64 / 16, by omega⟩
      ⟨(n 0).val % 16, by omega⟩ = n 0 :=
    Fin.ext (by
      show (n 0).val / 1024 * 1024 + (n 0).val % 1024 / 64 * 64 + 16 * ((n 0).val % 64 / 16) + (n 0).val % 16 = (n 0).val
      omega)
  have e2 : ptOf ⟨(n 0).val / 1024, by omega⟩ ⟨(n 0).val % 1024 / 64, by omega⟩ = pointOf (n 0) :=
    Fin.ext (by
      show 8 * ((n 0).val % 1024 / 64 / 4) + (n 0).val / 1024 = 8 * ((n 0).val % 1024 / 256) + (n 0).val / 1024
      omega)
  have e3 : rowOf ⟨(n 0).val % 1024 / 64, by omega⟩ ⟨(n 0).val % 64 / 16, by omega⟩ ⟨(n 0).val % 16, by omega⟩
      = (⟨(n 0).val % 256, Nat.mod_lt _ (by decide)⟩ : Fin 256) :=
    Fin.ext (by
      show 64 * ((n 0).val % 1024 / 64 % 4) + (16 * ((n 0).val % 64 / 16) + (n 0).val % 16) = (n 0).val % 256
      omega)
  rw [e0, e1, e2, e3] at e
  refine e.trans (congrArg _ (funext fun a => ?_))
  match a with
  | ⟨0, _⟩ => rfl
  | ⟨1, _⟩ => rfl

end Cert.Lat.Ker

end
-- ==== Proof.Lat.Finite.lean ====
/- What the precondition gives: the queries, the keys, the context's keys and the relative biases are finite. -/
module

public import proofs.«01_k».proof.Pre_finite_scores
public import proofs.«01_k».proof.Proof.Lat.Equation
public import Idealize.ShloMosaic.Lib.ReduceAll
public import Idealize.ShloMosaic.Lib.Pointwise

@[expose] public section

noncomputable section

namespace Cert.Lat

open Cert.Pre_finite_scores Idealize.ShloMosaic

/-- The side conditions of the precondition's operations. -/
theorem preFacts : Cert.Pre_finite_scores.Facts := by
  constructor <;> decide

theorem posInf : Ideal.ofBits .f32 0x7F800000#32 = (⊤ : EReal) := by
  simp [Ideal.ofBits, Ideal.ieee]

/-- An extended real whose absolute value is below ⊤ is finite. -/
theorem fin_of_abs (x : Ideal .f32) (h : FloatOps.cmpf CmpFPredicate.olt (FloatOps.absf x) (Ideal.ofBits .f32 0x7F800000#32) = 1#1) : Fin' x := by
  rw [posInf] at h
  induction x using EReal.rec with
  | bot => simp [FloatOps.cmpf, FloatOps.absf, Ideal.cmp] at h
  | top => simp [FloatOps.cmpf, FloatOps.absf, Ideal.cmp] at h
  | coe r => exact Fin'.coe r

theorem and_one {a b : BitVec 1} (h : IntOp.andi a b = 1#1) : a = 1#1 ∧ b = 1#1 := by
  revert a b; decide

theorem finite_of_pre [Cert.Pre_finite_scores.Facts] (q k v : FVec Ideal S12288x512 .f32) (ck cv : FVec Ideal S8x1x512x8x64 .f32) (rpb : FVec Ideal S1x8x15x31 .f32)
    (h : fn q k v ck cv rpb = fun _ => 1#1) : Ker.Finite q k ck rpb := by
  have h0 := congrFun h (fun a => a.elim0)
  have h1 := and_one h0
  have h2 := and_one h1.1
  have h3 := and_one h2.1
  haveI : Subsingleton S_.Idx := ⟨fun a b => funext fun i => i.elim0⟩
  exact ⟨fun i => fin_of_abs _ (Host.reduce_andi_all _ _ _ _ _ h3.1 i), fun i => fin_of_abs _ (Host.reduce_andi_all _ _ _ _ _ h3.2 i),
    fun i => fin_of_abs _ (Host.reduce_andi_all _ _ _ _ _ h2.2 i), fun i => fin_of_abs _ (Host.reduce_andi_all _ _ _ _ _ h1.2 i)⟩

end Cert.Lat

end
-- ==== Proof.lean ====
module

public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Proj.Run
public import proofs.«01_k».proof.Proof.Gen.Reference3Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Merge.Arrays
public import proofs.«01_k».proof.Proof.Merge.Ref
public import proofs.«01_k».proof.Proof.Proj.Value
public import proofs.«01_k».proof.Proof.Lat.Finite
public import proofs.«01_k».proof.Proof.Lat.RefStages
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

/-- At exact arithmetic the kernel's result is the reference's, where the scores' arrays are finite. -/
theorem value : algebraic_KernelIdeal_ReferenceIdeal_pre_finite_scores (hKernelIdeal := Cert.KernelIdeal.Gen.facts)
    (hReferenceIdeal := Cert.ReferenceIdeal.Gen.facts) (hPre_finite_scores := Cert.Lat.preFacts) := by
  letI := Cert.Lat.preFacts
  intro m g m' g' hpre hargs
  refine ⟨fun c => Cert.Lat.Ref.result (Cert.Lat.Ker.arg0 m c) (Cert.Lat.Ker.arg1 m c) (Cert.Lat.Ker.arg2 m c) (Cert.Lat.Ker.arg3 m c)
    (Cert.Lat.Ker.arg4 m c) (Cert.Lat.Ker.arg5 m c), ?_, ?_⟩
  · refine (θ_run _ _ _).mono (fun r h c => ⟨?_, (h c).2⟩) (Cert.KernelIdeal.Value.run_blocks m g)
    exact (h c).1.trans (Cert.Lat.Ker.array_result m c (Cert.Lat.finite_of_pre _ _ _ _ _ _ (hpre c)))
  · refine (θ_run _ _ _).mono (fun r h c => ⟨?_, (h c).2⟩) (Cert.ReferenceIdeal.Value.run m' g')
    refine ((h c).1.trans (Cert.Lat.Ref.out_eq m' c)).trans ?_
    obtain ⟨e0, e1, e2, e3, e4, e5⟩ := hargs c
    rw [e0, e1, e2, e3, e4, e5]
    rfl

/-- The reference runs, leaves its arguments as they were and declares no semaphore. -/
theorem frame_ref : quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- The second reference runs, leaves its arguments as they were and declares no semaphore. -/
theorem frame_ref2 : quiescent_Reference2Ideal (hReference2Ideal := Cert.Reference2Ideal.Gen.facts) := fun m g _ =>
  (θ_run (Cert.Reference2Ideal.defs (F := Ideal)) _ _).mono
    (fun r h => ⟨fun c => (h c).2.2.2.2.2.2.2.2.2, sem_eq_zero_of_no_sems (by decide) r.2⟩) (Cert.Reference2Ideal.Value.run m g)

open Cert.Proj in
/-- The modulation and input projection, and its reference, end with equal projected arrays and equal new caches. -/
theorem value2 : algebraic_Kernel2Ideal_Reference2Ideal (hKernel2Ideal := Cert.Kernel2Ideal.Gen.facts)
    (hReference2Ideal := Cert.Reference2Ideal.Gen.facts) := by
  intro m g m' g' _ hargs
  have args : ∀ c : Dev Cert.Kernel2Ideal.nD, Ref.arg0 m' c = Ker.arg0 m c ∧ Ref.arg1 m' c = Ker.arg1 m c ∧ Ref.arg2 m' c = Ker.arg2 m c ∧ Ref.arg3 m' c = Ker.arg3 m c ∧ Ref.arg4 m' c = Ker.arg4 m c ∧ Ref.arg5 m' c = Ker.arg5 m c ∧ Ref.arg6 m' c = Ker.arg6 m c := hargs
  refine ⟨fun c => Ref.h (Ker.arg0 m c) (Ker.arg1 m c) (Ker.arg2 m c) (Ker.arg3 m c) (Ker.arg4 m c) (Ker.arg5 m c) (Ker.arg6 m c),
    fun c => Ref.b (Ker.arg0 m c) (Ker.arg1 m c) (Ker.arg2 m c) (Ker.arg3 m c) (Ker.arg4 m c) (Ker.arg5 m c) (Ker.arg6 m c),
    fun c => Ref.q (Ker.arg0 m c) (Ker.arg1 m c) (Ker.arg2 m c) (Ker.arg3 m c) (Ker.arg4 m c) (Ker.arg5 m c) (Ker.arg6 m c),
    fun c => Ref.k (Ker.arg0 m c) (Ker.arg1 m c) (Ker.arg2 m c) (Ker.arg3 m c) (Ker.arg4 m c) (Ker.arg5 m c) (Ker.arg6 m c),
    fun c => Ref.v (Ker.arg0 m c) (Ker.arg1 m c) (Ker.arg2 m c) (Ker.arg3 m c) (Ker.arg4 m c) (Ker.arg5 m c) (Ker.arg6 m c),
    fun c => Ref.gc (Ker.arg0 m c) (Ker.arg1 m c) (Ker.arg2 m c) (Ker.arg3 m c) (Ker.arg4 m c) (Ker.arg5 m c) (Ker.arg6 m c),
    fun c => Ref.gn (Ker.arg0 m c) (Ker.arg1 m c) (Ker.arg2 m c) (Ker.arg3 m c) (Ker.arg4 m c) (Ker.arg5 m c) (Ker.arg6 m c),
    fun c => Ref.cacheK (Ker.arg0 m c) (Ker.arg3 m c) (Ker.arg4 m c) (Ker.arg5 m c) (Ker.arg6 m c),
    fun c => Ref.cacheV (Ker.arg0 m c) (Ker.arg3 m c) (Ker.arg4 m c) (Ker.arg5 m c) (Ker.arg6 m c), ?_, ?_⟩
  · refine (θ_run (Cert.Kernel2Ideal.defs (F := Ideal)) _ _).mono (fun r h c => ?_) (Ker.run m g)
    obtain ⟨h0, h1, h2, h3, h4, h5, h6, h7, h8, rest⟩ := h c
    exact ⟨h0.trans (Ker.result0 m g c), h1.trans (Ker.result1 m g c), h2.trans (Ker.result2 m g c), h3.trans (Ker.result3 m g c), h4.trans (Ker.result4 m g c), h5.trans (Ker.result5 m g c), h6.trans (Ker.result6 m g c), h7.trans (Ker.result7 m g c), h8.trans (Ker.result8 m g c), rest⟩
  · refine (θ_run (Cert.Reference2Ideal.defs (F := Ideal)) _ _).mono (fun r h c => ?_) (Cert.Reference2Ideal.Value.run m' g')
    obtain ⟨h0, h1, h2, h3, h4, h5, h6, h7, h8, rest⟩ := h c
    obtain ⟨e0, e1, e2, e3, e4, e5, e6⟩ := args c
    have g0 : Ref.h (Ref.arg0 m' c) (Ref.arg1 m' c) (Ref.arg2 m' c) (Ref.arg3 m' c) (Ref.arg4 m' c) (Ref.arg5 m' c) (Ref.arg6 m' c) = Ref.h (Ker.arg0 m c) (Ker.arg1 m c) (Ker.arg2 m c) (Ker.arg3 m c) (Ker.arg4 m c) (Ker.arg5 m c) (Ker.arg6 m c) := by rw [e0, e1, e2, e3, e4, e5, e6]
    have g1 : Ref.b (Ref.arg0 m' c) (Ref.arg1 m' c) (Ref.arg2 m' c) (Ref.arg3 m' c) (Ref.arg4 m' c) (Ref.arg5 m' c) (Ref.arg6 m' c) = Ref.b (Ker.arg0 m c) (Ker.arg1 m c) (Ker.arg2 m c) (Ker.arg3 m c) (Ker.arg4 m c) (Ker.arg5 m c) (Ker.arg6 m c) := by rw [e0, e1, e2, e3, e4, e5, e6]
    have g2 : Ref.q (Ref.arg0 m' c) (Ref.arg1 m' c) (Ref.arg2 m' c) (Ref.arg3 m' c) (Ref.arg4 m' c) (Ref.arg5 m' c) (Ref.arg6 m' c) = Ref.q (Ker.arg0 m c) (Ker.arg1 m c) (Ker.arg2 m c) (Ker.arg3 m c) (Ker.arg4 m c) (Ker.arg5 m c) (Ker.arg6 m c) := by rw [e0, e1, e2, e3, e4, e5, e6]
    have g3 : Ref.k (Ref.arg0 m' c) (Ref.arg1 m' c) (Ref.arg2 m' c) (Ref.arg3 m' c) (Ref.arg4 m' c) (Ref.arg5 m' c) (Ref.arg6 m' c) = Ref.k (Ker.arg0 m c) (Ker.arg1 m c) (Ker.arg2 m c) (Ker.arg3 m c) (Ker.arg4 m c) (Ker.arg5 m c) (Ker.arg6 m c) := by rw [e0, e1, e2, e3, e4, e5, e6]
    have g4 : Ref.v (Ref.arg0 m' c) (Ref.arg1 m' c) (Ref.arg2 m' c) (Ref.arg3 m' c) (Ref.arg4 m' c) (Ref.arg5 m' c) (Ref.arg6 m' c) = Ref.v (Ker.arg0 m c) (Ker.arg1 m c) (Ker.arg2 m c) (Ker.arg3 m c) (Ker.arg4 m c) (Ker.arg5 m c) (Ker.arg6 m c) := by rw [e0, e1, e2, e3, e4, e5, e6]
    have g5 : Ref.gc (Ref.arg0 m' c) (Ref.arg1 m' c) (Ref.arg2 m' c) (Ref.arg3 m' c) (Ref.arg4 m' c) (Ref.arg5 m' c) (Ref.arg6 m' c) = Ref.gc (Ker.arg0 m c) (Ker.arg1 m c) (Ker.arg2 m c) (Ker.arg3 m c) (Ker.arg4 m c) (Ker.arg5 m c) (Ker.arg6 m c) := by rw [e0, e1, e2, e3, e4, e5, e6]
    have g6 : Ref.gn (Ref.arg0 m' c) (Ref.arg1 m' c) (Ref.arg2 m' c) (Ref.arg3 m' c) (Ref.arg4 m' c) (Ref.arg5 m' c) (Ref.arg6 m' c) = Ref.gn (Ker.arg0 m c) (Ker.arg1 m c) (Ker.arg2 m c) (Ker.arg3 m c) (Ker.arg4 m c) (Ker.arg5 m c) (Ker.arg6 m c) := by rw [e0, e1, e2, e3, e4, e5, e6]
    have g7 : Ref.cacheK (Ref.arg0 m' c) (Ref.arg3 m' c) (Ref.arg4 m' c) (Ref.arg5 m' c) (Ref.arg6 m' c) = Ref.cacheK (Ker.arg0 m c) (Ker.arg3 m c) (Ker.arg4 m c) (Ker.arg5 m c) (Ker.arg6 m c) := by rw [e0, e3, e4, e5, e6]
    have g8 : Ref.cacheV (Ref.arg0 m' c) (Ref.arg3 m' c) (Ref.arg4 m' c) (Ref.arg5 m' c) (Ref.arg6 m' c) = Ref.cacheV (Ker.arg0 m c) (Ker.arg3 m c) (Ker.arg4 m c) (Ker.arg5 m c) (Ker.arg6 m c) := by rw [e0, e3, e4, e5, e6]
    exact ⟨h0.trans ((Ref.h_eq m' c).trans g0), h1.trans ((Ref.b_eq m' c).trans g1), h2.trans ((Ref.q_eq m' c).trans g2), h3.trans ((Ref.k_eq m' c).trans g3), h4.trans ((Ref.v_eq m' c).trans g4), h5.trans ((Ref.gc_eq m' c).trans g5), h6.trans ((Ref.gn_eq m' c).trans g6), Eq.trans h7 g7, Eq.trans h8 g8, rest⟩

/-- The reference's merge ends, and leaves its arguments. -/
theorem frame_ref3 : quiescent_Reference3Ideal (hReference3Ideal := Cert.Reference3Ideal.Gen.facts) := fun m g _ =>
  (θ_run (Cert.Reference3Ideal.defs (F := Ideal)) _ _).mono
    (fun r h => ⟨fun c => (h c).2.2.2, sem_eq_zero_of_no_sems (by decide) r.2⟩) (Cert.Reference3Ideal.Value.run m g)

open Cert.Merge in
/-- The merge and its reference end with equal normed features, equal modulated features and equal scores. -/
theorem value3 : algebraic_Kernel3Ideal_Reference3Ideal (hKernel3Ideal := Cert.Kernel3Ideal.Gen.facts)
    (hReference3Ideal := Cert.Reference3Ideal.Gen.facts) := by
  intro m g m' g' _ hargs
  have same : ∀ c : Dev Cert.Kernel3Ideal.nD, Ref.ins (StableHlo.launchContents m' c) = Ker.ins m c := by
    intro c
    have args : Ref.a0 (StableHlo.launchContents m' c) = Ker.arg0 m c ∧ Ref.a1 (StableHlo.launchContents m' c) = Ker.arg1 m c ∧ Ref.a2 (StableHlo.launchContents m' c) = Ker.arg2 m c ∧ Ref.a3 (StableHlo.launchContents m' c) = Ker.arg3 m c ∧ Ref.a4 (StableHlo.launchContents m' c) = Ker.arg4 m c ∧ Ref.a5 (StableHlo.launchContents m' c) = Ker.arg5 m c ∧ Ref.a6 (StableHlo.launchContents m' c) = Ker.arg6 m c ∧ Ref.a7 (StableHlo.launchContents m' c) = Ker.arg7 m c ∧ Ref.a8 (StableHlo.launchContents m' c) = Ker.arg8 m c ∧ Ref.a9 (StableHlo.launchContents m' c) = Ker.arg9 m c ∧ Ref.a10 (StableHlo.launchContents m' c) = Ker.arg10 m c ∧ Ref.a11 (StableHlo.launchContents m' c) = Ker.arg11 m c ∧ Ref.a12 (StableHlo.launchContents m' c) = Ker.arg12 m c ∧ Ref.a13 (StableHlo.launchContents m' c) = Ker.arg13 m c ∧ Ref.a14 (StableHlo.launchContents m' c) = Ker.arg14 m c ∧ Ref.a15 (StableHlo.launchContents m' c) = Ker.arg15 m c ∧ Ref.a16 (StableHlo.launchContents m' c) = Ker.arg16 m c := hargs c
    obtain ⟨e0, e1, e2, e3, e4, e5, e6, e7, e8, e9, e10, e11, e12, e13, e14, e15, e16⟩ := args
    unfold Ref.ins Ker.ins
    rw [e0, e1, e2, e3, e4, e5, e6, e7, e8, e9, e10, e11, e12, e13, e14, e15, e16]
  refine ⟨fun c => fun j : Cert.Kernel3Ideal.S12288x1024.Idx => (Ker.ins m c).normed (j 0) (j 1),
    fun c => fun j : Cert.Kernel3Ideal.S12288x1024.Idx => (Ker.ins m c).modulated (j 0) (j 1),
    fun c => fun j : Cert.Kernel3Ideal.S2048x12288.Idx => (Ker.ins m c).score (j 0) (j 1), ?_, ?_⟩
  · refine (θ_run (Cert.Kernel3Ideal.defs (F := Ideal)) _ _).mono (fun r h c => ?_) (Cert.Kernel3Ideal.Value.run_blocks m g)
    obtain ⟨h0, h1, h2, rest⟩ := h c
    exact ⟨h0.trans (Ker.normed_array m c), h1.trans (Ker.modulated_array m c), h2.trans (Ker.score_array m c), rest⟩
  · refine (θ_run (Cert.Reference3Ideal.defs (F := Ideal)) _ _).mono (fun r h c => ?_) (Cert.Reference3Ideal.Value.run m' g')
    obtain ⟨h0, h1, h2, rest⟩ := h c
    have x1 := Ref.x1_eq (StableHlo.launchContents m' c)
    have u2 := Ref.u2_eq (StableHlo.launchContents m' c)
    have st := Ref.st_eq (StableHlo.launchContents m' c)
    rw [same c] at x1 u2 st
    exact ⟨h0.trans x1, h1.trans u2, h2.trans st, rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Lat.preFacts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  IdealRules.named_const.statement Cert.KernelIdeal.κ "mask" .f32 0xF149F2CA#32 ⊥ rfl,
  value,
  trivial,
  value2,
  trivial,
  value3⟩

end Cert.Proof

end
